-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Guarded (m : (ℓ : Loc Cert.Guarded.nD Cert.Guarded.τ Cert.Guarded.sig) → Buf (Elt Bits) ℓ) : Prop :=
  True

def Pre_GuardedIdeal (m : (ℓ : Loc Cert.GuardedIdeal.nD Cert.GuardedIdeal.τ Cert.GuardedIdeal.sig) → Buf (Elt Ideal) ℓ) : Prop :=
  True

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Guarded [hGuarded : Cert.Guarded.Facts] : Prop :=
  ∀ (m : (ℓ : Loc Cert.Guarded.nD Cert.Guarded.τ Cert.Guarded.sig) → Buf (Elt Bits) ℓ) (g : Dev Cert.Guarded.nD → PrngReg), Pre_Guarded m →
    θ_run (Cert.Guarded.defs (F := Bits)) (Cert.Guarded.threads (F := Bits)) ⟨m, fun _ => 0, g⟩ (fun r => (∀ c : Dev Cert.Guarded.nD,
      r.2.mem ((c.tc : Thread Cert.Guarded.nD Cert.Guarded.τ).loc Cert.Guarded.main_arg0) = m ((c.tc : Thread Cert.Guarded.nD Cert.Guarded.τ).loc Cert.Guarded.main_arg0)
      ∧ r.2.mem ((c.tc : Thread Cert.Guarded.nD Cert.Guarded.τ).loc Cert.Guarded.main_arg1) = m ((c.tc : Thread Cert.Guarded.nD Cert.Guarded.τ).loc Cert.Guarded.main_arg1))
      ∧ r.2.sem = fun _ => 0)

def quiescent_GuardedIdeal [hGuardedIdeal : Cert.GuardedIdeal.Facts] : Prop :=
  ∀ (m : (ℓ : Loc Cert.GuardedIdeal.nD Cert.GuardedIdeal.τ Cert.GuardedIdeal.sig) → Buf (Elt Ideal) ℓ) (g : Dev Cert.GuardedIdeal.nD → PrngReg), Pre_GuardedIdeal m →
    θ_run (Cert.GuardedIdeal.defs (F := Ideal)) (Cert.GuardedIdeal.threads (F := Ideal)) ⟨m, fun _ => 0, g⟩ (fun r => (∀ c : Dev Cert.GuardedIdeal.nD,
      r.2.mem ((c.tc : Thread Cert.GuardedIdeal.nD Cert.GuardedIdeal.τ).loc Cert.GuardedIdeal.main_arg0) = m ((c.tc : Thread Cert.GuardedIdeal.nD Cert.GuardedIdeal.τ).loc Cert.GuardedIdeal.main_arg0)
      ∧ r.2.mem ((c.tc : Thread Cert.GuardedIdeal.nD Cert.GuardedIdeal.τ).loc Cert.GuardedIdeal.main_arg1) = m ((c.tc : Thread Cert.GuardedIdeal.nD Cert.GuardedIdeal.τ).loc Cert.GuardedIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v166) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Guarded_GuardedIdeal : Prop :=
  True

def algebraic_GuardedIdeal_ReferenceIdeal [hGuardedIdeal : Cert.GuardedIdeal.Facts] [hReferenceIdeal : Cert.ReferenceIdeal.Facts] : Prop :=
  ∀ (m : (ℓ : Loc Cert.GuardedIdeal.nD Cert.GuardedIdeal.τ Cert.GuardedIdeal.sig) → Buf (Elt Ideal) ℓ) (g : Dev Cert.GuardedIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_GuardedIdeal m →
    (∀ c : Dev Cert.GuardedIdeal.nD,
      m' ((c.tc : Thread Cert.ReferenceIdeal.nD Cert.ReferenceIdeal.τ).loc Cert.ReferenceIdeal.main_arg0) = m ((c.tc : Thread Cert.GuardedIdeal.nD Cert.GuardedIdeal.τ).loc Cert.GuardedIdeal.main_arg0)
      ∧ m' ((c.tc : Thread Cert.ReferenceIdeal.nD Cert.ReferenceIdeal.τ).loc Cert.ReferenceIdeal.main_arg1) = m ((c.tc : Thread Cert.GuardedIdeal.nD Cert.GuardedIdeal.τ).loc Cert.GuardedIdeal.main_arg1)) →
    ∃ (v0 : (c : Dev Cert.GuardedIdeal.nD) → Buf (Elt Ideal) ((c.tc : Thread Cert.GuardedIdeal.nD Cert.GuardedIdeal.τ).loc Cert.GuardedIdeal.main_v7)),
      θ_run (Cert.GuardedIdeal.defs (F := Ideal)) (Cert.GuardedIdeal.threads (F := Ideal)) ⟨m, fun _ => 0, g⟩ (fun r => ∀ c : Dev Cert.GuardedIdeal.nD,
          r.2.mem ((c.tc : Thread Cert.GuardedIdeal.nD Cert.GuardedIdeal.τ).loc Cert.GuardedIdeal.main_v7) = v0 c
          ∧ r.2.mem ((c.tc : Thread Cert.GuardedIdeal.nD Cert.GuardedIdeal.τ).loc Cert.GuardedIdeal.main_arg0) = m ((c.tc : Thread Cert.GuardedIdeal.nD Cert.GuardedIdeal.τ).loc Cert.GuardedIdeal.main_arg0)
          ∧ r.2.mem ((c.tc : Thread Cert.GuardedIdeal.nD Cert.GuardedIdeal.τ).loc Cert.GuardedIdeal.main_arg1) = m ((c.tc : Thread Cert.GuardedIdeal.nD Cert.GuardedIdeal.τ).loc Cert.GuardedIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v166) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hGuarded : Cert.Guarded.Facts) (hGuardedIdeal : Cert.GuardedIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ quiescent_Guarded (hGuarded := hGuarded)
    ∧ quiescent_GuardedIdeal (hGuardedIdeal := hGuardedIdeal)
    ∧ preserves_Kernel_KernelIdeal
    ∧ algebraic_KernelIdeal_ReferenceIdeal (hKernelIdeal := hKernelIdeal) (hReferenceIdeal := hReferenceIdeal) (hPre_in_range := hPre_in_range)
    ∧ preserves_Guarded_GuardedIdeal
    ∧ algebraic_GuardedIdeal_ReferenceIdeal (hGuardedIdeal := hGuardedIdeal) (hReferenceIdeal := hReferenceIdeal)
-- ==== Pre_in_range.lean ====
abbrev S4x96x224x224 : Shape := ⟨4, ![4, 96, 224, 224]⟩
abbrev S4x224x224x2 : Shape := ⟨4, ![4, 224, 224, 2]⟩
abbrev S16 : Shape := ⟨1, ![16]⟩
abbrev S1x16 : Shape := ⟨2, ![1, 16]⟩
abbrev S14 : Shape := ⟨1, ![14]⟩
abbrev S_ : Shape := ⟨0, ![]⟩
abbrev S14x1 : Shape := ⟨2, ![14, 1]⟩
abbrev S14x16 : Shape := ⟨2, ![14, 16]⟩
abbrev S224 : Shape := ⟨1, ![224]⟩
abbrev S1x1x224 : Shape := ⟨3, ![1, 1, 224]⟩
abbrev S4x224x224x1 : Shape := ⟨4, ![4, 224, 224, 1]⟩
abbrev S4x224x224 : Shape := ⟨3, ![4, 224, 224]⟩
abbrev S1x224x1 : Shape := ⟨3, ![1, 224, 1]⟩

class Facts : Prop where
  bcast_S16_S1x16_1 : S16.BroadcastsInDim S1x16 (![1] : Fin 1 → Fin S1x16.rank)
  bcast_S_S14 : S_.BroadcastsInDim S14 (![] : Fin 0 → Fin S14.rank)
  bcast_S14_S14x1_0 : S14.BroadcastsInDim S14x1 (![0] : Fin 1 → Fin S14x1.rank)
  bcast_S1x16_S14x16_0_1 : S1x16.BroadcastsInDim S14x16 (![0, 1] : Fin 2 → Fin S14x16.rank)
  bcast_S14x1_S14x16_0_1 : S14x1.BroadcastsInDim S14x16 (![0, 1] : Fin 2 → Fin S14x16.rank)
  shapeCasts_S14x16_S224 : S14x16.ShapeCasts S224
  bcast_S224_S1x1x224_2 : S224.BroadcastsInDim S1x1x224 (![2] : Fin 1 → Fin S1x1x224.rank)
  slices_S4x224x224x2_S4x224x224x1_0_0_0_0 : S4x224x224x2.Slices ![0, 0, 0, 0] S4x224x224x1
  shapeCasts_S4x224x224x1_S4x224x224 : S4x224x224x1.ShapeCasts S4x224x224
  bcast_S1x1x224_S4x224x224_0_1_2 : S1x1x224.BroadcastsInDim S4x224x224 (![0, 1, 2] : Fin 3 → Fin S4x224x224.rank)
  bcast_S_S4x224x224 : S_.BroadcastsInDim S4x224x224 (![] : Fin 0 → Fin S4x224x224.rank)
  bcast_S224_S1x224x1_1 : S224.BroadcastsInDim S1x224x1 (![1] : Fin 1 → Fin S1x224x1.rank)
  slices_S4x224x224x2_S4x224x224x1_0_0_0_1 : S4x224x224x2.Slices ![0, 0, 0, 1] S4x224x224x1
  bcast_S1x224x1_S4x224x224_0_1_2 : S1x224x1.BroadcastsInDim S4x224x224 (![0, 1, 2] : Fin 3 → Fin S4x224x224.rank)
  reducesTo_S4x224x224_S_d0_1_2 : S4x224x224.ReducesTo [0, 1, 2] S_
  h_S_ : 0 < S_.numel

variable [Facts]

def fn_clip {F : FTy → Type} [FloatOps F] (arg0 : FVec F S4x224x224 .f32) (arg1 : FVec F S_ .f32) (arg2 : FVec F S_ .f32) : FVec F S4x224x224 .f32 :=
  let v0 : FVec F S_ .f32 := id arg1
  let v1 : FVec F S4x224x224 .f32 := broadcastInDim S4x224x224 ![] bcast_S_S4x224x224 v0
  let v2 : FVec F S4x224x224 .f32 := maximumf v1 arg0
  let v3 : FVec F S_ .f32 := id arg2
  let v4 : FVec F S4x224x224 .f32 := broadcastInDim S4x224x224 ![] bcast_S_S4x224x224 v3
  let v5 : FVec F S4x224x224 .f32 := minimumf v4 v2
  v5

def fn_where {F : FTy → Type} [FloatOps F] (arg0 : IVec S4x224x224 1) (arg1 : IVec S4x224x224 32) (arg2 : IVec S4x224x224 32) : IVec S4x224x224 32 :=
  let v0 : IVec S4x224x224 32 := select arg0 arg1 arg2
  v0

def fn_part2 {F : FTy → Type} [FloatOps F] (main_v32 : IVec S4x224x224 32) (main_v39 : IVec S4x224x224 32) : IVec S_ 1 :=
  let main_v40 : IVec S4x224x224 32 := addi main_v39 main_v32
  let main_c_6 : IVec S_ 32 := constantI S_ 32 0#32
  let main_v41 : IVec S4x224x224 32 := broadcastInDim S4x224x224 ![] bcast_S_S4x224x224 main_c_6
  let main_v42 : IVec S4x224x224 1 := cmpi .sge main_v40 main_v41
  let main_c_7 : IVec S_ 32 := constantI S_ 32 49951#32
  let main_v43 : IVec S4x224x224 32 := broadcastInDim S4x224x224 ![] bcast_S_S4x224x224 main_c_7
  let main_v44 : IVec S4x224x224 1 := cmpi .slt main_v40 main_v43
  let main_v45 : IVec S4x224x224 1 := andi main_v42 main_v44
  let main_c_8 : IVec S_ 1 := constantI S_ 1 1#1
  let main_v46 : IVec S_ 1 := (fun x v => Host.reduce IntOp.andi x v reducesTo_S4x224x224_S_d0_1_2 h_S_) main_v45 main_c_8
  main_v46

def fn_part1 {F : FTy → Type} [FloatOps F] (main_arg1 : FVec F S4x224x224x2 .f32) (main_v17 : FVec F S4x224x224 .f32) (main_v20 : FVec F S1x224x1 .f32) : IVec S_ 1 :=
  let main_v21 : FVec F S4x224x224x1 .f32 := (extractStridedSlice S4x224x224x1 ![0, 0, 0, 1] · slices_S4x224x224x2_S4x224x224x1_0_0_0_1) main_arg1
  let main_v22 : FVec F S4x224x224 .f32 := shapeCast S4x224x224 main_v21 shapeCasts_S4x224x224x1_S4x224x224
  let main_v23 : FVec F S4x224x224 .f32 := broadcastInDim S4x224x224 ![0, 1, 2] bcast_S1x224x1_S4x224x224_0_1_2 main_v20
  let main_v24 : FVec F S4x224x224 .f32 := addf main_v23 main_v22
  let main_cst_1 : FVec F S_ .f32 := constant S_ .f32 0xC0000000#32
  let main_cst_2 : FVec F S_ .f32 := constant S_ .f32 0x43610000#32
  let main_v25 : FVec F S4x224x224 .f32 := fn_clip (F := F) main_v24 main_cst_1 main_cst_2
  let main_v26 : IVec S4x224x224 32 := fptosi 32 main_v17
  let main_v27 : IVec S4x224x224 32 := fptosi 32 main_v25
  let main_v28 : FVec F S4x224x224 .f32 := sitofp .f32 main_v26
  let main_v29 : IVec S4x224x224 1 := cmpf .olt main_v17 main_v28
  let main_c_3 : IVec S_ 32 := constantI S_ 32 1#32
  let main_v30 : IVec S4x224x224 32 := broadcastInDim S4x224x224 ![] bcast_S_S4x224x224 main_c_3
  let main_v31 : IVec S4x224x224 32 := subi main_v26 main_v30
  let main_v32 : IVec S4x224x224 32 := fn_where (F := F) main_v29 main_v31 main_v26
  let main_v33 : FVec F S4x224x224 .f32 := sitofp .f32 main_v27
  let main_v34 : IVec S4x224x224 1 := cmpf .olt main_v25 main_v33
  let main_c_4 : IVec S_ 32 := constantI S_ 32 1#32
  let main_v35 : IVec S4x224x224 32 := broadcastInDim S4x224x224 ![] bcast_S_S4x224x224 main_c_4
  let main_v36 : IVec S4x224x224 32 := subi main_v27 main_v35
  let main_v37 : IVec S4x224x224 32 := fn_where (F := F) main_v34 main_v36 main_v27
  let main_c_5 : IVec S_ 32 := constantI S_ 32 224#32
  let main_v38 : IVec S4x224x224 32 := broadcastInDim S4x224x224 ![] bcast_S_S4x224x224 main_c_5
  let main_v39 : IVec S4x224x224 32 := muli main_v37 main_v38
  fn_part2 (F := F) main_v32 main_v39

def fn {F : FTy → Type} [FloatOps F] (main_arg0 : FVec F S4x96x224x224 .f32) (main_arg1 : FVec F S4x224x224x2 .f32) : IVec S_ 1 :=
  let main_v0 : IVec S16 32 := iotaInDim S16 32 0
  let main_v1 : FVec F S16 .f32 := sitofp .f32 main_v0
  let main_v2 : FVec F S1x16 .f32 := broadcastInDim S1x16 ![1] bcast_S16_S1x16_1 main_v1
  let main_v3 : IVec S14 32 := iotaInDim S14 32 0
  let main_c : IVec S_ 32 := constantI S_ 32 16#32
  let main_v4 : IVec S14 32 := broadcastInDim S14 ![] bcast_S_S14 main_c
  let main_v5 : IVec S14 32 := muli main_v3 main_v4
  let main_v6 : FVec F S14 .f32 := sitofp .f32 main_v5
  let main_v7 : FVec F S14x1 .f32 := broadcastInDim S14x1 ![0] bcast_S14_S14x1_0 main_v6
  let main_v8 : FVec F S14x16 .f32 := broadcastInDim S14x16 ![0, 1] bcast_S1x16_S14x16_0_1 main_v2
  let main_v9 : FVec F S14x16 .f32 := broadcastInDim S14x16 ![0, 1] bcast_S14x1_S14x16_0_1 main_v7
  let main_v10 : FVec F S14x16 .f32 := addf main_v8 main_v9
  let main_v11 : FVec F S224 .f32 := shapeCast S224 main_v10 shapeCasts_S14x16_S224
  let main_v12 : FVec F S1x1x224 .f32 := broadcastInDim S1x1x224 ![2] bcast_S224_S1x1x224_2 main_v11
  let main_v13 : FVec F S4x224x224x1 .f32 := (extractStridedSlice S4x224x224x1 ![0, 0, 0, 0] · slices_S4x224x224x2_S4x224x224x1_0_0_0_0) main_arg1
  let main_v14 : FVec F S4x224x224 .f32 := shapeCast S4x224x224 main_v13 shapeCasts_S4x224x224x1_S4x224x224
  let main_v15 : FVec F S4x224x224 .f32 := broadcastInDim S4x224x224 ![0, 1, 2] bcast_S1x1x224_S4x224x224_0_1_2 main_v12
  let main_v16 : FVec F S4x224x224 .f32 := addf main_v15 main_v14
  let main_cst : FVec F S_ .f32 := constant S_ .f32 0xC0000000#32
  let main_cst_0 : FVec F S_ .f32 := constant S_ .f32 0x43610000#32
  let main_v17 : FVec F S4x224x224 .f32 := fn_clip (F := F) main_v16 main_cst main_cst_0
  let main_v18 : IVec S224 32 := iotaInDim S224 32 0
  let main_v19 : FVec F S224 .f32 := sitofp .f32 main_v18
  let main_v20 : FVec F S1x224x1 .f32 := broadcastInDim S1x224x1 ![1] bcast_S224_S1x224x1_1 main_v19
  fn_part1 (F := F) main_arg1 main_v17 main_v20
-- ==== Kernel.lean ====
abbrev S4x96x224x224 : Shape := ⟨4, ![4, 96, 224, 224]⟩
abbrev S4x224x224x2 : Shape := ⟨4, ![4, 224, 224, 2]⟩
abbrev S4x48x2x28x1792 : Shape := ⟨5, ![4, 48, 2, 28, 1792]⟩
abbrev S4x48x28x2x1792 : Shape := ⟨5, ![4, 48, 28, 2, 1792]⟩
abbrev S4x48x28x3584 : Shape := ⟨4, ![4, 48, 28, 3584]⟩
abbrev S4x28x1792x2 : Shape := ⟨4, ![4, 28, 1792, 2]⟩
abbrev S4x28x2x1792 : Shape := ⟨4, ![4, 28, 2, 1792]⟩
abbrev S4x28x3584 : Shape := ⟨3, ![4, 28, 3584]⟩
abbrev S4x4816896 : Shape := ⟨2, ![4, 4816896]⟩
abbrev S100352 : Shape := ⟨1, ![100352]⟩
abbrev S3584 : Shape := ⟨1, ![3584]⟩
abbrev S_ : Shape := ⟨0, ![]⟩
abbrev S16 : Shape := ⟨1, ![16]⟩
abbrev S1x1x1x3584 : Shape := ⟨4, ![1, 1, 1, 3584]⟩
abbrev S1x1x3584 : Shape := ⟨3, ![1, 1, 3584]⟩
abbrev S1x100352 : Shape := ⟨2, ![1, 100352]⟩

abbrev nBuf : Table → Nat
  | .hbm => 10
  | .local .scVector .vmem => 5
  | _ => 0

abbrev bufTy : (tb : Table) → Fin (nBuf tb) → BufTy
  | .hbm, ⟨0, _⟩ => ⟨S4x96x224x224, .f32⟩
  | .hbm, ⟨1, _⟩ => ⟨S4x224x224x2, .f32⟩
  | .hbm, ⟨2, _⟩ => ⟨S4x48x2x28x1792, .f32⟩
  | .hbm, ⟨3, _⟩ => ⟨S4x48x28x2x1792, .f32⟩
  | .hbm, ⟨4, _⟩ => ⟨S4x48x28x3584, .f32⟩
  | .hbm, ⟨5, _⟩ => ⟨S4x28x1792x2, .f32⟩
  | .hbm, ⟨6, _⟩ => ⟨S4x28x2x1792, .f32⟩
  | .hbm, ⟨7, _⟩ => ⟨S4x28x3584, .f32⟩
  | .hbm, ⟨8, _⟩ => ⟨S4x4816896, .f32⟩
  | .hbm, ⟨9, _⟩ => ⟨S4x96x224x224, .f32⟩
  | .local .scVector .vmem, ⟨0, _⟩ => ⟨S100352, .f32⟩
  | .local .scVector .vmem, ⟨1, _⟩ => ⟨S3584, .f32⟩
  | .local .scVector .vmem, ⟨2, _⟩ => ⟨S3584, .f32⟩
  | .local .scVector .vmem, ⟨3, _⟩ => ⟨S3584, .f32⟩
  | .local .scVector .vmem, ⟨4, _⟩ => ⟨S3584, .f32⟩
  | _, _ => ⟨S4x96x224x224, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 5 → Bool
  | ⟨0, _⟩ => false
  | ⟨1, _⟩ => false
  | ⟨2, _⟩ => false
  | ⟨3, _⟩ => false
  | ⟨4, _⟩ => false
  | _ => false

abbrev sig : RefSig :=
  ofTables nBuf rfl bufTy 4 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v2_scv : Ref sig .scVector := ⟨.hbm, 4, rfl⟩
abbrev main_v5_scv : Ref sig .scVector := ⟨.hbm, 7, rfl⟩
abbrev main_v6_scv : Ref sig .scVector := ⟨.hbm, 8, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_0 : BitVec 32 := 0#32
  let c6_i32 : BitVec 32 := 6#32
  let v5 : BitVec 32 := Scalar.addi c0_i32_0 c6_i32
  let c1_i32 : BitVec 32 := 1#32
  ⟨c0_i32_0, v5, c1_i32⟩
def k0_off1 (i : grid0.Coords) (k0_t1 : Fin k0_t1_loop.trips) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6_i32_2 : BitVec 32 := 6#32
  let v6 : BitVec 32 := Scalar.muli v1 c6_i32_2
  let c0_i32_0 : BitVec 32 := 0#32
  let c1_i32 : BitVec 32 := 1#32
  let arg14 : BitVec 32 := Scf.iv c0_i32_0 c1_i32 k0_t1
  let v7 : BitVec 32 := Scalar.addi v6 arg14
  let c0_i32_3 : BitVec 32 := 0#32
  let v9 : BitVec 1 := Scalar.cmpi .sgt v7 c0_i32_3
  let v10 : BitVec 32 := Scalar.extui v9
  let c0_i32_4 : BitVec 32 := 0#32
  let v11 : BitVec 1 := Scalar.cmpi .slt v7 c0_i32_4
  let v12 : BitVec 32 := Scalar.extui v11
  let v13 : BitVec 32 := Scalar.subi v10 v12
  let c48_i32 : BitVec 32 := 48#32
  let c0_i32_5 : BitVec 32 := 0#32
  let v14 : BitVec 1 := Scalar.cmpi .sgt c48_i32 c0_i32_5
  let v15 : BitVec 32 := Scalar.extui v14
  let c0_i32_6 : BitVec 32 := 0#32
  let v16 : BitVec 1 := Scalar.cmpi .slt c48_i32 c0_i32_6
  let v17 : BitVec 32 := Scalar.extui v16
  let v18 : BitVec 32 := Scalar.subi v15 v17
  let v19 : BitVec 1 := Scalar.cmpi .ne v13 v18
  let v20 : BitVec 32 := Scalar.remsi v7 c48_i32
  let c0_i32_7 : BitVec 32 := 0#32
  let v21 : BitVec 1 := Scalar.cmpi .ne v20 c0_i32_7
  let v22 : BitVec 1 := Scalar.andi v19 v21
  let v8 : BitVec 32 := Scalar.divsi v7 c48_i32
  let c1_i32_8 : BitVec 32 := 1#32
  let v23 : BitVec 32 := Scalar.subi v8 c1_i32_8
  let v24 : BitVec 32 := Scalar.select v22 v23 v8
  let c48_i32_9 : BitVec 32 := 48#32
  let c0_i32_10 : BitVec 32 := 0#32
  let v25 : BitVec 1 := Scalar.cmpi .eq c48_i32_9 c0_i32_10
  let c1_i32_11 : BitVec 32 := 1#32
  let v26 : BitVec 32 := Scalar.select v25 c1_i32_11 c48_i32_9
  let v27 : BitVec 32 := Scalar.remsi v7 v26
  let c0_i32_13 : BitVec 32 := 0#32
  let v29 : BitVec 1 := Scalar.cmpi .slt v27 c0_i32_13
  let c0_i32_14 : BitVec 32 := 0#32
  let v30 : BitVec 1 := Scalar.cmpi .slt v26 c0_i32_14
  let v31 : BitVec 1 := Scalar.xori v29 v30
  let c0_i32_12 : BitVec 32 := 0#32
  let v28 : BitVec 1 := Scalar.cmpi .ne v27 c0_i32_12
  let v32 : BitVec 1 := Scalar.andi v31 v28
  let v33 : BitVec 32 := Scalar.addi v27 v26
  let v34 : BitVec 32 := Scalar.select v32 v33 v27
  let c0_i32_15 : BitVec 32 := 0#32
  let c0_i32_16 : BitVec 32 := 0#32
  ![v24.toNat, v34.toNat, 0, 0]
def k0_off2 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6_i32_2 : BitVec 32 := 6#32
  let v6 : BitVec 32 := Scalar.muli v1 c6_i32_2
  let c0_i32_0 : BitVec 32 := 0#32
  let c1_i32 : BitVec 32 := 1#32
  let arg14 : BitVec 32 := Scf.iv c0_i32_0 c1_i32 k0_t1
  let v7 : BitVec 32 := Scalar.addi v6 arg14
  let c0_i32_3 : BitVec 32 := 0#32
  let v9 : BitVec 1 := Scalar.cmpi .sgt v7 c0_i32_3
  let v10 : BitVec 32 := Scalar.extui v9
  let c0_i32_4 : BitVec 32 := 0#32
  let v11 : BitVec 1 := Scalar.cmpi .slt v7 c0_i32_4
  let v12 : BitVec 32 := Scalar.extui v11
  let v13 : BitVec 32 := Scalar.subi v10 v12
  let c48_i32 : BitVec 32 := 48#32
  let c0_i32_5 : BitVec 32 := 0#32
  let v14 : BitVec 1 := Scalar.cmpi .sgt c48_i32 c0_i32_5
  let v15 : BitVec 32 := Scalar.extui v14
  let c0_i32_6 : BitVec 32 := 0#32
  let v16 : BitVec 1 := Scalar.cmpi .slt c48_i32 c0_i32_6
  let v17 : BitVec 32 := Scalar.extui v16
  let v18 : BitVec 32 := Scalar.subi v15 v17
  let v19 : BitVec 1 := Scalar.cmpi .ne v13 v18
  let v20 : BitVec 32 := Scalar.remsi v7 c48_i32
  let c0_i32_7 : BitVec 32 := 0#32
  let v21 : BitVec 1 := Scalar.cmpi .ne v20 c0_i32_7
  let v22 : BitVec 1 := Scalar.andi v19 v21
  let v8 : BitVec 32 := Scalar.divsi v7 c48_i32
  let c1_i32_8 : BitVec 32 := 1#32
  let v23 : BitVec 32 := Scalar.subi v8 c1_i32_8
  let v24 : BitVec 32 := Scalar.select v22 v23 v8
  let c0_i32_18 : BitVec 32 := 0#32
  let c0_i32_19 : BitVec 32 := 0#32
  ![v24.toNat, 0, 0]
@[reducible] def k0_t2_loop : Scf.Loop 32 :=
  let c0_i32_22 : BitVec 32 := 0#32
  let c6272_i32 : BitVec 32 := 6272#32
  let v43 : BitVec 32 := Scalar.addi c0_i32_22 c6272_i32
  let c1_i32_23 : BitVec 32 := 1#32
  ⟨c0_i32_22, v43, c1_i32_23⟩
def k0_off3 (k0_t2 : Fin k0_t2_loop.trips) : Fin 1 → Nat :=
  let c0_i32_22 : BitVec 32 := 0#32
  let c1_i32_23 : BitVec 32 := 1#32
  let arg15 : BitVec 32 := Scf.iv c0_i32_22 c1_i32_23 k0_t2
  let c16_i32 : BitVec 32 := 16#32
  let v55 : BitVec 32 := Scalar.muli arg15 c16_i32
  let v56 : Index := Scalar.indexCast v55
  ![v56.toNat]
@[reducible] def k0_t3_loop : Scf.Loop 32 :=
  let c0_i32_26 : BitVec 32 := 0#32
  let c14_i32 : BitVec 32 := 14#32
  let v44 : BitVec 32 := Scalar.addi c0_i32_26 c14_i32
  let c1_i32_27 : BitVec 32 := 1#32
  ⟨c0_i32_26, v44, c1_i32_27⟩
def k0_off4 (i : grid0.Coords) (k0_t1 : Fin k0_t1_loop.trips) (k0_t3 : Fin k0_t3_loop.trips) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6_i32_2 : BitVec 32 := 6#32
  let v6 : BitVec 32 := Scalar.muli v1 c6_i32_2
  let c0_i32_0 : BitVec 32 := 0#32
  let c1_i32 : BitVec 32 := 1#32
  let arg14 : BitVec 32 := Scf.iv c0_i32_0 c1_i32 k0_t1
  let v7 : BitVec 32 := Scalar.addi v6 arg14
  let c0_i32_3 : BitVec 32 := 0#32
  let v9 : BitVec 1 := Scalar.cmpi .sgt v7 c0_i32_3
  let v10 : BitVec 32 := Scalar.extui v9
  let c0_i32_4 : BitVec 32 := 0#32
  let v11 : BitVec 1 := Scalar.cmpi .slt v7 c0_i32_4
  let v12 : BitVec 32 := Scalar.extui v11
  let v13 : BitVec 32 := Scalar.subi v10 v12
  let c48_i32 : BitVec 32 := 48#32
  let c0_i32_5 : BitVec 32 := 0#32
  let v14 : BitVec 1 := Scalar.cmpi .sgt c48_i32 c0_i32_5
  let v15 : BitVec 32 := Scalar.extui v14
  let c0_i32_6 : BitVec 32 := 0#32
  let v16 : BitVec 1 := Scalar.cmpi .slt c48_i32 c0_i32_6
  let v17 : BitVec 32 := Scalar.extui v16
  let v18 : BitVec 32 := Scalar.subi v15 v17
  let v19 : BitVec 1 := Scalar.cmpi .ne v13 v18
  let v20 : BitVec 32 := Scalar.remsi v7 c48_i32
  let c0_i32_7 : BitVec 32 := 0#32
  let v21 : BitVec 1 := Scalar.cmpi .ne v20 c0_i32_7
  let v22 : BitVec 1 := Scalar.andi v19 v21
  let v8 : BitVec 32 := Scalar.divsi v7 c48_i32
  let c1_i32_8 : BitVec 32 := 1#32
  let v23 : BitVec 32 := Scalar.subi v8 c1_i32_8
  let v24 : BitVec 32 := Scalar.select v22 v23 v8
  let c48_i32_9 : BitVec 32 := 48#32
  let c0_i32_10 : BitVec 32 := 0#32
  let v25 : BitVec 1 := Scalar.cmpi .eq c48_i32_9 c0_i32_10
  let c1_i32_11 : BitVec 32 := 1#32
  let v26 : BitVec 32 := Scalar.select v25 c1_i32_11 c48_i32_9
  let v27 : BitVec 32 := Scalar.remsi v7 v26
  let c0_i32_13 : BitVec 32 := 0#32
  let v29 : BitVec 1 := Scalar.cmpi .slt v27 c0_i32_13
  let c0_i32_14 : BitVec 32 := 0#32
  let v30 : BitVec 1 := Scalar.cmpi .slt v26 c0_i32_14
  let v31 : BitVec 1 := Scalar.xori v29 v30
  let c0_i32_12 : BitVec 32 := 0#32
  let v28 : BitVec 1 := Scalar.cmpi .ne v27 c0_i32_12
  let v32 : BitVec 1 := Scalar.andi v31 v28
  let v33 : BitVec 32 := Scalar.addi v27 v26
  let v34 : BitVec 32 := Scalar.select v32 v33 v27
  let c2_i32_40 : BitVec 32 := 2#32
  let c0_i32_26 : BitVec 32 := 0#32
  let c1_i32_27 : BitVec 32 := 1#32
  let arg15 : BitVec 32 := Scf.iv c0_i32_26 c1_i32_27 k0_t3
  let v56 : BitVec 32 := Scalar.muli c2_i32_40 arg15
  let c1_i32_41 : BitVec 32 := 1#32
  let v57 : BitVec 32 := Scalar.addi v56 c1_i32_41
  let c0_i32_53 : BitVec 32 := 0#32
  ![v24.toNat, v34.toNat, v57.toNat, 0]
def k0_off5 (i : grid0.Coords) (k0_t1 : Fin k0_t1_loop.trips) (k0_t3 : Fin k0_t3_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6_i32_2 : BitVec 32 := 6#32
  let v6 : BitVec 32 := Scalar.muli v1 c6_i32_2
  let c0_i32_0 : BitVec 32 := 0#32
  let c1_i32 : BitVec 32 := 1#32
  let arg14 : BitVec 32 := Scf.iv c0_i32_0 c1_i32 k0_t1
  let v7 : BitVec 32 := Scalar.addi v6 arg14
  let c0_i32_3 : BitVec 32 := 0#32
  let v9 : BitVec 1 := Scalar.cmpi .sgt v7 c0_i32_3
  let v10 : BitVec 32 := Scalar.extui v9
  let c0_i32_4 : BitVec 32 := 0#32
  let v11 : BitVec 1 := Scalar.cmpi .slt v7 c0_i32_4
  let v12 : BitVec 32 := Scalar.extui v11
  let v13 : BitVec 32 := Scalar.subi v10 v12
  let c48_i32 : BitVec 32 := 48#32
  let c0_i32_5 : BitVec 32 := 0#32
  let v14 : BitVec 1 := Scalar.cmpi .sgt c48_i32 c0_i32_5
  let v15 : BitVec 32 := Scalar.extui v14
  let c0_i32_6 : BitVec 32 := 0#32
  let v16 : BitVec 1 := Scalar.cmpi .slt c48_i32 c0_i32_6
  let v17 : BitVec 32 := Scalar.extui v16
  let v18 : BitVec 32 := Scalar.subi v15 v17
  let v19 : BitVec 1 := Scalar.cmpi .ne v13 v18
  let v20 : BitVec 32 := Scalar.remsi v7 c48_i32
  let c0_i32_7 : BitVec 32 := 0#32
  let v21 : BitVec 1 := Scalar.cmpi .ne v20 c0_i32_7
  let v22 : BitVec 1 := Scalar.andi v19 v21
  let v8 : BitVec 32 := Scalar.divsi v7 c48_i32
  let c1_i32_8 : BitVec 32 := 1#32
  let v23 : BitVec 32 := Scalar.subi v8 c1_i32_8
  let v24 : BitVec 32 := Scalar.select v22 v23 v8
  let c2_i32_40 : BitVec 32 := 2#32
  let c0_i32_26 : BitVec 32 := 0#32
  let c1_i32_27 : BitVec 32 := 1#32
  let arg15 : BitVec 32 := Scf.iv c0_i32_26 c1_i32_27 k0_t3
  let v56 : BitVec 32 := Scalar.muli c2_i32_40 arg15
  let c1_i32_41 : BitVec 32 := 1#32
  let v57 : BitVec 32 := Scalar.addi v56 c1_i32_41
  let c0_i32_55 : BitVec 32 := 0#32
  ![v24.toNat, v57.toNat, 0]
@[reducible] def k0_t4_loop : Scf.Loop 32 :=
  let c0_i32_58 : BitVec 32 := 0#32
  let c8_i32 : BitVec 32 := 8#32
  let v77 : BitVec 32 := Scalar.addi c0_i32_58 c8_i32
  let c1_i32_59 : BitVec 32 := 1#32
  ⟨c0_i32_58, v77, c1_i32_59⟩
@[reducible] def k0_t5_loop : Scf.Loop 32 :=
  let c0_i32_80 : BitVec 32 := 0#32
  let c14_i32_81 : BitVec 32 := 14#32
  let v98 : BitVec 32 := Scalar.addi c0_i32_80 c14_i32_81
  let c1_i32_82 : BitVec 32 := 1#32
  ⟨c0_i32_80, v98, c1_i32_82⟩
def k0_off6 (k0_t4 : Fin k0_t4_loop.trips) (k0_t5 : Fin k0_t5_loop.trips) : Fin 1 → Nat :=
  let c0_i32_58 : BitVec 32 := 0#32
  let c1_i32_59 : BitVec 32 := 1#32
  let arg16 : BitVec 32 := Scf.iv c0_i32_58 c1_i32_59 k0_t4
  let c224_i32 : BitVec 32 := 224#32
  let v99 : BitVec 32 := Scalar.muli arg16 c224_i32
  let c0_i32_80 : BitVec 32 := 0#32
  let c1_i32_82 : BitVec 32 := 1#32
  let arg17 : BitVec 32 := Scf.iv c0_i32_80 c1_i32_82 k0_t5
  let c16_i32 : BitVec 32 := 16#32
  let v100 : BitVec 32 := Scalar.muli arg17 c16_i32
  let v101 : BitVec 32 := Scalar.addi v99 v100
  let v102 : Index := Scalar.indexCast v101
  ![v102.toNat]
def k0_off7 (k0_t4 : Fin k0_t4_loop.trips) (k0_t5 : Fin k0_t5_loop.trips) : Fin 1 → Nat :=
  let c1792_i32 : BitVec 32 := 1792#32
  let c0_i32_58 : BitVec 32 := 0#32
  let c1_i32_59 : BitVec 32 := 1#32
  let arg16 : BitVec 32 := Scf.iv c0_i32_58 c1_i32_59 k0_t4
  let c224_i32 : BitVec 32 := 224#32
  let v99 : BitVec 32 := Scalar.muli arg16 c224_i32
  let c0_i32_80 : BitVec 32 := 0#32
  let c1_i32_82 : BitVec 32 := 1#32
  let arg17 : BitVec 32 := Scf.iv c0_i32_80 c1_i32_82 k0_t5
  let c16_i32 : BitVec 32 := 16#32
  let v100 : BitVec 32 := Scalar.muli arg17 c16_i32
  let v101 : BitVec 32 := Scalar.addi v99 v100
  let v104 : BitVec 32 := Scalar.addi c1792_i32 v101
  let v105 : Index := Scalar.indexCast v104
  ![v105.toNat]

def k0_chk1 (v170 : IVec S16 32) : Prop :=
  (∀ a x, ((![v170] : Fin 1 → IVec S16 32) a x).toNat < S100352.size a)
theorem k0_idx1_inb : ∀ (v170 : IVec S16 32) (k0_hw1 : k0_chk1 v170), ∀ a x, ((![v170] : Fin 1 → IVec S16 32) a x).toNat < S100352.size a := fun v170 k0_hw1 => k0_hw1

def k0_chk2 (v194 : IVec S16 32) : Prop :=
  (∀ a x, ((![v194] : Fin 1 → IVec S16 32) a x).toNat < S100352.size a)
theorem k0_idx2_inb : ∀ (v194 : IVec S16 32) (k0_hw2 : k0_chk2 v194), ∀ a x, ((![v194] : Fin 1 → IVec S16 32) a x).toNat < S100352.size a := fun v194 k0_hw2 => k0_hw2

def k0_chk3 (v179 : IVec S16 32) : Prop :=
  (∀ a x, ((![v179] : Fin 1 → IVec S16 32) a x).toNat < S100352.size a)
theorem k0_idx3_inb : ∀ (v179 : IVec S16 32) (k0_hw3 : k0_chk3 v179), ∀ a x, ((![v179] : Fin 1 → IVec S16 32) a x).toNat < S100352.size a := fun v179 k0_hw3 => k0_hw3

def k0_chk4 (v198 : IVec S16 32) : Prop :=
  (∀ a x, ((![v198] : Fin 1 → IVec S16 32) a x).toNat < S100352.size a)
theorem k0_idx4_inb : ∀ (v198 : IVec S16 32) (k0_hw4 : k0_chk4 v198), ∀ a x, ((![v198] : Fin 1 → IVec S16 32) a x).toNat < S100352.size a := fun v198 k0_hw4 => k0_hw4

def k0_chk5 (v183 : IVec S16 32) : Prop :=
  (∀ a x, ((![v183] : Fin 1 → IVec S16 32) a x).toNat < S100352.size a)
theorem k0_idx5_inb : ∀ (v183 : IVec S16 32) (k0_hw5 : k0_chk5 v183), ∀ a x, ((![v183] : Fin 1 → IVec S16 32) a x).toNat < S100352.size a := fun v183 k0_hw5 => k0_hw5

def k0_chk6 (v202 : IVec S16 32) : Prop :=
  (∀ a x, ((![v202] : Fin 1 → IVec S16 32) a x).toNat < S100352.size a)
theorem k0_idx6_inb : ∀ (v202 : IVec S16 32) (k0_hw6 : k0_chk6 v202), ∀ a x, ((![v202] : Fin 1 → IVec S16 32) a x).toNat < S100352.size a := fun v202 k0_hw6 => k0_hw6

def k0_chk7 (v189 : IVec S16 32) : Prop :=
  (∀ a x, ((![v189] : Fin 1 → IVec S16 32) a x).toNat < S100352.size a)
theorem k0_idx7_inb : ∀ (v189 : IVec S16 32) (k0_hw7 : k0_chk7 v189), ∀ a x, ((![v189] : Fin 1 → IVec S16 32) a x).toNat < S100352.size a := fun v189 k0_hw7 => k0_hw7

def k0_chk8 (v206 : IVec S16 32) : Prop :=
  (∀ a x, ((![v206] : Fin 1 → IVec S16 32) a x).toNat < S100352.size a)
theorem k0_idx8_inb : ∀ (v206 : IVec S16 32) (k0_hw8 : k0_chk8 v206), ∀ a x, ((![v206] : Fin 1 → IVec S16 32) a x).toNat < S100352.size a := fun v206 k0_hw8 => k0_hw8
def k0_off8 (i : grid0.Coords) (k0_t1 : Fin k0_t1_loop.trips) (k0_t3 : Fin k0_t3_loop.trips) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6_i32_2 : BitVec 32 := 6#32
  let v6 : BitVec 32 := Scalar.muli v1 c6_i32_2
  let c0_i32_0 : BitVec 32 := 0#32
  let c1_i32 : BitVec 32 := 1#32
  let arg14 : BitVec 32 := Scf.iv c0_i32_0 c1_i32 k0_t1
  let v7 : BitVec 32 := Scalar.addi v6 arg14
  let c0_i32_3 : BitVec 32 := 0#32
  let v9 : BitVec 1 := Scalar.cmpi .sgt v7 c0_i32_3
  let v10 : BitVec 32 := Scalar.extui v9
  let c0_i32_4 : BitVec 32 := 0#32
  let v11 : BitVec 1 := Scalar.cmpi .slt v7 c0_i32_4
  let v12 : BitVec 32 := Scalar.extui v11
  let v13 : BitVec 32 := Scalar.subi v10 v12
  let c48_i32 : BitVec 32 := 48#32
  let c0_i32_5 : BitVec 32 := 0#32
  let v14 : BitVec 1 := Scalar.cmpi .sgt c48_i32 c0_i32_5
  let v15 : BitVec 32 := Scalar.extui v14
  let c0_i32_6 : BitVec 32 := 0#32
  let v16 : BitVec 1 := Scalar.cmpi .slt c48_i32 c0_i32_6
  let v17 : BitVec 32 := Scalar.extui v16
  let v18 : BitVec 32 := Scalar.subi v15 v17
  let v19 : BitVec 1 := Scalar.cmpi .ne v13 v18
  let v20 : BitVec 32 := Scalar.remsi v7 c48_i32
  let c0_i32_7 : BitVec 32 := 0#32
  let v21 : BitVec 1 := Scalar.cmpi .ne v20 c0_i32_7
  let v22 : BitVec 1 := Scalar.andi v19 v21
  let v8 : BitVec 32 := Scalar.divsi v7 c48_i32
  let c1_i32_8 : BitVec 32 := 1#32
  let v23 : BitVec 32 := Scalar.subi v8 c1_i32_8
  let v24 : BitVec 32 := Scalar.select v22 v23 v8
  let c48_i32_9 : BitVec 32 := 48#32
  let c0_i32_10 : BitVec 32 := 0#32
  let v25 : BitVec 1 := Scalar.cmpi .eq c48_i32_9 c0_i32_10
  let c1_i32_11 : BitVec 32 := 1#32
  let v26 : BitVec 32 := Scalar.select v25 c1_i32_11 c48_i32_9
  let v27 : BitVec 32 := Scalar.remsi v7 v26
  let c0_i32_13 : BitVec 32 := 0#32
  let v29 : BitVec 1 := Scalar.cmpi .slt v27 c0_i32_13
  let c0_i32_14 : BitVec 32 := 0#32
  let v30 : BitVec 1 := Scalar.cmpi .slt v26 c0_i32_14
  let v31 : BitVec 1 := Scalar.xori v29 v30
  let c0_i32_12 : BitVec 32 := 0#32
  let v28 : BitVec 1 := Scalar.cmpi .ne v27 c0_i32_12
  let v32 : BitVec 1 := Scalar.andi v31 v28
  let v33 : BitVec 32 := Scalar.addi v27 v26
  let v34 : BitVec 32 := Scalar.select v32 v33 v27
  let c2_i32_42 : BitVec 32 := 2#32
  let c0_i32_26 : BitVec 32 := 0#32
  let c1_i32_27 : BitVec 32 := 1#32
  let arg15 : BitVec 32 := Scf.iv c0_i32_26 c1_i32_27 k0_t3
  let v58 : BitVec 32 := Scalar.muli c2_i32_42 arg15
  let c2_i32_43 : BitVec 32 := 2#32
  let v59 : BitVec 32 := Scalar.addi v58 c2_i32_43
  let c28_i32 : BitVec 32 := 28#32
  let v60 : BitVec 32 := Scalar.remsi v59 c28_i32
  let c0_i32_61 : BitVec 32 := 0#32
  ![v24.toNat, v34.toNat, v60.toNat, 0]
def k0_off9 (i : grid0.Coords) (k0_t1 : Fin k0_t1_loop.trips) (k0_t3 : Fin k0_t3_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6_i32_2 : BitVec 32 := 6#32
  let v6 : BitVec 32 := Scalar.muli v1 c6_i32_2
  let c0_i32_0 : BitVec 32 := 0#32
  let c1_i32 : BitVec 32 := 1#32
  let arg14 : BitVec 32 := Scf.iv c0_i32_0 c1_i32 k0_t1
  let v7 : BitVec 32 := Scalar.addi v6 arg14
  let c0_i32_3 : BitVec 32 := 0#32
  let v9 : BitVec 1 := Scalar.cmpi .sgt v7 c0_i32_3
  let v10 : BitVec 32 := Scalar.extui v9
  let c0_i32_4 : BitVec 32 := 0#32
  let v11 : BitVec 1 := Scalar.cmpi .slt v7 c0_i32_4
  let v12 : BitVec 32 := Scalar.extui v11
  let v13 : BitVec 32 := Scalar.subi v10 v12
  let c48_i32 : BitVec 32 := 48#32
  let c0_i32_5 : BitVec 32 := 0#32
  let v14 : BitVec 1 := Scalar.cmpi .sgt c48_i32 c0_i32_5
  let v15 : BitVec 32 := Scalar.extui v14
  let c0_i32_6 : BitVec 32 := 0#32
  let v16 : BitVec 1 := Scalar.cmpi .slt c48_i32 c0_i32_6
  let v17 : BitVec 32 := Scalar.extui v16
  let v18 : BitVec 32 := Scalar.subi v15 v17
  let v19 : BitVec 1 := Scalar.cmpi .ne v13 v18
  let v20 : BitVec 32 := Scalar.remsi v7 c48_i32
  let c0_i32_7 : BitVec 32 := 0#32
  let v21 : BitVec 1 := Scalar.cmpi .ne v20 c0_i32_7
  let v22 : BitVec 1 := Scalar.andi v19 v21
  let v8 : BitVec 32 := Scalar.divsi v7 c48_i32
  let c1_i32_8 : BitVec 32 := 1#32
  let v23 : BitVec 32 := Scalar.subi v8 c1_i32_8
  let v24 : BitVec 32 := Scalar.select v22 v23 v8
  let c2_i32_42 : BitVec 32 := 2#32
  let c0_i32_26 : BitVec 32 := 0#32
  let c1_i32_27 : BitVec 32 := 1#32
  let arg15 : BitVec 32 := Scf.iv c0_i32_26 c1_i32_27 k0_t3
  let v58 : BitVec 32 := Scalar.muli c2_i32_42 arg15
  let c2_i32_43 : BitVec 32 := 2#32
  let v59 : BitVec 32 := Scalar.addi v58 c2_i32_43
  let c28_i32 : BitVec 32 := 28#32
  let v60 : BitVec 32 := Scalar.remsi v59 c28_i32
  let c0_i32_63 : BitVec 32 := 0#32
  ![v24.toNat, v60.toNat, 0]
@[reducible] def k0_t6_loop : Scf.Loop 32 :=
  let c0_i32_75 : BitVec 32 := 0#32
  let c8_i32_76 : BitVec 32 := 8#32
  let v94 : BitVec 32 := Scalar.addi c0_i32_75 c8_i32_76
  let c1_i32_77 : BitVec 32 := 1#32
  ⟨c0_i32_75, v94, c1_i32_77⟩
@[reducible] def k0_t7_loop : Scf.Loop 32 :=
  let c0_i32_80 : BitVec 32 := 0#32
  let c14_i32_81 : BitVec 32 := 14#32
  let v98 : BitVec 32 := Scalar.addi c0_i32_80 c14_i32_81
  let c1_i32_82 : BitVec 32 := 1#32
  ⟨c0_i32_80, v98, c1_i32_82⟩
def k0_off10 (k0_t6 : Fin k0_t6_loop.trips) (k0_t7 : Fin k0_t7_loop.trips) : Fin 1 → Nat :=
  let c0_i32_75 : BitVec 32 := 0#32
  let c1_i32_77 : BitVec 32 := 1#32
  let arg16 : BitVec 32 := Scf.iv c0_i32_75 c1_i32_77 k0_t6
  let c224_i32 : BitVec 32 := 224#32
  let v99 : BitVec 32 := Scalar.muli arg16 c224_i32
  let c0_i32_80 : BitVec 32 := 0#32
  let c1_i32_82 : BitVec 32 := 1#32
  let arg17 : BitVec 32 := Scf.iv c0_i32_80 c1_i32_82 k0_t7
  let c16_i32 : BitVec 32 := 16#32
  let v100 : BitVec 32 := Scalar.muli arg17 c16_i32
  let v101 : BitVec 32 := Scalar.addi v99 v100
  let v102 : Index := Scalar.indexCast v101
  ![v102.toNat]
def k0_off11 (k0_t6 : Fin k0_t6_loop.trips) (k0_t7 : Fin k0_t7_loop.trips) : Fin 1 → Nat :=
  let c1792_i32 : BitVec 32 := 1792#32
  let c0_i32_75 : BitVec 32 := 0#32
  let c1_i32_77 : BitVec 32 := 1#32
  let arg16 : BitVec 32 := Scf.iv c0_i32_75 c1_i32_77 k0_t6
  let c224_i32 : BitVec 32 := 224#32
  let v99 : BitVec 32 := Scalar.muli arg16 c224_i32
  let c0_i32_80 : BitVec 32 := 0#32
  let c1_i32_82 : BitVec 32 := 1#32
  let arg17 : BitVec 32 := Scf.iv c0_i32_80 c1_i32_82 k0_t7
  let c16_i32 : BitVec 32 := 16#32
  let v100 : BitVec 32 := Scalar.muli arg17 c16_i32
  let v101 : BitVec 32 := Scalar.addi v99 v100
  let v104 : BitVec 32 := Scalar.addi c1792_i32 v101
  let v105 : Index := Scalar.indexCast v104
  ![v105.toNat]

def k0_chk9 (v170 : IVec S16 32) : Prop :=
  (∀ a x, ((![v170] : Fin 1 → IVec S16 32) a x).toNat < S100352.size a)
theorem k0_idx9_inb : ∀ (v170 : IVec S16 32) (k0_hw9 : k0_chk9 v170), ∀ a x, ((![v170] : Fin 1 → IVec S16 32) a x).toNat < S100352.size a := fun v170 k0_hw9 => k0_hw9

def k0_chk10 (v194 : IVec S16 32) : Prop :=
  (∀ a x, ((![v194] : Fin 1 → IVec S16 32) a x).toNat < S100352.size a)
theorem k0_idx10_inb : ∀ (v194 : IVec S16 32) (k0_hw10 : k0_chk10 v194), ∀ a x, ((![v194] : Fin 1 → IVec S16 32) a x).toNat < S100352.size a := fun v194 k0_hw10 => k0_hw10

def k0_chk11 (v179 : IVec S16 32) : Prop :=
  (∀ a x, ((![v179] : Fin 1 → IVec S16 32) a x).toNat < S100352.size a)
theorem k0_idx11_inb : ∀ (v179 : IVec S16 32) (k0_hw11 : k0_chk11 v179), ∀ a x, ((![v179] : Fin 1 → IVec S16 32) a x).toNat < S100352.size a := fun v179 k0_hw11 => k0_hw11

def k0_chk12 (v198 : IVec S16 32) : Prop :=
  (∀ a x, ((![v198] : Fin 1 → IVec S16 32) a x).toNat < S100352.size a)
theorem k0_idx12_inb : ∀ (v198 : IVec S16 32) (k0_hw12 : k0_chk12 v198), ∀ a x, ((![v198] : Fin 1 → IVec S16 32) a x).toNat < S100352.size a := fun v198 k0_hw12 => k0_hw12

def k0_chk13 (v183 : IVec S16 32) : Prop :=
  (∀ a x, ((![v183] : Fin 1 → IVec S16 32) a x).toNat < S100352.size a)
theorem k0_idx13_inb : ∀ (v183 : IVec S16 32) (k0_hw13 : k0_chk13 v183), ∀ a x, ((![v183] : Fin 1 → IVec S16 32) a x).toNat < S100352.size a := fun v183 k0_hw13 => k0_hw13

def k0_chk14 (v202 : IVec S16 32) : Prop :=
  (∀ a x, ((![v202] : Fin 1 → IVec S16 32) a x).toNat < S100352.size a)
theorem k0_idx14_inb : ∀ (v202 : IVec S16 32) (k0_hw14 : k0_chk14 v202), ∀ a x, ((![v202] : Fin 1 → IVec S16 32) a x).toNat < S100352.size a := fun v202 k0_hw14 => k0_hw14

def k0_chk15 (v189 : IVec S16 32) : Prop :=
  (∀ a x, ((![v189] : Fin 1 → IVec S16 32) a x).toNat < S100352.size a)
theorem k0_idx15_inb : ∀ (v189 : IVec S16 32) (k0_hw15 : k0_chk15 v189), ∀ a x, ((![v189] : Fin 1 → IVec S16 32) a x).toNat < S100352.size a := fun v189 k0_hw15 => k0_hw15

def k0_chk16 (v206 : IVec S16 32) : Prop :=
  (∀ a x, ((![v206] : Fin 1 → IVec S16 32) a x).toNat < S100352.size a)
theorem k0_idx16_inb : ∀ (v206 : IVec S16 32) (k0_hw16 : k0_chk16 v206), ∀ a x, ((![v206] : Fin 1 → IVec S16 32) a x).toNat < S100352.size a := fun v206 k0_hw16 => k0_hw16
def k0_off12 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6_i32_2 : BitVec 32 := 6#32
  let v6 : BitVec 32 := Scalar.muli v1 c6_i32_2
  let c0_i32_0 : BitVec 32 := 0#32
  let c1_i32 : BitVec 32 := 1#32
  let arg14 : BitVec 32 := Scf.iv c0_i32_0 c1_i32 k0_t1
  let v7 : BitVec 32 := Scalar.addi v6 arg14
  let c0_i32_3 : BitVec 32 := 0#32
  let v9 : BitVec 1 := Scalar.cmpi .sgt v7 c0_i32_3
  let v10 : BitVec 32 := Scalar.extui v9
  let c0_i32_4 : BitVec 32 := 0#32
  let v11 : BitVec 1 := Scalar.cmpi .slt v7 c0_i32_4
  let v12 : BitVec 32 := Scalar.extui v11
  let v13 : BitVec 32 := Scalar.subi v10 v12
  let c48_i32 : BitVec 32 := 48#32
  let c0_i32_5 : BitVec 32 := 0#32
  let v14 : BitVec 1 := Scalar.cmpi .sgt c48_i32 c0_i32_5
  let v15 : BitVec 32 := Scalar.extui v14
  let c0_i32_6 : BitVec 32 := 0#32
  let v16 : BitVec 1 := Scalar.cmpi .slt c48_i32 c0_i32_6
  let v17 : BitVec 32 := Scalar.extui v16
  let v18 : BitVec 32 := Scalar.subi v15 v17
  let v19 : BitVec 1 := Scalar.cmpi .ne v13 v18
  let v20 : BitVec 32 := Scalar.remsi v7 c48_i32
  let c0_i32_7 : BitVec 32 := 0#32
  let v21 : BitVec 1 := Scalar.cmpi .ne v20 c0_i32_7
  let v22 : BitVec 1 := Scalar.andi v19 v21
  let v8 : BitVec 32 := Scalar.divsi v7 c48_i32
  let c1_i32_8 : BitVec 32 := 1#32
  let v23 : BitVec 32 := Scalar.subi v8 c1_i32_8
  let v24 : BitVec 32 := Scalar.select v22 v23 v8
  let c48_i32_9 : BitVec 32 := 48#32
  let c0_i32_10 : BitVec 32 := 0#32
  let v25 : BitVec 1 := Scalar.cmpi .eq c48_i32_9 c0_i32_10
  let c1_i32_11 : BitVec 32 := 1#32
  let v26 : BitVec 32 := Scalar.select v25 c1_i32_11 c48_i32_9
  let v27 : BitVec 32 := Scalar.remsi v7 v26
  let c0_i32_13 : BitVec 32 := 0#32
  let v29 : BitVec 1 := Scalar.cmpi .slt v27 c0_i32_13
  let c0_i32_14 : BitVec 32 := 0#32
  let v30 : BitVec 1 := Scalar.cmpi .slt v26 c0_i32_14
  let v31 : BitVec 1 := Scalar.xori v29 v30
  let c0_i32_12 : BitVec 32 := 0#32
  let v28 : BitVec 1 := Scalar.cmpi .ne v27 c0_i32_12
  let v32 : BitVec 1 := Scalar.andi v31 v28
  let v33 : BitVec 32 := Scalar.addi v27 v26
  let v34 : BitVec 32 := Scalar.select v32 v33 v27
  let c2_i32_38 : BitVec 32 := 2#32
  let v53 : BitVec 32 := Scalar.muli v34 c2_i32_38
  let c50176_i32 : BitVec 32 := 50176#32
  let v54 : BitVec 32 := Scalar.muli v53 c50176_i32
  ![v24.toNat, v54.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4x96x224x224 : Shape := ⟨4, ![4, 96, 224, 224]⟩
abbrev S4x224x224x2 : Shape := ⟨4, ![4, 224, 224, 2]⟩
abbrev S224 : Shape := ⟨1, ![224]⟩
abbrev S224x224 : Shape := ⟨2, ![224, 224]⟩
abbrev S1x224x224 : Shape := ⟨3, ![1, 224, 224]⟩
abbrev S4x224x224x1 : Shape := ⟨4, ![4, 224, 224, 1]⟩
abbrev S4x224x224 : Shape := ⟨3, ![4, 224, 224]⟩
abbrev S_ : Shape := ⟨0, ![]⟩
abbrev S4x224x224x96 : Shape := ⟨4, ![4, 224, 224, 96]⟩
abbrev S200704x96 : Shape := ⟨2, ![200704, 96]⟩
abbrev S4 : Shape := ⟨1, ![4]⟩
abbrev S4x1x1 : Shape := ⟨3, ![4, 1, 1]⟩
abbrev S200704 : Shape := ⟨1, ![200704]⟩
abbrev S200704x1 : Shape := ⟨2, ![200704, 1]⟩

abbrev nBuf : Space → Nat
  | .hbm => 217
  | .vmem => 0
  | .smem => 0
  | _ => 0

abbrev hbmTy0_0 (i : Nat) : BufTy := match i % 128 with
  | 0 => ⟨S4x96x224x224, .f32⟩
  | 1 => ⟨S4x224x224x2, .f32⟩
  | 2 => ⟨S224, .i32⟩
  | 3 => ⟨S224, .i32⟩
  | 4 => ⟨S224x224, .i32⟩
  | 5 => ⟨S224x224, .i32⟩
  | 6 => ⟨S1x224x224, .i32⟩
  | 7 => ⟨S1x224x224, .f32⟩
  | 8 => ⟨S4x224x224x1, .f32⟩
  | 9 => ⟨S4x224x224, .f32⟩
  | 10 => ⟨S4x224x224, .f32⟩
  | 11 => ⟨S4x224x224, .f32⟩
  | 12 => ⟨S1x224x224, .i32⟩
  | 13 => ⟨S1x224x224, .f32⟩
  | 14 => ⟨S4x224x224x1, .f32⟩
  | 15 => ⟨S4x224x224, .f32⟩
  | 16 => ⟨S4x224x224, .f32⟩
  | 17 => ⟨S4x224x224, .f32⟩
  | 18 => ⟨S4x224x224, .f32⟩
  | 19 => ⟨S4x224x224, .f32⟩
  | 20 => ⟨S_, .f32⟩
  | 21 => ⟨S4x224x224, .f32⟩
  | 22 => ⟨S4x224x224, .f32⟩
  | 23 => ⟨S_, .f32⟩
  | 24 => ⟨S4x224x224, .f32⟩
  | 25 => ⟨S4x224x224, .f32⟩
  | 26 => ⟨S4x224x224, .f32⟩
  | 27 => ⟨S4x224x224, .f32⟩
  | 28 => ⟨S4x224x224, .f32⟩
  | 29 => ⟨S4x224x224, .f32⟩
  | 30 => ⟨S4x224x224, .f32⟩
  | 31 => ⟨S4x224x224, .f32⟩
  | 32 => ⟨S4x224x224, .f32⟩
  | 33 => ⟨S4x224x224, .f32⟩
  | 34 => ⟨S4x224x224, .f32⟩
  | 35 => ⟨S4x224x224, .f32⟩
  | 36 => ⟨S4x224x224, .f32⟩
  | 37 => ⟨S4x224x224, .f32⟩
  | 38 => ⟨S4x224x224, .i32⟩
  | 39 => ⟨S4x224x224, .i32⟩
  | 40 => ⟨S4x224x224, .i32⟩
  | 41 => ⟨S4x224x224, .i32⟩
  | 42 => ⟨S4x224x224x96, .f32⟩
  | 43 => ⟨S200704x96, .f32⟩
  | 44 => ⟨S4, .i32⟩
  | 45 => ⟨S_, .i32⟩
  | 46 => ⟨S4, .i32⟩
  | 47 => ⟨S4, .i32⟩
  | 48 => ⟨S4x1x1, .i32⟩
  | 49 => ⟨S_, .f32⟩
  | 50 => ⟨S200704x96, .f32⟩
  | 51 => ⟨S_, .i32⟩
  | 52 => ⟨S4x224x224, .i32⟩
  | 53 => ⟨S4x224x224, .i1⟩
  | 54 => ⟨S_, .i32⟩
  | 55 => ⟨S4x224x224, .i32⟩
  | 56 => ⟨S4x224x224, .i1⟩
  | 57 => ⟨S4x224x224, .i1⟩
  | 58 => ⟨S_, .i32⟩
  | 59 => ⟨S4x224x224, .i32⟩
  | 60 => ⟨S4x224x224, .i1⟩
  | 61 => ⟨S4x224x224, .i1⟩
  | 62 => ⟨S_, .i32⟩
  | 63 => ⟨S4x224x224, .i32⟩
  | 64 => ⟨S4x224x224, .i1⟩
  | 65 => ⟨S4x224x224, .i1⟩
  | 66 => ⟨S_, .i32⟩
  | 67 => ⟨S4x224x224, .i32⟩
  | 68 => ⟨S4x224x224, .i32⟩
  | 69 => ⟨S4x224x224, .i32⟩
  | 70 => ⟨S4x224x224, .i32⟩
  | 71 => ⟨S4x224x224, .i32⟩
  | 72 => ⟨S_, .i32⟩
  | 73 => ⟨S_, .i32⟩
  | 74 => ⟨S4x224x224, .i32⟩
  | 75 => ⟨S4x224x224, .i32⟩
  | 76 => ⟨S200704, .i32⟩
  | 77 => ⟨S_, .f32⟩
  | 78 => ⟨S4x224x224, .f32⟩
  | 79 => ⟨S4x224x224, .f32⟩
  | 80 => ⟨S200704x1, .f32⟩
  | 81 => ⟨S200704x96, .f32⟩
  | 82 => ⟨S200704x96, .f32⟩
  | 83 => ⟨S_, .i32⟩
  | 84 => ⟨S200704, .i32⟩
  | 85 => ⟨S200704, .i1⟩
  | 86 => ⟨S_, .i32⟩
  | 87 => ⟨S200704, .i32⟩
  | 88 => ⟨S200704, .i32⟩
  | 89 => ⟨S200704, .i32⟩
  | 90 => ⟨S200704x1, .i32⟩
  | 91 => ⟨S200704x96, .f32⟩
  | 92 => ⟨S_, .i32⟩
  | 93 => ⟨S4x224x224, .i32⟩
  | 94 => ⟨S4x224x224, .i1⟩
  | 95 => ⟨S_, .i32⟩
  | 96 => ⟨S4x224x224, .i32⟩
  | 97 => ⟨S4x224x224, .i1⟩
  | 98 => ⟨S4x224x224, .i1⟩
  | 99 => ⟨S_, .i32⟩
  | 100 => ⟨S4x224x224, .i32⟩
  | 101 => ⟨S4x224x224, .i1⟩
  | 102 => ⟨S4x224x224, .i1⟩
  | 103 => ⟨S_, .i32⟩
  | 104 => ⟨S4x224x224, .i32⟩
  | 105 => ⟨S4x224x224, .i1⟩
  | 106 => ⟨S4x224x224, .i1⟩
  | 107 => ⟨S_, .i32⟩
  | 108 => ⟨S4x224x224, .i32⟩
  | 109 => ⟨S4x224x224, .i32⟩
  | 110 => ⟨S4x224x224, .i32⟩
  | 111 => ⟨S4x224x224, .i32⟩
  | 112 => ⟨S4x224x224, .i32⟩
  | 113 => ⟨S_, .i32⟩
  | 114 => ⟨S_, .i32⟩
  | 115 => ⟨S4x224x224, .i32⟩
  | 116 => ⟨S4x224x224, .i32⟩
  | 117 => ⟨S200704, .i32⟩
  | 118 => ⟨S_, .f32⟩
  | 119 => ⟨S4x224x224, .f32⟩
  | 120 => ⟨S4x224x224, .f32⟩
  | 121 => ⟨S200704x1, .f32⟩
  | 122 => ⟨S200704x96, .f32⟩
  | 123 => ⟨S200704x96, .f32⟩
  | 124 => ⟨S_, .i32⟩
  | 125 => ⟨S200704, .i32⟩
  | 126 => ⟨S200704, .i1⟩
  | 127 => ⟨S_, .i32⟩
  | _ => ⟨S4x96x224x224, .f32⟩

abbrev hbmTy0_1 (i : Nat) : BufTy := match i % 128 with
  | 0 => ⟨S200704, .i32⟩
  | 1 => ⟨S200704, .i32⟩
  | 2 => ⟨S200704, .i32⟩
  | 3 => ⟨S200704x1, .i32⟩
  | 4 => ⟨S200704x96, .f32⟩
  | 5 => ⟨S_, .i32⟩
  | 6 => ⟨S4x224x224, .i32⟩
  | 7 => ⟨S4x224x224, .i1⟩
  | 8 => ⟨S_, .i32⟩
  | 9 => ⟨S4x224x224, .i32⟩
  | 10 => ⟨S4x224x224, .i1⟩
  | 11 => ⟨S4x224x224, .i1⟩
  | 12 => ⟨S_, .i32⟩
  | 13 => ⟨S4x224x224, .i32⟩
  | 14 => ⟨S4x224x224, .i1⟩
  | 15 => ⟨S4x224x224, .i1⟩
  | 16 => ⟨S_, .i32⟩
  | 17 => ⟨S4x224x224, .i32⟩
  | 18 => ⟨S4x224x224, .i1⟩
  | 19 => ⟨S4x224x224, .i1⟩
  | 20 => ⟨S_, .i32⟩
  | 21 => ⟨S4x224x224, .i32⟩
  | 22 => ⟨S4x224x224, .i32⟩
  | 23 => ⟨S4x224x224, .i32⟩
  | 24 => ⟨S4x224x224, .i32⟩
  | 25 => ⟨S4x224x224, .i32⟩
  | 26 => ⟨S_, .i32⟩
  | 27 => ⟨S_, .i32⟩
  | 28 => ⟨S4x224x224, .i32⟩
  | 29 => ⟨S4x224x224, .i32⟩
  | 30 => ⟨S200704, .i32⟩
  | 31 => ⟨S_, .f32⟩
  | 32 => ⟨S4x224x224, .f32⟩
  | 33 => ⟨S4x224x224, .f32⟩
  | 34 => ⟨S200704x1, .f32⟩
  | 35 => ⟨S200704x96, .f32⟩
  | 36 => ⟨S200704x96, .f32⟩
  | 37 => ⟨S_, .i32⟩
  | 38 => ⟨S200704, .i32⟩
  | 39 => ⟨S200704, .i1⟩
  | 40 => ⟨S_, .i32⟩
  | 41 => ⟨S200704, .i32⟩
  | 42 => ⟨S200704, .i32⟩
  | 43 => ⟨S200704, .i32⟩
  | 44 => ⟨S200704x1, .i32⟩
  | 45 => ⟨S200704x96, .f32⟩
  | 46 => ⟨S_, .i32⟩
  | 47 => ⟨S4x224x224, .i32⟩
  | 48 => ⟨S4x224x224, .i1⟩
  | 49 => ⟨S_, .i32⟩
  | 50 => ⟨S4x224x224, .i32⟩
  | 51 => ⟨S4x224x224, .i1⟩
  | 52 => ⟨S4x224x224, .i1⟩
  | 53 => ⟨S_, .i32⟩
  | 54 => ⟨S4x224x224, .i32⟩
  | 55 => ⟨S4x224x224, .i1⟩
  | 56 => ⟨S4x224x224, .i1⟩
  | 57 => ⟨S_, .i32⟩
  | 58 => ⟨S4x224x224, .i32⟩
  | 59 => ⟨S4x224x224, .i1⟩
  | 60 => ⟨S4x224x224, .i1⟩
  | 61 => ⟨S_, .i32⟩
  | 62 => ⟨S4x224x224, .i32⟩
  | 63 => ⟨S4x224x224, .i32⟩
  | 64 => ⟨S4x224x224, .i32⟩
  | 65 => ⟨S4x224x224, .i32⟩
  | 66 => ⟨S4x224x224, .i32⟩
  | 67 => ⟨S_, .i32⟩
  | 68 => ⟨S_, .i32⟩
  | 69 => ⟨S4x224x224, .i32⟩
  | 70 => ⟨S4x224x224, .i32⟩
  | 71 => ⟨S200704, .i32⟩
  | 72 => ⟨S_, .f32⟩
  | 73 => ⟨S4x224x224, .f32⟩
  | 74 => ⟨S4x224x224, .f32⟩
  | 75 => ⟨S200704x1, .f32⟩
  | 76 => ⟨S200704x96, .f32⟩
  | 77 => ⟨S200704x96, .f32⟩
  | 78 => ⟨S_, .i32⟩
  | 79 => ⟨S200704, .i32⟩
  | 80 => ⟨S200704, .i1⟩
  | 81 => ⟨S_, .i32⟩
  | 82 => ⟨S200704, .i32⟩
  | 83 => ⟨S200704, .i32⟩
  | 84 => ⟨S200704, .i32⟩
  | 85 => ⟨S200704x1, .i32⟩
  | 86 => ⟨S200704x96, .f32⟩
  | 87 => ⟨S4x224x224x96, .f32⟩
  | 88 => ⟨S4x96x224x224, .f32⟩
  | _ => ⟨S4x96x224x224, .f32⟩

abbrev hbmTy (i : Nat) : BufTy := match i / 128 with
  | 0 => hbmTy0_0 i
  | 1 => hbmTy0_1 i
  | _ => ⟨S4x96x224x224, .f32⟩

abbrev bufTy : (tb : Table) → Fin (tcTables nBuf tb) → BufTy
  | .hbm, ⟨i, _⟩ => hbmTy i
  | _, _ => ⟨S4x96x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_cst : Ref sig .tc := ⟨.hbm, 20, rfl⟩
abbrev main_v18 : Ref sig .tc := ⟨.hbm, 21, rfl⟩
abbrev main_v19 : Ref sig .tc := ⟨.hbm, 22, rfl⟩
abbrev main_cst_0 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_c : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_cst_1 : Ref sig .tc := ⟨.hbm, 49, rfl⟩
abbrev main_v44 : Ref sig .tc := ⟨.hbm, 50, rfl⟩
abbrev main_c_2 : Ref sig .tc := ⟨.hbm, 51, rfl⟩
abbrev main_v45 : Ref sig .tc := ⟨.hbm, 52, rfl⟩
abbrev main_v46 : Ref sig .tc := ⟨.hbm, 53, rfl⟩
abbrev main_c_3 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_c_4 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_c_5 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_c_6 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_c_7 : Ref sig .tc := ⟨.hbm, 72, rfl⟩
abbrev main_call0_v0 : Ref sig .tc := ⟨.hbm, 73, rfl⟩
abbrev main_call0_v1 : Ref sig .tc := ⟨.hbm, 74, rfl⟩
abbrev main_v61 : Ref sig .tc := ⟨.hbm, 75, rfl⟩
abbrev main_v62 : Ref sig .tc := ⟨.hbm, 76, rfl⟩
abbrev main_cst_8 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_c_9 : Ref sig .tc := ⟨.hbm, 83, rfl⟩
abbrev main_v68 : Ref sig .tc := ⟨.hbm, 84, rfl⟩
abbrev main_v69 : Ref sig .tc := ⟨.hbm, 85, rfl⟩
abbrev main_c_10 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_c_11 : Ref sig .tc := ⟨.hbm, 92, rfl⟩
abbrev main_v75 : Ref sig .tc := ⟨.hbm, 93, rfl⟩
abbrev main_v76 : Ref sig .tc := ⟨.hbm, 94, rfl⟩
abbrev main_c_12 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_c_13 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_c_14 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_c_15 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_c_16 : Ref sig .tc := ⟨.hbm, 113, rfl⟩
abbrev main_call2_v0 : Ref sig .tc := ⟨.hbm, 114, rfl⟩
abbrev main_call2_v1 : Ref sig .tc := ⟨.hbm, 115, rfl⟩
abbrev main_v91 : Ref sig .tc := ⟨.hbm, 116, rfl⟩
abbrev main_v92 : Ref sig .tc := ⟨.hbm, 117, rfl⟩
abbrev main_cst_17 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_c_18 : Ref sig .tc := ⟨.hbm, 124, rfl⟩
abbrev main_v98 : Ref sig .tc := ⟨.hbm, 125, rfl⟩
abbrev main_v99 : Ref sig .tc := ⟨.hbm, 126, rfl⟩
abbrev main_c_19 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_c_20 : Ref sig .tc := ⟨.hbm, 133, rfl⟩
abbrev main_v105 : Ref sig .tc := ⟨.hbm, 134, rfl⟩
abbrev main_v106 : Ref sig .tc := ⟨.hbm, 135, rfl⟩
abbrev main_c_21 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_c_22 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_c_23 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_c_24 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_v120 : Ref sig .tc := ⟨.hbm, 153, rfl⟩
abbrev main_c_25 : Ref sig .tc := ⟨.hbm, 154, rfl⟩
abbrev main_call4_v0 : Ref sig .tc := ⟨.hbm, 155, rfl⟩
abbrev main_call4_v1 : Ref sig .tc := ⟨.hbm, 156, rfl⟩
abbrev main_v121 : Ref sig .tc := ⟨.hbm, 157, rfl⟩
abbrev main_v122 : Ref sig .tc := ⟨.hbm, 158, rfl⟩
abbrev main_cst_26 : Ref sig .tc := ⟨.hbm, 159, rfl⟩
abbrev main_v123 : Ref sig .tc := ⟨.hbm, 160, rfl⟩
abbrev main_v124 : Ref sig .tc := ⟨.hbm, 161, rfl⟩
abbrev main_v125 : Ref sig .tc := ⟨.hbm, 162, rfl⟩
abbrev main_v126 : Ref sig .tc := ⟨.hbm, 163, rfl⟩
abbrev main_v127 : Ref sig .tc := ⟨.hbm, 164, rfl⟩
abbrev main_c_27 : Ref sig .tc := ⟨.hbm, 165, rfl⟩
abbrev main_v128 : Ref sig .tc := ⟨.hbm, 166, rfl⟩
abbrev main_v129 : Ref sig .tc := ⟨.hbm, 167, rfl⟩
abbrev main_c_28 : Ref sig .tc := ⟨.hbm, 168, rfl⟩
abbrev main_v130 : Ref sig .tc := ⟨.hbm, 169, rfl⟩
abbrev main_v131 : Ref sig .tc := ⟨.hbm, 170, rfl⟩
abbrev main_v132 : Ref sig .tc := ⟨.hbm, 171, rfl⟩
abbrev main_v133 : Ref sig .tc := ⟨.hbm, 172, rfl⟩
abbrev main_v134 : Ref sig .tc := ⟨.hbm, 173, rfl⟩
abbrev main_c_29 : Ref sig .tc := ⟨.hbm, 174, rfl⟩
abbrev main_v135 : Ref sig .tc := ⟨.hbm, 175, rfl⟩
abbrev main_v136 : Ref sig .tc := ⟨.hbm, 176, rfl⟩
abbrev main_c_30 : Ref sig .tc := ⟨.hbm, 177, rfl⟩
abbrev main_v137 : Ref sig .tc := ⟨.hbm, 178, rfl⟩
abbrev main_v138 : Ref sig .tc := ⟨.hbm, 179, rfl⟩
abbrev main_v139 : Ref sig .tc := ⟨.hbm, 180, rfl⟩
abbrev main_c_31 : Ref sig .tc := ⟨.hbm, 181, rfl⟩
abbrev main_v140 : Ref sig .tc := ⟨.hbm, 182, rfl⟩
abbrev main_v141 : Ref sig .tc := ⟨.hbm, 183, rfl⟩
abbrev main_v142 : Ref sig .tc := ⟨.hbm, 184, rfl⟩
abbrev main_c_32 : Ref sig .tc := ⟨.hbm, 185, rfl⟩
abbrev main_v143 : Ref sig .tc := ⟨.hbm, 186, rfl⟩
abbrev main_v144 : Ref sig .tc := ⟨.hbm, 187, rfl⟩
abbrev main_v145 : Ref sig .tc := ⟨.hbm, 188, rfl⟩
abbrev main_c_33 : Ref sig .tc := ⟨.hbm, 189, rfl⟩
abbrev main_v146 : Ref sig .tc := ⟨.hbm, 190, rfl⟩
abbrev main_v147 : Ref sig .tc := ⟨.hbm, 191, rfl⟩
abbrev main_v148 : Ref sig .tc := ⟨.hbm, 192, rfl⟩
abbrev main_v149 : Ref sig .tc := ⟨.hbm, 193, rfl⟩
abbrev main_v150 : Ref sig .tc := ⟨.hbm, 194, rfl⟩
abbrev main_c_34 : Ref sig .tc := ⟨.hbm, 195, rfl⟩
abbrev main_call6_v0 : Ref sig .tc := ⟨.hbm, 196, rfl⟩
abbrev main_call6_v1 : Ref sig .tc := ⟨.hbm, 197, rfl⟩
abbrev main_v151 : Ref sig .tc := ⟨.hbm, 198, rfl⟩
abbrev main_v152 : Ref sig .tc := ⟨.hbm, 199, rfl⟩
abbrev main_cst_35 : Ref sig .tc := ⟨.hbm, 200, rfl⟩
abbrev main_v153 : Ref sig .tc := ⟨.hbm, 201, rfl⟩
abbrev main_v154 : Ref sig .tc := ⟨.hbm, 202, rfl⟩
abbrev main_v155 : Ref sig .tc := ⟨.hbm, 203, rfl⟩
abbrev main_v156 : Ref sig .tc := ⟨.hbm, 204, rfl⟩
abbrev main_v157 : Ref sig .tc := ⟨.hbm, 205, rfl⟩
abbrev main_c_36 : Ref sig .tc := ⟨.hbm, 206, rfl⟩
abbrev main_v158 : Ref sig .tc := ⟨.hbm, 207, rfl⟩
abbrev main_v159 : Ref sig .tc := ⟨.hbm, 208, rfl⟩
abbrev main_c_37 : Ref sig .tc := ⟨.hbm, 209, rfl⟩
abbrev main_v160 : Ref sig .tc := ⟨.hbm, 210, rfl⟩
abbrev main_v161 : Ref sig .tc := ⟨.hbm, 211, rfl⟩
abbrev main_v162 : Ref sig .tc := ⟨.hbm, 212, rfl⟩
abbrev main_v163 : Ref sig .tc := ⟨.hbm, 213, rfl⟩
abbrev main_v164 : Ref sig .tc := ⟨.hbm, 214, rfl⟩
abbrev main_v165 : Ref sig .tc := ⟨.hbm, 215, rfl⟩
abbrev main_v166 : Ref sig .tc := ⟨.hbm, 216, rfl⟩

abbrev nD : Nat := 1
abbrev τ : Topo := Topo.v7x

variable {F : FTy → Type} [FloatOps F]
-- ==== Guarded.lean ====
abbrev S4x96x224x224 : Shape := ⟨4, ![4, 96, 224, 224]⟩
abbrev S4x224x224x2 : Shape := ⟨4, ![4, 224, 224, 2]⟩
abbrev S4x48x2x28x1792 : Shape := ⟨5, ![4, 48, 2, 28, 1792]⟩
abbrev S4x48x28x2x1792 : Shape := ⟨5, ![4, 48, 28, 2, 1792]⟩
abbrev S4x48x28x3584 : Shape := ⟨4, ![4, 48, 28, 3584]⟩
abbrev S4x28x1792x2 : Shape := ⟨4, ![4, 28, 1792, 2]⟩
abbrev S4x28x2x1792 : Shape := ⟨4, ![4, 28, 2, 1792]⟩
abbrev S4x28x3584 : Shape := ⟨3, ![4, 28, 3584]⟩
abbrev S4x4816896 : Shape := ⟨2, ![4, 4816896]⟩
abbrev S100352 : Shape := ⟨1, ![100352]⟩
abbrev S3584 : Shape := ⟨1, ![3584]⟩
abbrev S_ : Shape := ⟨0, ![]⟩
abbrev S16 : Shape := ⟨1, ![16]⟩
abbrev S1x1x1x3584 : Shape := ⟨4, ![1, 1, 1, 3584]⟩
abbrev S1x1x3584 : Shape := ⟨3, ![1, 1, 3584]⟩
abbrev S1x100352 : Shape := ⟨2, ![1, 100352]⟩

abbrev nBuf : Table → Nat
  | .hbm => 10
  | .local .scVector .vmem => 5
  | _ => 0

abbrev bufTy : (tb : Table) → Fin (nBuf tb) → BufTy
  | .hbm, ⟨0, _⟩ => ⟨S4x96x224x224, .f32⟩
  | .hbm, ⟨1, _⟩ => ⟨S4x224x224x2, .f32⟩
  | .hbm, ⟨2, _⟩ => ⟨S4x48x2x28x1792, .f32⟩
  | .hbm, ⟨3, _⟩ => ⟨S4x48x28x2x1792, .f32⟩
  | .hbm, ⟨4, _⟩ => ⟨S4x48x28x3584, .f32⟩
  | .hbm, ⟨5, _⟩ => ⟨S4x28x1792x2, .f32⟩
  | .hbm, ⟨6, _⟩ => ⟨S4x28x2x1792, .f32⟩
  | .hbm, ⟨7, _⟩ => ⟨S4x28x3584, .f32⟩
  | .hbm, ⟨8, _⟩ => ⟨S4x4816896, .f32⟩
  | .hbm, ⟨9, _⟩ => ⟨S4x96x224x224, .f32⟩
  | .local .scVector .vmem, ⟨0, _⟩ => ⟨S100352, .f32⟩
  | .local .scVector .vmem, ⟨1, _⟩ => ⟨S3584, .f32⟩
  | .local .scVector .vmem, ⟨2, _⟩ => ⟨S3584, .f32⟩
  | .local .scVector .vmem, ⟨3, _⟩ => ⟨S3584, .f32⟩
  | .local .scVector .vmem, ⟨4, _⟩ => ⟨S3584, .f32⟩
  | _, _ => ⟨S4x96x224x224, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 5 → Bool
  | ⟨0, _⟩ => false
  | ⟨1, _⟩ => false
  | ⟨2, _⟩ => false
  | ⟨3, _⟩ => false
  | ⟨4, _⟩ => false
  | _ => false

abbrev sig : RefSig :=
  ofTables nBuf rfl bufTy 4 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v2_scv : Ref sig .scVector := ⟨.hbm, 4, rfl⟩
abbrev main_v5_scv : Ref sig .scVector := ⟨.hbm, 7, rfl⟩
abbrev main_v6_scv : Ref sig .scVector := ⟨.hbm, 8, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_0 : BitVec 32 := 0#32
  let c6_i32 : BitVec 32 := 6#32
  let v5 : BitVec 32 := Scalar.addi c0_i32_0 c6_i32
  let c1_i32 : BitVec 32 := 1#32
  ⟨c0_i32_0, v5, c1_i32⟩
def k0_off1 (i : grid0.Coords) (k0_t1 : Fin k0_t1_loop.trips) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6_i32_2 : BitVec 32 := 6#32
  let v6 : BitVec 32 := Scalar.muli v1 c6_i32_2
  let c0_i32_0 : BitVec 32 := 0#32
  let c1_i32 : BitVec 32 := 1#32
  let arg14 : BitVec 32 := Scf.iv c0_i32_0 c1_i32 k0_t1
  let v7 : BitVec 32 := Scalar.addi v6 arg14
  let c0_i32_3 : BitVec 32 := 0#32
  let v9 : BitVec 1 := Scalar.cmpi .sgt v7 c0_i32_3
  let v10 : BitVec 32 := Scalar.extui v9
  let c0_i32_4 : BitVec 32 := 0#32
  let v11 : BitVec 1 := Scalar.cmpi .slt v7 c0_i32_4
  let v12 : BitVec 32 := Scalar.extui v11
  let v13 : BitVec 32 := Scalar.subi v10 v12
  let c48_i32 : BitVec 32 := 48#32
  let c0_i32_5 : BitVec 32 := 0#32
  let v14 : BitVec 1 := Scalar.cmpi .sgt c48_i32 c0_i32_5
  let v15 : BitVec 32 := Scalar.extui v14
  let c0_i32_6 : BitVec 32 := 0#32
  let v16 : BitVec 1 := Scalar.cmpi .slt c48_i32 c0_i32_6
  let v17 : BitVec 32 := Scalar.extui v16
  let v18 : BitVec 32 := Scalar.subi v15 v17
  let v19 : BitVec 1 := Scalar.cmpi .ne v13 v18
  let v20 : BitVec 32 := Scalar.remsi v7 c48_i32
  let c0_i32_7 : BitVec 32 := 0#32
  let v21 : BitVec 1 := Scalar.cmpi .ne v20 c0_i32_7
  let v22 : BitVec 1 := Scalar.andi v19 v21
  let v8 : BitVec 32 := Scalar.divsi v7 c48_i32
  let c1_i32_8 : BitVec 32 := 1#32
  let v23 : BitVec 32 := Scalar.subi v8 c1_i32_8
  let v24 : BitVec 32 := Scalar.select v22 v23 v8
  let c48_i32_9 : BitVec 32 := 48#32
  let c0_i32_10 : BitVec 32 := 0#32
  let v25 : BitVec 1 := Scalar.cmpi .eq c48_i32_9 c0_i32_10
  let c1_i32_11 : BitVec 32 := 1#32
  let v26 : BitVec 32 := Scalar.select v25 c1_i32_11 c48_i32_9
  let v27 : BitVec 32 := Scalar.remsi v7 v26
  let c0_i32_13 : BitVec 32 := 0#32
  let v29 : BitVec 1 := Scalar.cmpi .slt v27 c0_i32_13
  let c0_i32_14 : BitVec 32 := 0#32
  let v30 : BitVec 1 := Scalar.cmpi .slt v26 c0_i32_14
  let v31 : BitVec 1 := Scalar.xori v29 v30
  let c0_i32_12 : BitVec 32 := 0#32
  let v28 : BitVec 1 := Scalar.cmpi .ne v27 c0_i32_12
  let v32 : BitVec 1 := Scalar.andi v31 v28
  let v33 : BitVec 32 := Scalar.addi v27 v26
  let v34 : BitVec 32 := Scalar.select v32 v33 v27
  let c0_i32_15 : BitVec 32 := 0#32
  let c0_i32_16 : BitVec 32 := 0#32
  ![v24.toNat, v34.toNat, 0, 0]
def k0_off2 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6_i32_2 : BitVec 32 := 6#32
  let v6 : BitVec 32 := Scalar.muli v1 c6_i32_2
  let c0_i32_0 : BitVec 32 := 0#32
  let c1_i32 : BitVec 32 := 1#32
  let arg14 : BitVec 32 := Scf.iv c0_i32_0 c1_i32 k0_t1
  let v7 : BitVec 32 := Scalar.addi v6 arg14
  let c0_i32_3 : BitVec 32 := 0#32
  let v9 : BitVec 1 := Scalar.cmpi .sgt v7 c0_i32_3
  let v10 : BitVec 32 := Scalar.extui v9
  let c0_i32_4 : BitVec 32 := 0#32
  let v11 : BitVec 1 := Scalar.cmpi .slt v7 c0_i32_4
  let v12 : BitVec 32 := Scalar.extui v11
  let v13 : BitVec 32 := Scalar.subi v10 v12
  let c48_i32 : BitVec 32 := 48#32
  let c0_i32_5 : BitVec 32 := 0#32
  let v14 : BitVec 1 := Scalar.cmpi .sgt c48_i32 c0_i32_5
  let v15 : BitVec 32 := Scalar.extui v14
  let c0_i32_6 : BitVec 32 := 0#32
  let v16 : BitVec 1 := Scalar.cmpi .slt c48_i32 c0_i32_6
  let v17 : BitVec 32 := Scalar.extui v16
  let v18 : BitVec 32 := Scalar.subi v15 v17
  let v19 : BitVec 1 := Scalar.cmpi .ne v13 v18
  let v20 : BitVec 32 := Scalar.remsi v7 c48_i32
  let c0_i32_7 : BitVec 32 := 0#32
  let v21 : BitVec 1 := Scalar.cmpi .ne v20 c0_i32_7
  let v22 : BitVec 1 := Scalar.andi v19 v21
  let v8 : BitVec 32 := Scalar.divsi v7 c48_i32
  let c1_i32_8 : BitVec 32 := 1#32
  let v23 : BitVec 32 := Scalar.subi v8 c1_i32_8
  let v24 : BitVec 32 := Scalar.select v22 v23 v8
  let c0_i32_18 : BitVec 32 := 0#32
  let c0_i32_19 : BitVec 32 := 0#32
  ![v24.toNat, 0, 0]
@[reducible] def k0_t2_loop : Scf.Loop 32 :=
  let c0_i32_22 : BitVec 32 := 0#32
  let c6272_i32 : BitVec 32 := 6272#32
  let v43 : BitVec 32 := Scalar.addi c0_i32_22 c6272_i32
  let c1_i32_23 : BitVec 32 := 1#32
  ⟨c0_i32_22, v43, c1_i32_23⟩
def k0_off3 (k0_t2 : Fin k0_t2_loop.trips) : Fin 1 → Nat :=
  let c0_i32_22 : BitVec 32 := 0#32
  let c1_i32_23 : BitVec 32 := 1#32
  let arg15 : BitVec 32 := Scf.iv c0_i32_22 c1_i32_23 k0_t2
  let c16_i32 : BitVec 32 := 16#32
  let v55 : BitVec 32 := Scalar.muli arg15 c16_i32
  let v56 : Index := Scalar.indexCast v55
  ![v56.toNat]
@[reducible] def k0_t3_loop : Scf.Loop 32 :=
  let c0_i32_26 : BitVec 32 := 0#32
  let c14_i32 : BitVec 32 := 14#32
  let v44 : BitVec 32 := Scalar.addi c0_i32_26 c14_i32
  let c1_i32_27 : BitVec 32 := 1#32
  ⟨c0_i32_26, v44, c1_i32_27⟩
def k0_off4 (i : grid0.Coords) (k0_t1 : Fin k0_t1_loop.trips) (k0_t3 : Fin k0_t3_loop.trips) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6_i32_2 : BitVec 32 := 6#32
  let v6 : BitVec 32 := Scalar.muli v1 c6_i32_2
  let c0_i32_0 : BitVec 32 := 0#32
  let c1_i32 : BitVec 32 := 1#32
  let arg14 : BitVec 32 := Scf.iv c0_i32_0 c1_i32 k0_t1
  let v7 : BitVec 32 := Scalar.addi v6 arg14
  let c0_i32_3 : BitVec 32 := 0#32
  let v9 : BitVec 1 := Scalar.cmpi .sgt v7 c0_i32_3
  let v10 : BitVec 32 := Scalar.extui v9
  let c0_i32_4 : BitVec 32 := 0#32
  let v11 : BitVec 1 := Scalar.cmpi .slt v7 c0_i32_4
  let v12 : BitVec 32 := Scalar.extui v11
  let v13 : BitVec 32 := Scalar.subi v10 v12
  let c48_i32 : BitVec 32 := 48#32
  let c0_i32_5 : BitVec 32 := 0#32
  let v14 : BitVec 1 := Scalar.cmpi .sgt c48_i32 c0_i32_5
  let v15 : BitVec 32 := Scalar.extui v14
  let c0_i32_6 : BitVec 32 := 0#32
  let v16 : BitVec 1 := Scalar.cmpi .slt c48_i32 c0_i32_6
  let v17 : BitVec 32 := Scalar.extui v16
  let v18 : BitVec 32 := Scalar.subi v15 v17
  let v19 : BitVec 1 := Scalar.cmpi .ne v13 v18
  let v20 : BitVec 32 := Scalar.remsi v7 c48_i32
  let c0_i32_7 : BitVec 32 := 0#32
  let v21 : BitVec 1 := Scalar.cmpi .ne v20 c0_i32_7
  let v22 : BitVec 1 := Scalar.andi v19 v21
  let v8 : BitVec 32 := Scalar.divsi v7 c48_i32
  let c1_i32_8 : BitVec 32 := 1#32
  let v23 : BitVec 32 := Scalar.subi v8 c1_i32_8
  let v24 : BitVec 32 := Scalar.select v22 v23 v8
  let c48_i32_9 : BitVec 32 := 48#32
  let c0_i32_10 : BitVec 32 := 0#32
  let v25 : BitVec 1 := Scalar.cmpi .eq c48_i32_9 c0_i32_10
  let c1_i32_11 : BitVec 32 := 1#32
  let v26 : BitVec 32 := Scalar.select v25 c1_i32_11 c48_i32_9
  let v27 : BitVec 32 := Scalar.remsi v7 v26
  let c0_i32_13 : BitVec 32 := 0#32
  let v29 : BitVec 1 := Scalar.cmpi .slt v27 c0_i32_13
  let c0_i32_14 : BitVec 32 := 0#32
  let v30 : BitVec 1 := Scalar.cmpi .slt v26 c0_i32_14
  let v31 : BitVec 1 := Scalar.xori v29 v30
  let c0_i32_12 : BitVec 32 := 0#32
  let v28 : BitVec 1 := Scalar.cmpi .ne v27 c0_i32_12
  let v32 : BitVec 1 := Scalar.andi v31 v28
  let v33 : BitVec 32 := Scalar.addi v27 v26
  let v34 : BitVec 32 := Scalar.select v32 v33 v27
  let c2_i32_40 : BitVec 32 := 2#32
  let c0_i32_26 : BitVec 32 := 0#32
  let c1_i32_27 : BitVec 32 := 1#32
  let arg15 : BitVec 32 := Scf.iv c0_i32_26 c1_i32_27 k0_t3
  let v56 : BitVec 32 := Scalar.muli c2_i32_40 arg15
  let c1_i32_41 : BitVec 32 := 1#32
  let v57 : BitVec 32 := Scalar.addi v56 c1_i32_41
  let c0_i32_53 : BitVec 32 := 0#32
  ![v24.toNat, v34.toNat, v57.toNat, 0]
def k0_off5 (i : grid0.Coords) (k0_t1 : Fin k0_t1_loop.trips) (k0_t3 : Fin k0_t3_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6_i32_2 : BitVec 32 := 6#32
  let v6 : BitVec 32 := Scalar.muli v1 c6_i32_2
  let c0_i32_0 : BitVec 32 := 0#32
  let c1_i32 : BitVec 32 := 1#32
  let arg14 : BitVec 32 := Scf.iv c0_i32_0 c1_i32 k0_t1
  let v7 : BitVec 32 := Scalar.addi v6 arg14
  let c0_i32_3 : BitVec 32 := 0#32
  let v9 : BitVec 1 := Scalar.cmpi .sgt v7 c0_i32_3
  let v10 : BitVec 32 := Scalar.extui v9
  let c0_i32_4 : BitVec 32 := 0#32
  let v11 : BitVec 1 := Scalar.cmpi .slt v7 c0_i32_4
  let v12 : BitVec 32 := Scalar.extui v11
  let v13 : BitVec 32 := Scalar.subi v10 v12
  let c48_i32 : BitVec 32 := 48#32
  let c0_i32_5 : BitVec 32 := 0#32
  let v14 : BitVec 1 := Scalar.cmpi .sgt c48_i32 c0_i32_5
  let v15 : BitVec 32 := Scalar.extui v14
  let c0_i32_6 : BitVec 32 := 0#32
  let v16 : BitVec 1 := Scalar.cmpi .slt c48_i32 c0_i32_6
  let v17 : BitVec 32 := Scalar.extui v16
  let v18 : BitVec 32 := Scalar.subi v15 v17
  let v19 : BitVec 1 := Scalar.cmpi .ne v13 v18
  let v20 : BitVec 32 := Scalar.remsi v7 c48_i32
  let c0_i32_7 : BitVec 32 := 0#32
  let v21 : BitVec 1 := Scalar.cmpi .ne v20 c0_i32_7
  let v22 : BitVec 1 := Scalar.andi v19 v21
  let v8 : BitVec 32 := Scalar.divsi v7 c48_i32
  let c1_i32_8 : BitVec 32 := 1#32
  let v23 : BitVec 32 := Scalar.subi v8 c1_i32_8
  let v24 : BitVec 32 := Scalar.select v22 v23 v8
  let c2_i32_40 : BitVec 32 := 2#32
  let c0_i32_26 : BitVec 32 := 0#32
  let c1_i32_27 : BitVec 32 := 1#32
  let arg15 : BitVec 32 := Scf.iv c0_i32_26 c1_i32_27 k0_t3
  let v56 : BitVec 32 := Scalar.muli c2_i32_40 arg15
  let c1_i32_41 : BitVec 32 := 1#32
  let v57 : BitVec 32 := Scalar.addi v56 c1_i32_41
  let c0_i32_55 : BitVec 32 := 0#32
  ![v24.toNat, v57.toNat, 0]
@[reducible] def k0_t4_loop : Scf.Loop 32 :=
  let c0_i32_58 : BitVec 32 := 0#32
  let c8_i32 : BitVec 32 := 8#32
  let v77 : BitVec 32 := Scalar.addi c0_i32_58 c8_i32
  let c1_i32_59 : BitVec 32 := 1#32
  ⟨c0_i32_58, v77, c1_i32_59⟩
@[reducible] def k0_t5_loop : Scf.Loop 32 :=
  let c0_i32_80 : BitVec 32 := 0#32
  let c14_i32_81 : BitVec 32 := 14#32
  let v98 : BitVec 32 := Scalar.addi c0_i32_80 c14_i32_81
  let c1_i32_82 : BitVec 32 := 1#32
  ⟨c0_i32_80, v98, c1_i32_82⟩
def k0_off6 (k0_t4 : Fin k0_t4_loop.trips) (k0_t5 : Fin k0_t5_loop.trips) : Fin 1 → Nat :=
  let c0_i32_58 : BitVec 32 := 0#32
  let c1_i32_59 : BitVec 32 := 1#32
  let arg16 : BitVec 32 := Scf.iv c0_i32_58 c1_i32_59 k0_t4
  let c224_i32 : BitVec 32 := 224#32
  let v99 : BitVec 32 := Scalar.muli arg16 c224_i32
  let c0_i32_80 : BitVec 32 := 0#32
  let c1_i32_82 : BitVec 32 := 1#32
  let arg17 : BitVec 32 := Scf.iv c0_i32_80 c1_i32_82 k0_t5
  let c16_i32 : BitVec 32 := 16#32
  let v100 : BitVec 32 := Scalar.muli arg17 c16_i32
  let v101 : BitVec 32 := Scalar.addi v99 v100
  let v102 : Index := Scalar.indexCast v101
  ![v102.toNat]
def k0_off7 (k0_t4 : Fin k0_t4_loop.trips) (k0_t5 : Fin k0_t5_loop.trips) : Fin 1 → Nat :=
  let c1792_i32 : BitVec 32 := 1792#32
  let c0_i32_58 : BitVec 32 := 0#32
  let c1_i32_59 : BitVec 32 := 1#32
  let arg16 : BitVec 32 := Scf.iv c0_i32_58 c1_i32_59 k0_t4
  let c224_i32 : BitVec 32 := 224#32
  let v99 : BitVec 32 := Scalar.muli arg16 c224_i32
  let c0_i32_80 : BitVec 32 := 0#32
  let c1_i32_82 : BitVec 32 := 1#32
  let arg17 : BitVec 32 := Scf.iv c0_i32_80 c1_i32_82 k0_t5
  let c16_i32 : BitVec 32 := 16#32
  let v100 : BitVec 32 := Scalar.muli arg17 c16_i32
  let v101 : BitVec 32 := Scalar.addi v99 v100
  let v104 : BitVec 32 := Scalar.addi c1792_i32 v101
  let v105 : Index := Scalar.indexCast v104
  ![v105.toNat]

def k0_chk1 (v195 : IVec S16 32) : Prop :=
  (∀ a x, ((![v195] : Fin 1 → IVec S16 32) a x).toNat < S100352.size a)
theorem k0_idx1_inb : ∀ (v195 : IVec S16 32) (k0_hw1 : k0_chk1 v195), ∀ a x, ((![v195] : Fin 1 → IVec S16 32) a x).toNat < S100352.size a := fun v195 k0_hw1 => k0_hw1

def k0_chk2 (v198 : IVec S16 32) : Prop :=
  (∀ a x, ((![v198] : Fin 1 → IVec S16 32) a x).toNat < S100352.size a)
theorem k0_idx2_inb : ∀ (v198 : IVec S16 32) (k0_hw2 : k0_chk2 v198), ∀ a x, ((![v198] : Fin 1 → IVec S16 32) a x).toNat < S100352.size a := fun v198 k0_hw2 => k0_hw2

def k0_chk3 (v203 : IVec S16 32) : Prop :=
  (∀ a x, ((![v203] : Fin 1 → IVec S16 32) a x).toNat < S100352.size a)
theorem k0_idx3_inb : ∀ (v203 : IVec S16 32) (k0_hw3 : k0_chk3 v203), ∀ a x, ((![v203] : Fin 1 → IVec S16 32) a x).toNat < S100352.size a := fun v203 k0_hw3 => k0_hw3

def k0_chk4 (v206 : IVec S16 32) : Prop :=
  (∀ a x, ((![v206] : Fin 1 → IVec S16 32) a x).toNat < S100352.size a)
theorem k0_idx4_inb : ∀ (v206 : IVec S16 32) (k0_hw4 : k0_chk4 v206), ∀ a x, ((![v206] : Fin 1 → IVec S16 32) a x).toNat < S100352.size a := fun v206 k0_hw4 => k0_hw4

def k0_chk5 (v211 : IVec S16 32) : Prop :=
  (∀ a x, ((![v211] : Fin 1 → IVec S16 32) a x).toNat < S100352.size a)
theorem k0_idx5_inb : ∀ (v211 : IVec S16 32) (k0_hw5 : k0_chk5 v211), ∀ a x, ((![v211] : Fin 1 → IVec S16 32) a x).toNat < S100352.size a := fun v211 k0_hw5 => k0_hw5

def k0_chk6 (v214 : IVec S16 32) : Prop :=
  (∀ a x, ((![v214] : Fin 1 → IVec S16 32) a x).toNat < S100352.size a)
theorem k0_idx6_inb : ∀ (v214 : IVec S16 32) (k0_hw6 : k0_chk6 v214), ∀ a x, ((![v214] : Fin 1 → IVec S16 32) a x).toNat < S100352.size a := fun v214 k0_hw6 => k0_hw6

def k0_chk7 (v219 : IVec S16 32) : Prop :=
  (∀ a x, ((![v219] : Fin 1 → IVec S16 32) a x).toNat < S100352.size a)
theorem k0_idx7_inb : ∀ (v219 : IVec S16 32) (k0_hw7 : k0_chk7 v219), ∀ a x, ((![v219] : Fin 1 → IVec S16 32) a x).toNat < S100352.size a := fun v219 k0_hw7 => k0_hw7

def k0_chk8 (v222 : IVec S16 32) : Prop :=
  (∀ a x, ((![v222] : Fin 1 → IVec S16 32) a x).toNat < S100352.size a)
theorem k0_idx8_inb : ∀ (v222 : IVec S16 32) (k0_hw8 : k0_chk8 v222), ∀ a x, ((![v222] : Fin 1 → IVec S16 32) a x).toNat < S100352.size a := fun v222 k0_hw8 => k0_hw8
def k0_off8 (i : grid0.Coords) (k0_t1 : Fin k0_t1_loop.trips) (k0_t3 : Fin k0_t3_loop.trips) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6_i32_2 : BitVec 32 := 6#32
  let v6 : BitVec 32 := Scalar.muli v1 c6_i32_2
  let c0_i32_0 : BitVec 32 := 0#32
  let c1_i32 : BitVec 32 := 1#32
  let arg14 : BitVec 32 := Scf.iv c0_i32_0 c1_i32 k0_t1
  let v7 : BitVec 32 := Scalar.addi v6 arg14
  let c0_i32_3 : BitVec 32 := 0#32
  let v9 : BitVec 1 := Scalar.cmpi .sgt v7 c0_i32_3
  let v10 : BitVec 32 := Scalar.extui v9
  let c0_i32_4 : BitVec 32 := 0#32
  let v11 : BitVec 1 := Scalar.cmpi .slt v7 c0_i32_4
  let v12 : BitVec 32 := Scalar.extui v11
  let v13 : BitVec 32 := Scalar.subi v10 v12
  let c48_i32 : BitVec 32 := 48#32
  let c0_i32_5 : BitVec 32 := 0#32
  let v14 : BitVec 1 := Scalar.cmpi .sgt c48_i32 c0_i32_5
  let v15 : BitVec 32 := Scalar.extui v14
  let c0_i32_6 : BitVec 32 := 0#32
  let v16 : BitVec 1 := Scalar.cmpi .slt c48_i32 c0_i32_6
  let v17 : BitVec 32 := Scalar.extui v16
  let v18 : BitVec 32 := Scalar.subi v15 v17
  let v19 : BitVec 1 := Scalar.cmpi .ne v13 v18
  let v20 : BitVec 32 := Scalar.remsi v7 c48_i32
  let c0_i32_7 : BitVec 32 := 0#32
  let v21 : BitVec 1 := Scalar.cmpi .ne v20 c0_i32_7
  let v22 : BitVec 1 := Scalar.andi v19 v21
  let v8 : BitVec 32 := Scalar.divsi v7 c48_i32
  let c1_i32_8 : BitVec 32 := 1#32
  let v23 : BitVec 32 := Scalar.subi v8 c1_i32_8
  let v24 : BitVec 32 := Scalar.select v22 v23 v8
  let c48_i32_9 : BitVec 32 := 48#32
  let c0_i32_10 : BitVec 32 := 0#32
  let v25 : BitVec 1 := Scalar.cmpi .eq c48_i32_9 c0_i32_10
  let c1_i32_11 : BitVec 32 := 1#32
  let v26 : BitVec 32 := Scalar.select v25 c1_i32_11 c48_i32_9
  let v27 : BitVec 32 := Scalar.remsi v7 v26
  let c0_i32_13 : BitVec 32 := 0#32
  let v29 : BitVec 1 := Scalar.cmpi .slt v27 c0_i32_13
  let c0_i32_14 : BitVec 32 := 0#32
  let v30 : BitVec 1 := Scalar.cmpi .slt v26 c0_i32_14
  let v31 : BitVec 1 := Scalar.xori v29 v30
  let c0_i32_12 : BitVec 32 := 0#32
  let v28 : BitVec 1 := Scalar.cmpi .ne v27 c0_i32_12
  let v32 : BitVec 1 := Scalar.andi v31 v28
  let v33 : BitVec 32 := Scalar.addi v27 v26
  let v34 : BitVec 32 := Scalar.select v32 v33 v27
  let c2_i32_42 : BitVec 32 := 2#32
  let c0_i32_26 : BitVec 32 := 0#32
  let c1_i32_27 : BitVec 32 := 1#32
  let arg15 : BitVec 32 := Scf.iv c0_i32_26 c1_i32_27 k0_t3
  let v58 : BitVec 32 := Scalar.muli c2_i32_42 arg15
  let c2_i32_43 : BitVec 32 := 2#32
  let v59 : BitVec 32 := Scalar.addi v58 c2_i32_43
  let c28_i32 : BitVec 32 := 28#32
  let v60 : BitVec 32 := Scalar.remsi v59 c28_i32
  let c0_i32_61 : BitVec 32 := 0#32
  ![v24.toNat, v34.toNat, v60.toNat, 0]
def k0_off9 (i : grid0.Coords) (k0_t1 : Fin k0_t1_loop.trips) (k0_t3 : Fin k0_t3_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6_i32_2 : BitVec 32 := 6#32
  let v6 : BitVec 32 := Scalar.muli v1 c6_i32_2
  let c0_i32_0 : BitVec 32 := 0#32
  let c1_i32 : BitVec 32 := 1#32
  let arg14 : BitVec 32 := Scf.iv c0_i32_0 c1_i32 k0_t1
  let v7 : BitVec 32 := Scalar.addi v6 arg14
  let c0_i32_3 : BitVec 32 := 0#32
  let v9 : BitVec 1 := Scalar.cmpi .sgt v7 c0_i32_3
  let v10 : BitVec 32 := Scalar.extui v9
  let c0_i32_4 : BitVec 32 := 0#32
  let v11 : BitVec 1 := Scalar.cmpi .slt v7 c0_i32_4
  let v12 : BitVec 32 := Scalar.extui v11
  let v13 : BitVec 32 := Scalar.subi v10 v12
  let c48_i32 : BitVec 32 := 48#32
  let c0_i32_5 : BitVec 32 := 0#32
  let v14 : BitVec 1 := Scalar.cmpi .sgt c48_i32 c0_i32_5
  let v15 : BitVec 32 := Scalar.extui v14
  let c0_i32_6 : BitVec 32 := 0#32
  let v16 : BitVec 1 := Scalar.cmpi .slt c48_i32 c0_i32_6
  let v17 : BitVec 32 := Scalar.extui v16
  let v18 : BitVec 32 := Scalar.subi v15 v17
  let v19 : BitVec 1 := Scalar.cmpi .ne v13 v18
  let v20 : BitVec 32 := Scalar.remsi v7 c48_i32
  let c0_i32_7 : BitVec 32 := 0#32
  let v21 : BitVec 1 := Scalar.cmpi .ne v20 c0_i32_7
  let v22 : BitVec 1 := Scalar.andi v19 v21
  let v8 : BitVec 32 := Scalar.divsi v7 c48_i32
  let c1_i32_8 : BitVec 32 := 1#32
  let v23 : BitVec 32 := Scalar.subi v8 c1_i32_8
  let v24 : BitVec 32 := Scalar.select v22 v23 v8
  let c2_i32_42 : BitVec 32 := 2#32
  let c0_i32_26 : BitVec 32 := 0#32
  let c1_i32_27 : BitVec 32 := 1#32
  let arg15 : BitVec 32 := Scf.iv c0_i32_26 c1_i32_27 k0_t3
  let v58 : BitVec 32 := Scalar.muli c2_i32_42 arg15
  let c2_i32_43 : BitVec 32 := 2#32
  let v59 : BitVec 32 := Scalar.addi v58 c2_i32_43
  let c28_i32 : BitVec 32 := 28#32
  let v60 : BitVec 32 := Scalar.remsi v59 c28_i32
  let c0_i32_63 : BitVec 32 := 0#32
  ![v24.toNat, v60.toNat, 0]
@[reducible] def k0_t6_loop : Scf.Loop 32 :=
  let c0_i32_75 : BitVec 32 := 0#32
  let c8_i32_76 : BitVec 32 := 8#32
  let v94 : BitVec 32 := Scalar.addi c0_i32_75 c8_i32_76
  let c1_i32_77 : BitVec 32 := 1#32
  ⟨c0_i32_75, v94, c1_i32_77⟩
@[reducible] def k0_t7_loop : Scf.Loop 32 :=
  let c0_i32_80 : BitVec 32 := 0#32
  let c14_i32_81 : BitVec 32 := 14#32
  let v98 : BitVec 32 := Scalar.addi c0_i32_80 c14_i32_81
  let c1_i32_82 : BitVec 32 := 1#32
  ⟨c0_i32_80, v98, c1_i32_82⟩
def k0_off10 (k0_t6 : Fin k0_t6_loop.trips) (k0_t7 : Fin k0_t7_loop.trips) : Fin 1 → Nat :=
  let c0_i32_75 : BitVec 32 := 0#32
  let c1_i32_77 : BitVec 32 := 1#32
  let arg16 : BitVec 32 := Scf.iv c0_i32_75 c1_i32_77 k0_t6
  let c224_i32 : BitVec 32 := 224#32
  let v99 : BitVec 32 := Scalar.muli arg16 c224_i32
  let c0_i32_80 : BitVec 32 := 0#32
  let c1_i32_82 : BitVec 32 := 1#32
  let arg17 : BitVec 32 := Scf.iv c0_i32_80 c1_i32_82 k0_t7
  let c16_i32 : BitVec 32 := 16#32
  let v100 : BitVec 32 := Scalar.muli arg17 c16_i32
  let v101 : BitVec 32 := Scalar.addi v99 v100
  let v102 : Index := Scalar.indexCast v101
  ![v102.toNat]
def k0_off11 (k0_t6 : Fin k0_t6_loop.trips) (k0_t7 : Fin k0_t7_loop.trips) : Fin 1 → Nat :=
  let c1792_i32 : BitVec 32 := 1792#32
  let c0_i32_75 : BitVec 32 := 0#32
  let c1_i32_77 : BitVec 32 := 1#32
  let arg16 : BitVec 32 := Scf.iv c0_i32_75 c1_i32_77 k0_t6
  let c224_i32 : BitVec 32 := 224#32
  let v99 : BitVec 32 := Scalar.muli arg16 c224_i32
  let c0_i32_80 : BitVec 32 := 0#32
  let c1_i32_82 : BitVec 32 := 1#32
  let arg17 : BitVec 32 := Scf.iv c0_i32_80 c1_i32_82 k0_t7
  let c16_i32 : BitVec 32 := 16#32
  let v100 : BitVec 32 := Scalar.muli arg17 c16_i32
  let v101 : BitVec 32 := Scalar.addi v99 v100
  let v104 : BitVec 32 := Scalar.addi c1792_i32 v101
  let v105 : Index := Scalar.indexCast v104
  ![v105.toNat]

def k0_chk9 (v195 : IVec S16 32) : Prop :=
  (∀ a x, ((![v195] : Fin 1 → IVec S16 32) a x).toNat < S100352.size a)
theorem k0_idx9_inb : ∀ (v195 : IVec S16 32) (k0_hw9 : k0_chk9 v195), ∀ a x, ((![v195] : Fin 1 → IVec S16 32) a x).toNat < S100352.size a := fun v195 k0_hw9 => k0_hw9

def k0_chk10 (v198 : IVec S16 32) : Prop :=
  (∀ a x, ((![v198] : Fin 1 → IVec S16 32) a x).toNat < S100352.size a)
theorem k0_idx10_inb : ∀ (v198 : IVec S16 32) (k0_hw10 : k0_chk10 v198), ∀ a x, ((![v198] : Fin 1 → IVec S16 32) a x).toNat < S100352.size a := fun v198 k0_hw10 => k0_hw10

def k0_chk11 (v203 : IVec S16 32) : Prop :=
  (∀ a x, ((![v203] : Fin 1 → IVec S16 32) a x).toNat < S100352.size a)
theorem k0_idx11_inb : ∀ (v203 : IVec S16 32) (k0_hw11 : k0_chk11 v203), ∀ a x, ((![v203] : Fin 1 → IVec S16 32) a x).toNat < S100352.size a := fun v203 k0_hw11 => k0_hw11

def k0_chk12 (v206 : IVec S16 32) : Prop :=
  (∀ a x, ((![v206] : Fin 1 → IVec S16 32) a x).toNat < S100352.size a)
theorem k0_idx12_inb : ∀ (v206 : IVec S16 32) (k0_hw12 : k0_chk12 v206), ∀ a x, ((![v206] : Fin 1 → IVec S16 32) a x).toNat < S100352.size a := fun v206 k0_hw12 => k0_hw12

def k0_chk13 (v211 : IVec S16 32) : Prop :=
  (∀ a x, ((![v211] : Fin 1 → IVec S16 32) a x).toNat < S100352.size a)
theorem k0_idx13_inb : ∀ (v211 : IVec S16 32) (k0_hw13 : k0_chk13 v211), ∀ a x, ((![v211] : Fin 1 → IVec S16 32) a x).toNat < S100352.size a := fun v211 k0_hw13 => k0_hw13

def k0_chk14 (v214 : IVec S16 32) : Prop :=
  (∀ a x, ((![v214] : Fin 1 → IVec S16 32) a x).toNat < S100352.size a)
theorem k0_idx14_inb : ∀ (v214 : IVec S16 32) (k0_hw14 : k0_chk14 v214), ∀ a x, ((![v214] : Fin 1 → IVec S16 32) a x).toNat < S100352.size a := fun v214 k0_hw14 => k0_hw14

def k0_chk15 (v219 : IVec S16 32) : Prop :=
  (∀ a x, ((![v219] : Fin 1 → IVec S16 32) a x).toNat < S100352.size a)
theorem k0_idx15_inb : ∀ (v219 : IVec S16 32) (k0_hw15 : k0_chk15 v219), ∀ a x, ((![v219] : Fin 1 → IVec S16 32) a x).toNat < S100352.size a := fun v219 k0_hw15 => k0_hw15

def k0_chk16 (v222 : IVec S16 32) : Prop :=
  (∀ a x, ((![v222] : Fin 1 → IVec S16 32) a x).toNat < S100352.size a)
theorem k0_idx16_inb : ∀ (v222 : IVec S16 32) (k0_hw16 : k0_chk16 v222), ∀ a x, ((![v222] : Fin 1 → IVec S16 32) a x).toNat < S100352.size a := fun v222 k0_hw16 => k0_hw16
def k0_off12 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6_i32_2 : BitVec 32 := 6#32
  let v6 : BitVec 32 := Scalar.muli v1 c6_i32_2
  let c0_i32_0 : BitVec 32 := 0#32
  let c1_i32 : BitVec 32 := 1#32
  let arg14 : BitVec 32 := Scf.iv c0_i32_0 c1_i32 k0_t1
  let v7 : BitVec 32 := Scalar.addi v6 arg14
  let c0_i32_3 : BitVec 32 := 0#32
  let v9 : BitVec 1 := Scalar.cmpi .sgt v7 c0_i32_3
  let v10 : BitVec 32 := Scalar.extui v9
  let c0_i32_4 : BitVec 32 := 0#32
  let v11 : BitVec 1 := Scalar.cmpi .slt v7 c0_i32_4
  let v12 : BitVec 32 := Scalar.extui v11
  let v13 : BitVec 32 := Scalar.subi v10 v12
  let c48_i32 : BitVec 32 := 48#32
  let c0_i32_5 : BitVec 32 := 0#32
  let v14 : BitVec 1 := Scalar.cmpi .sgt c48_i32 c0_i32_5
  let v15 : BitVec 32 := Scalar.extui v14
  let c0_i32_6 : BitVec 32 := 0#32
  let v16 : BitVec 1 := Scalar.cmpi .slt c48_i32 c0_i32_6
  let v17 : BitVec 32 := Scalar.extui v16
  let v18 : BitVec 32 := Scalar.subi v15 v17
  let v19 : BitVec 1 := Scalar.cmpi .ne v13 v18
  let v20 : BitVec 32 := Scalar.remsi v7 c48_i32
  let c0_i32_7 : BitVec 32 := 0#32
  let v21 : BitVec 1 := Scalar.cmpi .ne v20 c0_i32_7
  let v22 : BitVec 1 := Scalar.andi v19 v21
  let v8 : BitVec 32 := Scalar.divsi v7 c48_i32
  let c1_i32_8 : BitVec 32 := 1#32
  let v23 : BitVec 32 := Scalar.subi v8 c1_i32_8
  let v24 : BitVec 32 := Scalar.select v22 v23 v8
  let c48_i32_9 : BitVec 32 := 48#32
  let c0_i32_10 : BitVec 32 := 0#32
  let v25 : BitVec 1 := Scalar.cmpi .eq c48_i32_9 c0_i32_10
  let c1_i32_11 : BitVec 32 := 1#32
  let v26 : BitVec 32 := Scalar.select v25 c1_i32_11 c48_i32_9
  let v27 : BitVec 32 := Scalar.remsi v7 v26
  let c0_i32_13 : BitVec 32 := 0#32
  let v29 : BitVec 1 := Scalar.cmpi .slt v27 c0_i32_13
  let c0_i32_14 : BitVec 32 := 0#32
  let v30 : BitVec 1 := Scalar.cmpi .slt v26 c0_i32_14
  let v31 : BitVec 1 := Scalar.xori v29 v30
  let c0_i32_12 : BitVec 32 := 0#32
  let v28 : BitVec 1 := Scalar.cmpi .ne v27 c0_i32_12
  let v32 : BitVec 1 := Scalar.andi v31 v28
  let v33 : BitVec 32 := Scalar.addi v27 v26
  let v34 : BitVec 32 := Scalar.select v32 v33 v27
  let c2_i32_38 : BitVec 32 := 2#32
  let v53 : BitVec 32 := Scalar.muli v34 c2_i32_38
  let c50176_i32 : BitVec 32 := 50176#32
  let v54 : BitVec 32 := Scalar.muli v53 c50176_i32
  ![v24.toNat, v54.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== Proof.Val.lean ====
/- What the splatting kernel leaves in its tile accumulator, as plain functions of the two chunk
buffers: one block of sixteen pixels, one image row, one chunk, one whole task. -/
module

public import Idealize.ShloMosaic.PureOps.ShapeOps
public import Idealize.ShloMosaic.Lib.SparseCore.Ops

@[expose] public section

noncomputable section

namespace Splat

open Idealize.ShloMosaic

/-- Sixteen lanes. -/
abbrev N16 : Shape := ⟨1, ![16]⟩
/-- A tile's accumulator: two channel planes of 224 × 224. -/
abbrev NAcc : Shape := ⟨1, ![100352]⟩
/-- A chunk buffer: two halves of eight rows of 224. -/
abbrev NBuf : Shape := ⟨1, ![3584]⟩
/-- The packed images: batch, channel pair, chunk, two channels' rows. -/
abbrev NSrc : Shape := ⟨4, ![4, 48, 28, 3584]⟩
/-- The packed flow: batch, chunk, the x half and the y half. -/
abbrev NFl : Shape := ⟨3, ![4, 28, 3584]⟩
/-- The kernel's output: batch, channel and pixel flattened. -/
abbrev NOut : Shape := ⟨2, ![4, 4816896]⟩

variable {F : FTy → Type} [FloatOps F]

/-- A constant in all lanes, by its bits. -/
def cst (b : BitVec 32) : FVec F N16 .f32 := broadcast N16 (Scalar.ofBits .f32 b)

/-- Lane numbers as floats. -/
def lanes : FVec F N16 .f32 := sitofp .f32 (iota .scVector N16 32 [0] (by decide) : IVec N16 32)

/-- A lane's coordinate brought into [-2, 225]. -/
def clip (v : FVec F N16 .f32) : FVec F N16 .f32 :=
  minimumf (cst 0x43610000#32) (maximumf (cst 0xC0000000#32) v)

/-- Truncation there and back. -/
def back (v : FVec F N16 .f32) : FVec F N16 .f32 := sitofp .f32 (fptosi 32 v)

/-- The floor as a float, by truncation and a correction. -/
def flo (v : FVec F N16 .f32) : FVec F N16 .f32 :=
  select (cmpf .olt v (back v)) (subf (back v) (cst 0x3F800000#32)) (back v)

/-- The floor as a word, by truncation and a correction. -/
def floi (v : FVec F N16 .f32) : IVec N16 32 :=
  select (cmpf .olt v (back v)) (subi (fptosi 32 v) (broadcast N16 1#32)) (fptosi 32 v)

/-- Between two constants, both included. -/
def between (lo hi : BitVec 32) (v : FVec F N16 .f32) : IVec N16 1 :=
  andi (cmpf .oge v (cst lo)) (cmpf .ole v (cst hi))

/-- The left (upper) neighbour lies in the image. -/
def ok0 (v : FVec F N16 .f32) : IVec N16 1 := between 0x00000000#32 0x435F0000#32 v
/-- The right (lower) neighbour lies in the image. -/
def ok1 (v : FVec F N16 .f32) : IVec N16 1 := between 0xBF800000#32 0x435E0000#32 v

/-- The fractional part, the far neighbour's weight. -/
def frac (v : FVec F N16 .f32) : FVec F N16 .f32 := subf v (flo v)
/-- One minus the fractional part, the near neighbour's weight. -/
def cofrac (v : FVec F N16 .f32) : FVec F N16 .f32 := subf (cst 0x3F800000#32) (frac v)

/-- The upper left neighbour's position in a plane. -/
def cell (X Y : FVec F N16 .f32) : IVec N16 32 := addi (muli (floi Y) (broadcast N16 224#32)) (floi X)

/-- A word added in all lanes. -/
def plus (v : IVec N16 32) (b : BitVec 32) : IVec N16 32 := addi v (broadcast N16 b)

/-- Every lane brought into a plane's places: the guarded kernel's one operation more on an index. -/
def clipIx (v : IVec N16 32) : IVec N16 32 := minsi (broadcast N16 50175#32) (maxsi (broadcast N16 0#32) v)

/-- Every lane names a place of the accumulator. -/
def InAcc (v : IVec N16 32) : Prop := ∀ a x, ((![v] : Fin 1 → IVec N16 32) a x).toNat < NAcc.size a

open scoped Classical in
/-- The accumulator after one masked indexed add, when every lane names a place of it. -/
def upd (g : Vec F NAcc .f32) (ix : IVec N16 32) (v : Vec F N16 .f32) (m : IVec N16 1) : Vec F NAcc .f32 :=
  if h : InAcc ix then storeIdx g ![ix] v m true h else g

theorem upd_eq (g : Vec F NAcc .f32) (ix : IVec N16 32) (v : Vec F N16 .f32) (m : IVec N16 1) (h : InAcc ix) :
    storeIdx g ![ix] v m true h = upd g ix v m := (dif_pos h).symm

/-- The positions of the four neighbours of sixteen pixels; `q` is applied to each. -/
def nb (q : IVec N16 32 → IVec N16 32) (X Y : FVec F N16 .f32) : Fin 4 → IVec N16 32 :=
  ![q (cell X Y), q (plus (cell X Y) 1#32), q (plus (cell X Y) 224#32), q (plus (plus (cell X Y) 224#32) 1#32)]

/-- All eight index vectors of sixteen pixels name places of the accumulator. -/
def Fits (q : IVec N16 32 → IVec N16 32) (X Y : FVec F N16 .f32) : Prop :=
  ∀ k, InAcc (nb q X Y k) ∧ InAcc (plus (nb q X Y k) 50176#32)

/-- Which of the four neighbours lie in the image. -/
def msk (X Y : FVec F N16 .f32) : Fin 4 → IVec N16 1 :=
  ![andi (ok0 (flo X)) (ok0 (flo Y)), andi (ok1 (flo X)) (ok0 (flo Y)), andi (ok0 (flo X)) (ok1 (flo Y)),
    andi (ok1 (flo X)) (ok1 (flo Y))]

/-- The four bilinear weights. -/
def wgt (X Y : FVec F N16 .f32) : Fin 4 → FVec F N16 .f32 :=
  ![mulf (cofrac X) (cofrac Y), mulf (frac X) (cofrac Y), mulf (cofrac X) (frac Y), mulf (frac X) (frac Y)]

/-- Sixteen pixels added to one of their neighbours, in both channel planes. -/
def splat1 (q : IVec N16 32 → IVec N16 32) (X Y : FVec F N16 .f32) (s₀ s₁ : Vec F N16 .f32) (k : Fin 4)
    (g : Vec F NAcc .f32) : Vec F NAcc .f32 :=
  upd (upd g (nb q X Y k) (mulf (φ := .f32) s₀ (wgt X Y k)) (msk X Y k))
    (plus (nb q X Y k) 50176#32) (mulf (φ := .f32) s₁ (wgt X Y k)) (msk X Y k)

/-- Sixteen pixels of one row added to their four neighbours. -/
def splat (q : IVec N16 32 → IVec N16 32) (X Y : FVec F N16 .f32) (s₀ s₁ : Vec F N16 .f32)
    (g : Vec F NAcc .f32) : Vec F NAcc .f32 :=
  splat1 q X Y s₀ s₁ 3 (splat1 q X Y s₀ s₁ 2 (splat1 q X Y s₀ s₁ 1 (splat1 q X Y s₀ s₁ 0 g)))

/-- The index of a shape with the given coordinates, each taken modulo its extent. -/
def pos (s : Shape) (h : ∀ a, 0 < s.size a) (v : Fin s.rank → ℕ) : s.Idx := fun a => ⟨v a % s.size a, Nat.mod_lt _ (h a)⟩

/-- Sixteen consecutive elements of a chunk buffer. -/
def ld (f : Vec F NBuf .f32) (n : ℕ) : Vec F N16 .f32 := fun x => f (pos NBuf (by decide) fun _ => n + (x 0).val)

/-- The clipped horizontal landing coordinates of block `b` of row `r` of a chunk. -/
def xs (fl : Vec F NBuf .f32) (r b : ℕ) : FVec F N16 .f32 :=
  clip (addf (addf lanes (broadcast N16 (Scalar.sitofp .f32 (BitVec.ofNat 32 (16 * b))))) (ld fl (224 * r + 16 * b)))

/-- The clipped vertical landing coordinates of block `b` of row `r` of chunk `c`. -/
def ys (fl : Vec F NBuf .f32) (c r b : ℕ) : FVec F N16 .f32 :=
  clip (addf (broadcast N16 (Scalar.sitofp .f32 (BitVec.ofNat 32 (8 * c + r)))) (ld fl (224 * r + 16 * b + 1792)))

/-- One block added to the accumulator. -/
def blk (q : IVec N16 32 → IVec N16 32) (src fl : Vec F NBuf .f32) (c r b : ℕ) (g : Vec F NAcc .f32) : Vec F NAcc .f32 :=
  splat q (xs fl r b) (ys fl c r b) (ld src (224 * r + 16 * b)) (ld src (224 * r + 16 * b + 1792)) g

/-- The first `n` blocks of a row. -/
def row (q : IVec N16 32 → IVec N16 32) (src fl : Vec F NBuf .f32) (c r : ℕ) (g : Vec F NAcc .f32) : ℕ → Vec F NAcc .f32
  | 0 => g
  | n + 1 => blk q src fl c r n (row q src fl c r g n)

/-- The first `n` rows of a chunk. -/
def chunk (q : IVec N16 32 → IVec N16 32) (src fl : Vec F NBuf .f32) (c : ℕ) (g : Vec F NAcc .f32) : ℕ → Vec F NAcc .f32
  | 0 => g
  | n + 1 => row q src fl c n (chunk q src fl c g n) 14

/-- The first `n` chunks of a task, from an accumulator of zeros. -/
def task (q : IVec N16 32 → IVec N16 32) (src fl : ℕ → Vec F NBuf .f32) : ℕ → Vec F NAcc .f32
  | 0 => fun _ => Scalar.ofBits .f32 0x00000000#32
  | n + 1 => chunk q (src n) (fl n) n (task q src fl n) 8

/-- Every block of every chunk of a batch's flow names places of the accumulator. -/
def FitsAll (q : IVec N16 32 → IVec N16 32) (fl : ℕ → Vec F NBuf .f32) : Prop :=
  ∀ c < 28, ∀ r < 8, ∀ b < 14, Fits q (xs (fl c) r b) (ys (fl c) c r b)

/-- A task's chunk out of the packed images. -/
def srcOf (f : Vec F NSrc .f32) (b p c : ℕ) : Vec F NBuf .f32 := fun j => f (pos NSrc (by decide) ![b, p, c, (j 0).val])

/-- A batch's chunk out of the packed flow. -/
def flOf (f : Vec F NFl .f32) (b c : ℕ) : Vec F NBuf .f32 := fun j => f (pos NFl (by decide) ![b, c, (j 0).val])

/-- The kernel's whole output: position `100352 p + e` of batch `b` is element `e` of the task of
channel pair `p` of batch `b`. -/
def out (q : IVec N16 32 → IVec N16 32) (f : Vec F NSrc .f32) (g : Vec F NFl .f32) : Vec F NOut .f32 := fun j =>
  task q (srcOf f (j 0).val ((j 1).val / 100352)) (flOf g (j 0).val) 28 (pos NAcc (by decide) fun _ => (j 1).val)

end Splat
-- ==== Proof.KI.Base.lean ====
/- The idealized kernel's threads and buffers, named once, and the two steps its inner loops take:
a load of sixteen consecutive elements, and a masked indexed add into the accumulator. -/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton
public import proofs.«01_k».proof.Proof.Val

@[expose] public section

noncomputable section

namespace Splat.KI

open Cert.KernelIdeal Cert.KernelIdeal.Gen
open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)
open Idealize.ShloMosaic.Tactic

variable {F : FTy → Type}

/-- The labels of this program's pipelines and calls. -/
abbrev ΛP : Labels := Pipeline.Sig Λ₀ (Fin 0) fun p => (pcfgs (F := F) p).Adm
/-- The launch's configuration. -/
abbrev K : SparseCore.Cfg τ sig (ΛP (F := F)) 1 := sc (F := F)
/-- The program's definitions. -/
abbrev D [FloatOps F] : Defs nD τ sig (Elt F) (ΛP (F := F)) := Pipeline.defs pcfgs defs₀
/-- No loop of the kernel needs a variant. -/
abbrev 𝒱₀ : Variants := Variants.none

/-- The launch's cells and the transfers' counters. -/
abbrev UH : Type := URounds (GSem nD τ sig) ℕ
/-- The ghost state of the run. -/
abbrev UU : Type := UH × Counters

local notation "𝕄" => MT nD τ sig (HIx 1) (Elt F) ℕ UU ℕ

/-- The SparseCore of a grid point. -/
abbrev cV (L : grid0.Coords) : Fin τ.nSC := (L 0).castLE hcore0
/-- The tile of a grid point. -/
abbrev jV (L : grid0.Coords) : Fin τ.nSub := (L 1).castLE hsub0
/-- The thread of a grid point. -/
abbrev VT (d : Dev nD) (L : grid0.Coords) : Thread nD τ := V d (cV L) (jV L)

/-- The packed images. -/
abbrev mI : Memref sig .scVector .hbm S4x48x28x3584 .f32 := Memref.whole main_v2_scv
/-- The packed flow. -/
abbrev mF : Memref sig .scVector .hbm S4x28x3584 .f32 := Memref.whole main_v5_scv
/-- The output. -/
abbrev mO : Memref sig .scVector .hbm S4x4816896 .f32 := Memref.whole main_v6_scv
/-- A tile's accumulator. -/
abbrev mA : Memref sig .scVector .vmem S100352 .f32 := Memref.whole cc0_scratch0
/-- A tile's first image buffer. -/
abbrev mSa : Memref sig .scVector .vmem S3584 .f32 := Memref.whole cc0_scratch1
/-- A tile's second image buffer. -/
abbrev mSb : Memref sig .scVector .vmem S3584 .f32 := Memref.whole cc0_scratch2
/-- A tile's first flow buffer. -/
abbrev mFa : Memref sig .scVector .vmem S3584 .f32 := Memref.whole cc0_scratch3
/-- A tile's second flow buffer. -/
abbrev mFb : Memref sig .scVector .vmem S3584 .f32 := Memref.whole cc0_scratch4

variable [FloatOps F]

/-- One block of a row out of the first pair of buffers. -/
abbrev b5 (L : grid0.Coords) (v3 : FVec F S16 .f32) (t1 : Fin k0_t1_loop.trips) (c0 c1 : BitVec 32) (t3 : Fin k0_t3_loop.trips)
    (t4 : Fin k0_t4_loop.trips) (a : BitVec 32) :=
  k0_t5_body (F := F) L mI (Memref.isWhole_whole _) mF (Memref.isWhole_whole _) mO (Memref.isWhole_whole _)
    mA (Memref.isWhole_whole _) mSa (Memref.isWhole_whole _) mSb (Memref.isWhole_whole _) mFa (Memref.isWhole_whole _)
    mFb (Memref.isWhole_whole _) cc0_scratch5 cc0_scratch6 cc0_scratch7 cc0_scratch8 cc0_scoped0 v3 t1 c0 c1 t3 t4 a

/-- One block of a row out of the second pair of buffers. -/
abbrev b7 (L : grid0.Coords) (v57 : BitVec 32) (t6 : Fin k0_t6_loop.trips) (a : BitVec 32) :=
  k0_t7_body (F := F) L mI (Memref.isWhole_whole _) mF (Memref.isWhole_whole _) mO (Memref.isWhole_whole _)
    mA (Memref.isWhole_whole _) mSa (Memref.isWhole_whole _) mSb (Memref.isWhole_whole _) mFa (Memref.isWhole_whole _)
    mFb (Memref.isWhole_whole _) cc0_scratch5 cc0_scratch6 cc0_scratch7 cc0_scratch8 cc0_scoped0 v57 t6 a

/-- A buffer of a tile's own memory, held outright. -/
abbrev own (d : Dev nD) (L : grid0.Coords) (b : Ref sig .scVector) (f : Buf (Elt F) ((VT d L).loc b)) : sProp 𝕄 :=
  (VT d L).loc b ↦{fullShare} f

/-- A masked indexed add at the head of a tile's program: the accumulator, held outright, goes on
holding the scattered sums. -/
theorem wp_add (d : Dev nD) (L : grid0.Coords) {α : Type} {Q : α → sProp 𝕄} (ix : IVec S16 32) (v : Vec F S16 .f32)
    (m : IVec S16 1) (h : ∀ a x, ((![ix] : Fin 1 → IVec S16 32) a x).toNat < S100352.size a)
    (hs : (mA.access (.whole S100352)).Stores Finset.univ)
    (k : PUnit → Prog (TpuEff nD τ sig (Elt F) Λ₀ (VT d L).2) α) (g : Vec F NAcc .f32) :
    own d L cc0_scratch0 g
      ⊢ iprop((own d L cc0_scratch0 (upd g ix v m) -∗ wp frame (wpE (defs₀ (F := F)) 𝒱₀ (VT d L) none) Set.univ (k ⟨⟩) Q)
        -∗ wp frame (wpE (defs₀ (F := F)) 𝒱₀ (VT d L) none) Set.univ
            (SparseCore.vectorStoreIdx mA ![ix] v m true h hs >>= k) Q) := by
  have hset : (mA.access (.whole S100352)).set = Finset.univ := Memref.set_access_whole _
  have hb := SparseCore.wp_vectorStoreIdx (Q := Q) (defs := defs₀ (F := F)) 𝒱₀ (VT d L) none Set.univ (base := mA) (idxs := ![ix]) (v := v)
    (mask := m) (add := true) (h := h) (hs := hs) (k := k) (f := g)
  have hw : ∀ f w, (mA.access (.whole S100352)).write (Elt F) f w Finset.univ = w :=
    Memref.write_access_whole_univ (Elt F) cc0_scratch0
  have hr : ∀ f, (mA.access (.whole S100352)).read (Elt F) f = f := Memref.read_access_whole (Elt F) cc0_scratch0
  rw [hset, hw, hr] at hb
  rw [← upd_eq g ix v m h]
  exact hb

/-- The element a unit rectangle's index names. -/
theorem at_unit {n : ℕ} (hn : n + 16 ≤ 3584) {off : Fin 1 → ℕ} (ho : off = ![n]) (h : ∀ a, off a + S16.size a ≤ S3584.size a) (x : S16.Idx) :
    ((Rect.unit (s := S3584) off S16.size h).toLoadRect.idx x : NBuf.Idx) = pos NBuf (by decide) fun _ => n + (x 0).val := by
  subst ho
  funext a
  have h0 : a = 0 := Fin.eq_zero a
  subst h0
  have hx : (x 0).val < 16 := (x 0).isLt
  apply Fin.ext
  show n + 1 * (x 0).val = (n + (x 0).val) % 3584
  rw [Nat.mod_eq_of_lt (by omega)]
  omega

/-- A load of sixteen elements of the first flow buffer. -/
theorem read_Fa (f : Vec F NBuf .f32) {n : ℕ} (hn : n + 16 ≤ 3584) {off : Fin 1 → ℕ} (ho : off = ![n]) (h : ∀ a, off a + S16.size a ≤ S3584.size a) :
    mFa.view.readAt (Elt F) (Rect.unit (s := S3584) off S16.size h).toLoadRect f = ld f n :=
  funext fun x => congrArg f (at_unit hn ho h x)

/-- A load of sixteen elements of the second flow buffer. -/
theorem read_Fb (f : Vec F NBuf .f32) {n : ℕ} (hn : n + 16 ≤ 3584) {off : Fin 1 → ℕ} (ho : off = ![n]) (h : ∀ a, off a + S16.size a ≤ S3584.size a) :
    mFb.view.readAt (Elt F) (Rect.unit (s := S3584) off S16.size h).toLoadRect f = ld f n :=
  funext fun x => congrArg f (at_unit hn ho h x)

/-- A load of sixteen elements of the first image buffer. -/
theorem read_Sa (f : Vec F NBuf .f32) {n : ℕ} (hn : n + 16 ≤ 3584) {off : Fin 1 → ℕ} (ho : off = ![n]) (h : ∀ a, off a + S16.size a ≤ S3584.size a) :
    mSa.view.readAt (Elt F) (Rect.unit (s := S3584) off S16.size h).toLoadRect f = ld f n :=
  funext fun x => congrArg f (at_unit hn ho h x)

/-- A load of sixteen elements of the second image buffer. -/
theorem read_Sb (f : Vec F NBuf .f32) {n : ℕ} (hn : n + 16 ≤ 3584) {off : Fin 1 → ℕ} (ho : off = ![n]) (h : ∀ a, off a + S16.size a ≤ S3584.size a) :
    mSb.view.readAt (Elt F) (Rect.unit (s := S3584) off S16.size h).toLoadRect f = ld f n :=
  funext fun x => congrArg f (at_unit hn ho h x)

end Splat.KI
-- ==== Proof.KI.Trip.lean ====
/- One block of a row, out of either pair of buffers: eight masked indexed adds. -/
module

public import proofs.«01_k».proof.Proof.KI.Base

@[expose] public section

noncomputable section

namespace Splat.KI

open Cert.KernelIdeal Cert.KernelIdeal.Gen
open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)
open Idealize.ShloMosaic.Tactic

variable {F : FTy → Type} [FloatOps F]

local notation "𝕄" => MT nD τ sig (HIx 1) (Elt F) ℕ UU ℕ

/-- The first column of a block. -/
theorem mul16 : ∀ t : Fin 14, Scalar.muli (Scf.iv 0#32 1#32 t.val) 16#32 = BitVec.ofNat 32 (16 * t.val) := by decide

/-- The image row of a row of an even chunk. -/
theorem rowA : ∀ (t : Fin 14) (r : Fin 8), Scalar.addi (Scalar.muli (Scalar.muli 2#32 (Scf.iv 0#32 1#32 t.val)) 8#32) (Scf.iv 0#32 1#32 r.val)
    = BitVec.ofNat 32 (8 * (2 * t.val) + r.val) := by decide

/-- The image row of a row of an odd chunk. -/
theorem rowB : ∀ (t : Fin 14) (r : Fin 8), Scalar.addi (Scalar.muli (Scalar.addi (Scalar.muli 2#32 (Scf.iv 0#32 1#32 t.val)) 1#32) 8#32) (Scf.iv 0#32 1#32 r.val)
    = BitVec.ofNat 32 (8 * (2 * t.val + 1) + r.val) := by decide

/-- A block out of the first pair of buffers adds that block to the accumulator. -/
theorem trip5 (d : Dev nD) (L : grid0.Coords) (t1 : Fin k0_t1_loop.trips) (t3 : Fin k0_t3_loop.trips)
    (t4 : Fin k0_t4_loop.trips) (t5 : Fin k0_t5_loop.trips) (g : Vec F NAcc .f32) (s f : Vec F NBuf .f32)
    (hfit : Fits id (xs f t4.val t5.val) (ys f (2 * t3.val) t4.val t5.val)) :
    iprop(own d L cc0_scratch0 g ∗ own d L cc0_scratch1 s ∗ own d L cc0_scratch3 f)
      ⊢ wp frame (wpE (defs₀ (F := F)) 𝒱₀ (VT d L) none) Set.univ
          (b5 L (k0_pay1 (F := F)) t1 0#32 1#32 t3 t4 (Scf.iv 0#32 1#32 t4) t5 ())
          fun _ => (iprop(own d L cc0_scratch0 (blk id s f (2 * t3.val) t4.val t5.val g) ∗ own d L cc0_scratch1 s ∗ own d L cc0_scratch3 f) : sProp 𝕄) := by
  have h4 : t4.val < 8 := t4.isLt
  have h5 : t5.val < 14 := t5.isLt
  have hX : xs f t4.val t5.val = k0_pay19 (k0_pay1 (F := F)) 0#32 1#32 t5 (ld f (224 * t4.val + 16 * t5.val)) := by
    unfold xs; rw [← mul16 t5]; rfl
  have hY : ys f (2 * t3.val) t4.val t5.val = k0_pay20 (k0_pay77 (F := F) 0#32 1#32 t3 t4) (ld f (224 * t4.val + 16 * t5.val + 1792)) := by
    unfold ys; rw [← rowA t3 t4]; rfl
  rw [hX, hY] at hfit
  unfold blk
  rw [hX, hY]
  unfold b5 k0_t5_body
  simp only [k0_part1_eq_skeleton, k0_part2_eq_skeleton]
  unfold k0_part1_skel k0_part2_skel
  simp only [Prog.lift, Prog.bind_op, Prog.bind_ret, Prog.pure_eq_ret, Prog.bind_assoc]
  iintro ⟨Hg, Hs, Hf⟩
  iapply (wp_load 𝒱₀ (VT d L) none Set.univ (m := mFa) (S := Finset.univ) (Finset.subset_univ _)) $$ Hf; iintro Hf
  rw [read_Fa f (n := 224 * t4.val + 16 * t5.val) (by omega) (k0_off6_eq t4 t5)]
  iapply (wp_load 𝒱₀ (VT d L) none Set.univ (m := mFa) (S := Finset.univ) (Finset.subset_univ _)) $$ Hf; iintro Hf
  rw [read_Fa f (n := 224 * t4.val + 16 * t5.val + 1792) (by omega) (k0_off7_eq t4 t5)]
  iapply (wp_assume 𝒱₀ (VT d L) none Set.univ (hfit 0).1)
  iapply (wp_load 𝒱₀ (VT d L) none Set.univ (m := mSa) (S := Finset.univ) (Finset.subset_univ _)) $$ Hs; iintro Hs
  rw [read_Sa s (n := 224 * t4.val + 16 * t5.val) (by omega) (k0_off6_eq t4 t5)]
  iapply (wp_load 𝒱₀ (VT d L) none Set.univ (m := mSa) (S := Finset.univ) (Finset.subset_univ _)) $$ Hs; iintro Hs
  rw [read_Sa s (n := 224 * t4.val + 16 * t5.val + 1792) (by omega) (k0_off7_eq t4 t5)]
  iapply (wp_assume 𝒱₀ (VT d L) none Set.univ (hfit 1).1)
  iapply (wp_assume 𝒱₀ (VT d L) none Set.univ (hfit 2).1)
  iapply (wp_assume 𝒱₀ (VT d L) none Set.univ (hfit 3).1)
  iapply (wp_add d L) $$ Hg; iintro Hg
  iapply (wp_assume 𝒱₀ (VT d L) none Set.univ (hfit 0).2)
  iapply (wp_add d L) $$ Hg; iintro Hg
  iapply (wp_add d L) $$ Hg; iintro Hg
  iapply (wp_assume 𝒱₀ (VT d L) none Set.univ (hfit 1).2)
  iapply (wp_add d L) $$ Hg; iintro Hg
  iapply (wp_add d L) $$ Hg; iintro Hg
  iapply (wp_assume 𝒱₀ (VT d L) none Set.univ (hfit 2).2)
  iapply (wp_add d L) $$ Hg; iintro Hg
  iapply (wp_add d L) $$ Hg; iintro Hg
  iapply (wp_assume 𝒱₀ (VT d L) none Set.univ (hfit 3).2)
  iapply (wp_add d L) $$ Hg; iintro Hg
  rw [wp_ret]; imodintro
  isplitl [Hg]; · iexact Hg
  isplitl [Hs]; · iexact Hs
  iexact Hf

/-- The number of a pair's second chunk, as the kernel computes it. -/
abbrev odd (t3 : Fin k0_t3_loop.trips) : BitVec 32 := Scalar.addi (Scalar.muli 2#32 (Scf.iv 0#32 1#32 t3)) 1#32

/-- A block out of the second pair of buffers adds that block to the accumulator. -/
theorem trip7 (d : Dev nD) (L : grid0.Coords) (t3 : Fin k0_t3_loop.trips)
    (t6 : Fin k0_t6_loop.trips) (t7 : Fin k0_t7_loop.trips) (g : Vec F NAcc .f32) (s f : Vec F NBuf .f32)
    (hfit : Fits id (xs f t6.val t7.val) (ys f (2 * t3.val + 1) t6.val t7.val)) :
    iprop(own d L cc0_scratch0 g ∗ own d L cc0_scratch2 s ∗ own d L cc0_scratch4 f)
      ⊢ wp frame (wpE (defs₀ (F := F)) 𝒱₀ (VT d L) none) Set.univ
          (b7 L (odd t3) t6 (Scf.iv 0#32 1#32 t6) t7 ())
          fun _ => (iprop(own d L cc0_scratch0 (blk id s f (2 * t3.val + 1) t6.val t7.val g) ∗ own d L cc0_scratch2 s ∗ own d L cc0_scratch4 f) : sProp 𝕄) := by
  have h4 : t6.val < 8 := t6.isLt
  have h5 : t7.val < 14 := t7.isLt
  have hX : xs f t6.val t7.val = k0_pay48 (k0_pay1 (F := F)) 0#32 1#32 t7 (ld f (224 * t6.val + 16 * t7.val)) := by
    unfold xs; rw [← mul16 t7]; rfl
  have hY : ys f (2 * t3.val + 1) t6.val t7.val = k0_pay49 (k0_pay3 (F := F) (odd t3) t6) (ld f (224 * t6.val + 16 * t7.val + 1792)) := by
    unfold ys; rw [← rowB t3 t6]; rfl
  rw [hX, hY] at hfit
  unfold blk
  rw [hX, hY]
  unfold b7 k0_t7_body
  simp only [k0_part3_eq_skeleton, k0_part4_eq_skeleton]
  unfold k0_part3_skel k0_part4_skel
  simp only [Prog.lift, Prog.bind_op, Prog.bind_ret, Prog.pure_eq_ret, Prog.bind_assoc]
  iintro ⟨Hg, Hs, Hf⟩
  iapply (wp_load 𝒱₀ (VT d L) none Set.univ (m := mFb) (S := Finset.univ) (Finset.subset_univ _)) $$ Hf; iintro Hf
  rw [read_Fb f (n := 224 * t6.val + 16 * t7.val) (by omega) (k0_off10_eq t6 t7)]
  iapply (wp_load 𝒱₀ (VT d L) none Set.univ (m := mFb) (S := Finset.univ) (Finset.subset_univ _)) $$ Hf; iintro Hf
  rw [read_Fb f (n := 224 * t6.val + 16 * t7.val + 1792) (by omega) (k0_off11_eq t6 t7)]
  iapply (wp_assume 𝒱₀ (VT d L) none Set.univ (hfit 0).1)
  iapply (wp_load 𝒱₀ (VT d L) none Set.univ (m := mSb) (S := Finset.univ) (Finset.subset_univ _)) $$ Hs; iintro Hs
  rw [read_Sb s (n := 224 * t6.val + 16 * t7.val) (by omega) (k0_off10_eq t6 t7)]
  iapply (wp_load 𝒱₀ (VT d L) none Set.univ (m := mSb) (S := Finset.univ) (Finset.subset_univ _)) $$ Hs; iintro Hs
  rw [read_Sb s (n := 224 * t6.val + 16 * t7.val + 1792) (by omega) (k0_off11_eq t6 t7)]
  iapply (wp_assume 𝒱₀ (VT d L) none Set.univ (hfit 1).1)
  iapply (wp_assume 𝒱₀ (VT d L) none Set.univ (hfit 2).1)
  iapply (wp_assume 𝒱₀ (VT d L) none Set.univ (hfit 3).1)
  iapply (wp_add d L) $$ Hg; iintro Hg
  iapply (wp_assume 𝒱₀ (VT d L) none Set.univ (hfit 0).2)
  iapply (wp_add d L) $$ Hg; iintro Hg
  iapply (wp_add d L) $$ Hg; iintro Hg
  iapply (wp_assume 𝒱₀ (VT d L) none Set.univ (hfit 1).2)
  iapply (wp_add d L) $$ Hg; iintro Hg
  iapply (wp_add d L) $$ Hg; iintro Hg
  iapply (wp_assume 𝒱₀ (VT d L) none Set.univ (hfit 2).2)
  iapply (wp_add d L) $$ Hg; iintro Hg
  iapply (wp_add d L) $$ Hg; iintro Hg
  iapply (wp_assume 𝒱₀ (VT d L) none Set.univ (hfit 3).2)
  iapply (wp_add d L) $$ Hg; iintro Hg
  rw [wp_ret]; imodintro
  isplitl [Hg]; · iexact Hg
  isplitl [Hs]; · iexact Hs
  iexact Hf

/-- One row out of the first pair of buffers. -/
abbrev b4 (L : grid0.Coords) (t1 : Fin k0_t1_loop.trips) (t3 : Fin k0_t3_loop.trips) :=
  k0_t4_body (F := F) L mI (Memref.isWhole_whole _) mF (Memref.isWhole_whole _) mO (Memref.isWhole_whole _)
    mA (Memref.isWhole_whole _) mSa (Memref.isWhole_whole _) mSb (Memref.isWhole_whole _) mFa (Memref.isWhole_whole _)
    mFb (Memref.isWhole_whole _) cc0_scratch5 cc0_scratch6 cc0_scratch7 cc0_scratch8 cc0_scoped0 (k0_pay1 (F := F)) t1 0#32 1#32 t3

/-- One row out of the second pair of buffers. -/
abbrev b6 (L : grid0.Coords) (v57 : BitVec 32) :=
  k0_t6_body (F := F) L mI (Memref.isWhole_whole _) mF (Memref.isWhole_whole _) mO (Memref.isWhole_whole _)
    mA (Memref.isWhole_whole _) mSa (Memref.isWhole_whole _) mSb (Memref.isWhole_whole _) mFa (Memref.isWhole_whole _)
    mFb (Memref.isWhole_whole _) cc0_scratch5 cc0_scratch6 cc0_scratch7 cc0_scratch8 cc0_scoped0 v57

/-- A row out of the first pair of buffers adds its fourteen blocks. -/
theorem row4 (d : Dev nD) (L : grid0.Coords) (t1 : Fin k0_t1_loop.trips) (t3 : Fin k0_t3_loop.trips)
    (t4 : Fin k0_t4_loop.trips) (g : Vec F NAcc .f32) (s f : Vec F NBuf .f32)
    (hfit : ∀ b < 14, Fits id (xs f t4.val b) (ys f (2 * t3.val) t4.val b)) :
    iprop(own d L cc0_scratch0 g ∗ own d L cc0_scratch1 s ∗ own d L cc0_scratch3 f)
      ⊢ wp frame (wpE (defs₀ (F := F)) 𝒱₀ (VT d L) none) Set.univ (b4 L t1 t3 t4 ())
          fun _ => (iprop(own d L cc0_scratch0 (row id s f (2 * t3.val) t4.val g 14) ∗ own d L cc0_scratch1 s ∗ own d L cc0_scratch3 f) : sProp 𝕄) := by
  unfold b4 k0_t4_body
  dsimp only
  iintro ⟨Hg, Hs, Hf⟩
  sl_for (fun k _ => (iprop(own d L cc0_scratch0 (row id s f (2 * t3.val) t4.val g k) ∗ own d L cc0_scratch1 s ∗ own d L cc0_scratch3 f) : sProp 𝕄)) $$ [Hg Hs Hf]
  case region =>
    intro k _
    exact trip5 d L t1 t3 t4 k (row id s f (2 * t3.val) t4.val g k.val) s f (hfit _ k.isLt)
  · isplitl [Hg]; · iexact Hg
    isplitl [Hs]; · iexact Hs
    iexact Hf
  iintro %_ HI
  icases HI with ⟨Hg, Hs, Hf⟩
  sl_step
  isplitl [Hg]; · iexact Hg
  isplitl [Hs]; · iexact Hs
  iexact Hf

/-- A row out of the second pair of buffers adds its fourteen blocks. -/
theorem row6 (d : Dev nD) (L : grid0.Coords) (t3 : Fin k0_t3_loop.trips)
    (t6 : Fin k0_t6_loop.trips) (g : Vec F NAcc .f32) (s f : Vec F NBuf .f32)
    (hfit : ∀ b < 14, Fits id (xs f t6.val b) (ys f (2 * t3.val + 1) t6.val b)) :
    iprop(own d L cc0_scratch0 g ∗ own d L cc0_scratch2 s ∗ own d L cc0_scratch4 f)
      ⊢ wp frame (wpE (defs₀ (F := F)) 𝒱₀ (VT d L) none) Set.univ (b6 L (odd t3) t6 ())
          fun _ => (iprop(own d L cc0_scratch0 (row id s f (2 * t3.val + 1) t6.val g 14) ∗ own d L cc0_scratch2 s ∗ own d L cc0_scratch4 f) : sProp 𝕄) := by
  unfold b6 k0_t6_body
  dsimp only
  iintro ⟨Hg, Hs, Hf⟩
  sl_for (fun k _ => (iprop(own d L cc0_scratch0 (row id s f (2 * t3.val + 1) t6.val g k) ∗ own d L cc0_scratch2 s ∗ own d L cc0_scratch4 f) : sProp 𝕄)) $$ [Hg Hs Hf]
  case region =>
    intro k _
    exact trip7 d L t3 t6 k (row id s f (2 * t3.val + 1) t6.val g k.val) s f (hfit _ k.isLt)
  · isplitl [Hg]; · iexact Hg
    isplitl [Hs]; · iexact Hs
    iexact Hf
  iintro %_ HI
  icases HI with ⟨Hg, Hs, Hf⟩
  sl_step
  isplitl [Hg]; · iexact Hg
  isplitl [Hs]; · iexact Hs
  iexact Hf

end Splat.KI
-- ==== Proof.KI.Copies.lean ====
/- The copies of the kernel: where their slices lie, what they read and write, and how one is
started and waited for. -/
module

public import proofs.«01_k».proof.Proof.KI.Trip
public import Idealize.ShloMosaic.Lib.Transfers
public import Idealize.ShloMosaic.Lib.Pointwise.Reshape

@[expose] public section

noncomputable section

namespace Splat.KI

open Cert.KernelIdeal Cert.KernelIdeal.Gen
open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)
open Idealize.ShloMosaic.Tactic

variable {F : FTy → Type} [FloatOps F]

local notation "𝕄" => MT nD τ sig (HIx 1) (Elt F) ℕ UU ℕ

/-- The transfers' counters. -/
abbrev EC : UEmb Counters 𝕄 := countersEmb

/-- A task's number. -/
abbrev tn (L : grid0.Coords) (t1 : Fin k0_t1_loop.trips) : ℕ := ((L 1).val * 2 + (L 0).val) * 6 + t1.val
/-- A task's batch. -/
abbrev tb (L : grid0.Coords) (t1 : Fin k0_t1_loop.trips) : ℕ := tn L t1 / 48
/-- A task's channel pair. -/
abbrev tp (L : grid0.Coords) (t1 : Fin k0_t1_loop.trips) : ℕ := tn L t1 % 48

theorem off1_eq : ∀ (L : grid0.Coords) (t1 : Fin k0_t1_loop.trips), k0_off1 L t1 = ![tb L t1, tp L t1, 0, 0] := by decide +kernel
theorem off2_eq : ∀ (L : grid0.Coords) (t1 : Fin k0_t1_loop.trips), k0_off2 L t1 = ![tb L t1, 0, 0] := by decide +kernel
theorem off12_eq : ∀ (L : grid0.Coords) (t1 : Fin k0_t1_loop.trips), k0_off12 L t1 = ![tb L t1, 100352 * tp L t1] := by decide +kernel

/-- The number of a pair's second chunk. -/
theorem odd_toNat : ∀ t : Fin 14, (odd t).toNat = 2 * t.val + 1 := by decide
/-- The number of the next pair's first chunk, wrapping around. -/
theorem next_toNat : ∀ t : Fin 14, (Scalar.remsi (Scalar.addi (Scalar.muli 2#32 (Scf.iv 0#32 1#32 t.val)) 2#32) 28#32).toNat = (2 * t.val + 2) % 28 := by decide

theorem off4_eq (L : grid0.Coords) (t1 : Fin k0_t1_loop.trips) (t3 : Fin k0_t3_loop.trips) :
    k0_off4 L t1 t3 = ![tb L t1, tp L t1, 2 * t3.val + 1, 0] := by
  have h : k0_off4 L t1 t3 = ![k0_off1 L t1 0, k0_off1 L t1 1, (odd t3).toNat, 0] := rfl
  rw [h, off1_eq, show (odd t3).toNat = 2 * t3.val + 1 from odd_toNat t3]; rfl
theorem off5_eq (L : grid0.Coords) (t1 : Fin k0_t1_loop.trips) (t3 : Fin k0_t3_loop.trips) :
    k0_off5 L t1 t3 = ![tb L t1, 2 * t3.val + 1, 0] := by
  have h : k0_off5 L t1 t3 = ![k0_off2 L t1 0, (odd t3).toNat, 0] := rfl
  rw [h, off2_eq, show (odd t3).toNat = 2 * t3.val + 1 from odd_toNat t3]; rfl
theorem off8_eq (L : grid0.Coords) (t1 : Fin k0_t1_loop.trips) (t3 : Fin k0_t3_loop.trips) :
    k0_off8 L t1 t3 = ![tb L t1, tp L t1, (2 * t3.val + 2) % 28, 0] := by
  have h : k0_off8 L t1 t3 = ![k0_off1 L t1 0, k0_off1 L t1 1,
    (Scalar.remsi (Scalar.addi (Scalar.muli 2#32 (Scf.iv 0#32 1#32 t3.val)) 2#32) 28#32).toNat, 0] := rfl
  rw [h, off1_eq, show (Scalar.remsi (Scalar.addi (Scalar.muli 2#32 (Scf.iv 0#32 1#32 t3.val)) 2#32) 28#32).toNat = (2 * t3.val + 2) % 28 from next_toNat t3]; rfl
theorem off9_eq (L : grid0.Coords) (t1 : Fin k0_t1_loop.trips) (t3 : Fin k0_t3_loop.trips) :
    k0_off9 L t1 t3 = ![tb L t1, (2 * t3.val + 2) % 28, 0] := by
  have h : k0_off9 L t1 t3 = ![k0_off2 L t1 0,
    (Scalar.remsi (Scalar.addi (Scalar.muli 2#32 (Scf.iv 0#32 1#32 t3.val)) 2#32) 28#32).toNat, 0] := rfl
  rw [h, off2_eq, show (Scalar.remsi (Scalar.addi (Scalar.muli 2#32 (Scf.iv 0#32 1#32 t3.val)) 2#32) 28#32).toNat = (2 * t3.val + 2) % 28 from next_toNat t3]; rfl

/-- What a slice of the packed images reads: one chunk of one channel pair. -/
theorem read_im (f : Vec F NSrc .f32) {b p c : ℕ} {off : Fin 4 → ℕ} (ho : off = ![b, p, c, 0])
    (h : ∀ a, off a + S1x1x1x3584.size a ≤ S4x48x28x3584.size a) (hr) (hq : S1x1x1x3584.Squeezes S3584) :
    ((mI.slice (Rect.unit (s := S4x48x28x3584) off S1x1x1x3584.size h) hr).squeeze S3584 hq).view.read (Elt F) f = srcOf f b p c := by
  subst ho
  have h0 : b + 1 ≤ 4 := h 0
  have h1 : p + 1 ≤ 48 := h 1
  have h2 : c + 1 ≤ 28 := h 2
  funext j
  have hj : (j 0).val < 3584 := (j 0).isLt
  show f ((Rect.unit (s := S4x48x28x3584) ![b, p, c, 0] S1x1x1x3584.size h).emb (Shape.reshapeEquiv hq.numel_eq j)) = f _
  rw [Shape.reshapeEquiv_eq_of_vals hq.numel_eq j (fun a => ⟨![0, 0, 0, (j 0).val] a, by fin_cases a <;> simp; exact hj⟩ : S1x1x1x3584.Idx) (j 0).val (j 0).val
    (by rw [rowMajor_val4 _ 3584 3584 3584 rfl rfl rfl]; simp) (by rw [rowMajor_val1]) rfl]
  congr 1
  funext a
  apply Fin.ext
  rw [Rect.emb_apply]
  match a with
  | 0 => show b + 1 * 0 = b % 4; rw [Nat.mod_eq_of_lt (by omega)]; omega
  | 1 => show p + 1 * 0 = p % 48; rw [Nat.mod_eq_of_lt (by omega)]; omega
  | 2 => show c + 1 * 0 = c % 28; rw [Nat.mod_eq_of_lt (by omega)]; omega
  | 3 => show 0 + 1 * (j 0).val = (j 0).val % 3584; rw [Nat.mod_eq_of_lt hj]; omega

/-- What a slice of the packed flow reads: one chunk of one batch. -/
theorem read_fl (f : Vec F NFl .f32) {b c : ℕ} {off : Fin 3 → ℕ} (ho : off = ![b, c, 0])
    (h : ∀ a, off a + S1x1x3584.size a ≤ S4x28x3584.size a) (hr) (hq : S1x1x3584.Squeezes S3584) :
    ((mF.slice (Rect.unit (s := S4x28x3584) off S1x1x3584.size h) hr).squeeze S3584 hq).view.read (Elt F) f = flOf f b c := by
  subst ho
  have h0 : b + 1 ≤ 4 := h 0
  have h1 : c + 1 ≤ 28 := h 1
  funext j
  have hj : (j 0).val < 3584 := (j 0).isLt
  show f ((Rect.unit (s := S4x28x3584) ![b, c, 0] S1x1x3584.size h).emb (Shape.reshapeEquiv hq.numel_eq j)) = f _
  rw [Shape.reshapeEquiv_eq_of_vals hq.numel_eq j (fun a => ⟨![0, 0, (j 0).val] a, by fin_cases a <;> simp; exact hj⟩ : S1x1x3584.Idx) (j 0).val (j 0).val
    (by rw [rowMajor_val3 _ 3584 3584 rfl rfl]; simp) (by rw [rowMajor_val1]) rfl]
  congr 1
  funext a
  apply Fin.ext
  rw [Rect.emb_apply]
  match a with
  | 0 => show b + 1 * 0 = b % 4; rw [Nat.mod_eq_of_lt (by omega)]; omega
  | 1 => show c + 1 * 0 = c % 28; rw [Nat.mod_eq_of_lt (by omega)]; omega
  | 2 => show 0 + 1 * (j 0).val = (j 0).val % 3584; rw [Nat.mod_eq_of_lt hj]; omega

/-- What is held beside a flight comes back with its delivery. -/
theorem flight_frame (c : Thread nD τ) (sm : SemLoc sig) (ι : HIx 1) (N : ℕ) (D P : sProp 𝕄) :
    iprop(P ∗ Transfers.Flight (EC (F := F)) c sm ι N D) ⊢ Transfers.Flight (EC (F := F)) c sm ι N iprop(P ∗ D) := by
  unfold Transfers.Flight
  iintro ⟨HP, ⟨%R, HR, %hcap, %hpeek⟩, Hcred⟩
  isplitl [HP HR]
  · iexists iprop(P ∗ R)
    isplitl [HP HR]
    · isplitl [HP] <;> iassumption
    isplit
    · ipureintro
      intro K
      refine BIBase.Entails.trans ?_ (hcap K)
      iintro ⟨⟨HP, HR⟩, HK⟩
      isplitl [HR]; · iexact HR
      iintro ⟨Hv, HD⟩
      iapply HK
      isplitl [Hv]; · iexact Hv
      isplitl [HP] <;> iassumption
    · ipureintro
      intro K
      refine BIBase.Entails.trans ?_ (hpeek K)
      iintro ⟨⟨HP, HR⟩, HK⟩
      isplitl [HR]; · iexact HR
      iintro HR
      iapply HK
      isplitl [HP] <;> iassumption
  · iexact Hcred

/-- A local copy started: the source share, held over its whole buffer, and the destination's
elements go into the flight, which delivers the destination rewritten and the share back. -/
theorem wp_copy (d : Dev nD) (L : grid0.Coords) {α : Type} {Q : α → sProp 𝕄} {sp sp' : Space} {s : Shape}
    {src : Memref sig (VT d L).2.kind sp s .f32} {dst : Memref sig (VT d L).2.kind sp' s .f32} {sem : DmaSem sig}
    {hsrc : src.view.WordExact} {hdst : dst.view.WordExact} {hsem : DmaTarget.Typed (nD := nD) sp (.dma sem) (.here dst)}
    {k : PUnit → Prog (TpuEff nD τ sig (Elt F) Λ₀ (VT d L).2) α} {q : PosShare TreeShare} {fs : Buf (Elt F) (src.view.loc (VT d L))}
    {Sd : Finset (Idx (dst.view.loc (VT d L)))} {fd : Buf (Elt F) (dst.view.loc (VT d L))} {w : Vec F s .f32}
    (N : ℕ) (hN : dst.view.amount (.dma sem) = N) (hN0 : 0 < N) (hSd : dst.view.set ⊆ Sd) (hw : src.view.read (Elt F) fs = w) :
    iprop((src.view.loc (VT d L) ↦{q} fs) ∗ (dst.view.loc (VT d L) ↦[Sd]{fullShare} fd) ∗ semVal (VT d L, .dma sem) 0)
      ⊢ iprop((Transfers.Flight (EC (F := F)) (VT d L) (.dma sem) none N
                  iprop((src.view.loc (VT d L) ↦{q} fs) ∗ (dst.view.loc (VT d L) ↦[Sd]{fullShare} (dst.view.write (Elt F) fd w Finset.univ)))
              -∗ wp frame (wpE (defs₀ (F := F)) 𝒱₀ (VT d L) none) Set.univ (k ⟨⟩) Q)
          -∗ wp frame (wpE (defs₀ (F := F)) 𝒱₀ (VT d L) none) Set.univ (.op (.enqueueDma src (.here dst) (.dma sem) hsrc hdst hsem) k) Q) := by
  have hs := pointsTo_split_subset (Name := ℕ) (U := UU) (Lvl := ℕ) (Ix := HIx 1) (q := q) (f := fs) (Finset.subset_univ src.view.set)
  iintro ⟨Hs, Hd, Hv⟩ Hk
  ihave Hs2 := hs.1 $$ Hs
  icases Hs2 with ⟨Hs1, Hs2⟩
  iapply (Transfers.wp_dmaLocal (EC (F := F)) 𝒱₀ (VT d L) none none N hN hN0 hSd) $$ [Hs1 Hd Hv]
  · isplitl [Hs1]; · iexact Hs1
    isplitl [Hd] <;> iassumption
  iintro Hf
  iapply Hk
  ihave Hf := (flight_frame _ _ _ _ _ _) $$ [Hs2 Hf]
  · isplitl [Hs2]; · iexact Hs2
    iexact Hf
  iapply (Transfers.Flight_mono (EC (F := F)) _ _) $$ Hf
  iintro ⟨Hs2, Hd, Hs1⟩
  isplitl [Hs1 Hs2]
  · iapply hs.2
    isplitl [Hs1] <;> iassumption
  · subst hw
    iexact Hd

end Splat.KI
-- ==== Proof.KI.Pair.lean ====
/- The pair loop of a task: two chunks a trip, the first pair of buffers filled while the second is
read and the other way round. -/
module

public import proofs.«01_k».proof.Proof.KI.Copies

@[expose] public section

noncomputable section

namespace Splat.KI

open Cert.KernelIdeal Cert.KernelIdeal.Gen
open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)
open Idealize.ShloMosaic.Tactic

variable {F : FTy → Type} [FloatOps F]

local notation "𝕄" => MT nD τ sig (HIx 1) (Elt F) ℕ UU ℕ

/-- The elements of a chunk buffer's copy, as its semaphore counts them. -/
abbrev NB : ℕ := mSa.view.amount (.dma cc0_scratch5.sem)
theorem NB_pos : 0 < NB := by decide

theorem write_Sa (g : Vec F NBuf .f32) (w : Vec F NBuf .f32) : mSa.view.write (Elt F) g w Finset.univ = w := View.write_whole_univ ..
theorem write_Sb (g : Vec F NBuf .f32) (w : Vec F NBuf .f32) : mSb.view.write (Elt F) g w Finset.univ = w := View.write_whole_univ ..
theorem write_Fa (g : Vec F NBuf .f32) (w : Vec F NBuf .f32) : mFa.view.write (Elt F) g w Finset.univ = w := View.write_whole_univ ..
theorem write_Fb (g : Vec F NBuf .f32) (w : Vec F NBuf .f32) : mFb.view.write (Elt F) g w Finset.univ = w := View.write_whole_univ ..

/-- A share of the packed images. -/
abbrev imP (d : Dev nD) (L : grid0.Coords) (q : PosShare TreeShare) (f : Vec F NSrc .f32) : sProp 𝕄 := mI.view.loc (VT d L) ↦{q} f
/-- A share of the packed flow. -/
abbrev flP (d : Dev nD) (L : grid0.Coords) (q : PosShare TreeShare) (f : Vec F NFl .f32) : sProp 𝕄 := mF.view.loc (VT d L) ↦{q} f

/-- A copy on its way that brings a buffer the contents `w` and gives `P` back. -/
abbrev coming (d : Dev nD) (L : grid0.Coords) (sem : DmaSem sig) (P D : sProp 𝕄) : sProp 𝕄 :=
  Transfers.Flight (EC (F := F)) (VT d L) (.dma sem) none NB iprop(P ∗ D)

/-- What the thread owes, its recorded waits grown only by waits on its own copies. -/
def owing (d : Dev nD) (L : grid0.Coords) (O : CellTallies nD τ sig (HIx 1)) (W : Waits sig (HIx 1)) : sProp 𝕄 :=
  iprop(∃ W', ⌜∀ p ∈ W', p ∈ W ∨ p.2 = none⌝ ∗ owes (VT d L) O W')

/-- A wait for a copy on its way. -/
theorem wp_await (d : Dev nD) (L : grid0.Coords) {α : Type} {Q : α → sProp 𝕄} {sp sp' : Space} {s s' : Shape} {e' : EltTy}
    {srcw : Memref sig (VT d L).2.kind sp' s' e'} {dstw : Memref sig (VT d L).2.kind sp s .f32} {sem : DmaSem sig}
    {hsrc : srcw.view.WordExact} {hdst : dstw.view.WordExact}
    {k : PUnit → Prog (TpuEff nD τ sig (Elt F) Λ₀ (VT d L).2) α} {N : ℕ} (hN : dstw.view.dmaCredit = N) {D : sProp 𝕄}
    {O : CellTallies nD τ sig (HIx 1)} {W : Waits sig (HIx 1)} (hO : ∀ g, O g none = 0) :
    iprop(levAts (K (F := F)).L (K (F := F)).lev ∗ Transfers.Flight (EC (F := F)) (VT d L) (.dma sem) none N D ∗ owing d L O W)
      ⊢ iprop((iprop(D ∗ semVal (VT d L, .dma sem) 0 ∗ owing d L O W) -∗ wp frame (wpE (defs₀ (F := F)) 𝒱₀ (VT d L) none) Set.univ (k ⟨⟩) Q)
          -∗ wp frame (wpE (defs₀ (F := F)) 𝒱₀ (VT d L) none) Set.univ (.op (.waitDma2 sem srcw dstw hsrc hdst) k) Q) := by
  unfold owing
  iintro ⟨Hlv, Hf, %W', %hW, HO⟩ Hk
  iapply (Transfers.wp_waitLocalO (EC (F := F)) 𝒱₀ (VT d L) none none hN (O := O) (W := W')) $$ [Hlv Hf HO]
  · isplitl [Hf]; · iexact Hf
    isplitl [HO]; · iexact HO
    iapply ((K (F := F)).mayWaits_none (thr := VT d L) hO).trans (Transfers.MayWaits.elim _)
    iexact Hlv
  iintro ⟨HD, Hv, HO⟩
  iapply Hk
  isplitl [HD]; · iexact HD
  isplitl [Hv]; · iexact Hv
  iexists (insert (SemLoc.dma sem, (none : HIx 1)) W')
  isplitr
  · ipureintro
    intro p hp
    rcases Finset.mem_insert.1 hp with he | hp
    · exact Or.inr (congrArg Prod.snd he)
    · exact hW p hp
  · iexact HO

/-- One trip of the pair loop. -/
abbrev b3 (L : grid0.Coords) (t1 : Fin k0_t1_loop.trips) :=
  k0_t3_body (F := F) L mI (Memref.isWhole_whole _) mF (Memref.isWhole_whole _) mO (Memref.isWhole_whole _)
    mA (Memref.isWhole_whole _) mSa (Memref.isWhole_whole _) mSb (Memref.isWhole_whole _) mFa (Memref.isWhole_whole _)
    mFb (Memref.isWhole_whole _) cc0_scratch5 cc0_scratch6 cc0_scratch7 cc0_scratch8 cc0_scoped0 t1

/-- Before trip `k` of the pair loop: `2 k` chunks added, chunk `2 k` on its way into the first pair
of buffers, the second pair free. -/
def pairInv (d : Dev nD) (L : grid0.Coords) (t1 : Fin k0_t1_loop.trips) (q r : PosShare TreeShare) (f2 : Vec F NSrc .f32) (f5 : Vec F NFl .f32)
    (O : CellTallies nD τ sig (HIx 1)) (W : Waits sig (HIx 1)) (k : ℕ) : sProp 𝕄 :=
  iprop(levAts (K (F := F)).L (K (F := F)).lev
    ∗ own d L cc0_scratch0 (task id (srcOf f2 (tb L t1) (tp L t1)) (flOf f5 (tb L t1)) (2 * k))
    ∗ coming d L cc0_scratch5.sem (imP d L q.left f2) (own d L cc0_scratch1 (srcOf f2 (tb L t1) (tp L t1) (2 * k % 28)))
    ∗ coming d L cc0_scratch6.sem (flP d L r.left f5) (own d L cc0_scratch3 (flOf f5 (tb L t1) (2 * k % 28)))
    ∗ imP d L q.right f2 ∗ flP d L r.right f5
    ∗ (∃ s, own d L cc0_scratch2 s) ∗ (∃ s, own d L cc0_scratch4 s)
    ∗ semVal (VT d L, .dma cc0_scratch7.sem) 0 ∗ semVal (VT d L, .dma cc0_scratch8.sem) 0
    ∗ owing d L O W)

set_option maxHeartbeats 4000000 in
set_option maxRecDepth 65536 in
/-- A trip of the pair loop adds two chunks. -/
theorem pair (d : Dev nD) (L : grid0.Coords) (t1 : Fin k0_t1_loop.trips) (q r : PosShare TreeShare) (f2 : Vec F NSrc .f32) (f5 : Vec F NFl .f32)
    (hfit : FitsAll id (flOf f5 (tb L t1)))
    (O : CellTallies nD τ sig (HIx 1)) (W : Waits sig (HIx 1)) (hO : ∀ g, O g none = 0) (t3 : Fin k0_t3_loop.trips) :
    pairInv d L t1 q r f2 f5 O W t3.val
      ⊢ wp frame (wpE (defs₀ (F := F)) 𝒱₀ (VT d L) none) Set.univ (b3 L t1 t3 ()) fun _ => pairInv d L t1 q r f2 f5 O W (t3.val + 1) := by
  have h3 : t3.val < 14 := t3.isLt
  have hm : 2 * t3.val % 28 = 2 * t3.val := Nat.mod_eq_of_lt (by omega)
  unfold b3 k0_t3_body
  simp only [k0_part5_eq_skeleton]
  unfold k0_part5_skel
  simp only [Prog.lift, Prog.bind_op, Prog.bind_ret, Prog.pure_eq_ret, Prog.bind_assoc]
  unfold pairInv
  rw [hm]
  iintro ⟨#Hlv, Hg, Hsa, Hfa, Hi, Hl, ⟨%sb, Hsb⟩, ⟨%fb, Hfb⟩, Hvb, Hwb, HO⟩
  iapply (wp_await d L (dstw := mSa) (N := NB) rfl hO) $$ [Hsa HO]
  · isplitr; · iexact Hlv
    isplitl [Hsa]; · iexact Hsa
    iexact HO
  iintro ⟨⟨Hia, Hsa⟩, Hva, HO⟩
  iapply (wp_await d L (dstw := mFa) (N := NB) rfl hO) $$ [Hfa HO]
  · isplitr; · iexact Hlv
    isplitl [Hfa]; · iexact Hfa
    iexact HO
  iintro ⟨⟨Hla, Hfa⟩, Hwa, HO⟩
  iapply (wp_copy d L (dst := mSb) (Sd := Finset.univ) (fs := f2) NB rfl NB_pos (Finset.subset_univ _) (read_im f2 (off4_eq L t1 t3) _ _ _)) $$ [Hi Hsb Hvb]
  · isplitl [Hi]; · iexact Hi
    isplitl [Hsb]; · iexact Hsb
    iexact Hvb
  iintro Hsb
  rw [write_Sb]
  iapply (wp_copy d L (dst := mFb) (Sd := Finset.univ) (fs := f5) NB rfl NB_pos (Finset.subset_univ _) (read_fl f5 (off5_eq L t1 t3) _ _ _)) $$ [Hl Hfb Hwb]
  · isplitl [Hl]; · iexact Hl
    isplitl [Hfb]; · iexact Hfb
    iexact Hwb
  iintro Hfb
  rw [write_Fb]
  dsimp only
  sl_for (fun k _ => (iprop(own d L cc0_scratch0 (chunk id (srcOf f2 (tb L t1) (tp L t1) (2 * t3.val)) (flOf f5 (tb L t1) (2 * t3.val)) (2 * t3.val)
      (task id (srcOf f2 (tb L t1) (tp L t1)) (flOf f5 (tb L t1)) (2 * t3.val)) k)
      ∗ own d L cc0_scratch1 (srcOf f2 (tb L t1) (tp L t1) (2 * t3.val)) ∗ own d L cc0_scratch3 (flOf f5 (tb L t1) (2 * t3.val))) : sProp 𝕄)) $$ [Hg Hsa Hfa]
  case region =>
    intro k _
    exact row4 d L t1 t3 k _ _ _ (hfit _ (by omega) k.val k.isLt)
  · isplitl [Hg]; · iexact Hg
    isplitl [Hsa]; · iexact Hsa
    iexact Hfa
  iintro %_ HI
  icases HI with ⟨Hg, Hsa, Hfa⟩
  iapply (wp_copy d L (dst := mSa) (Sd := Finset.univ) (fs := f2) NB rfl NB_pos (Finset.subset_univ _) (read_im f2 (off8_eq L t1 t3) _ _ _)) $$ [Hia Hsa Hva]
  · isplitl [Hia]; · iexact Hia
    isplitl [Hsa]; · iexact Hsa
    iexact Hva
  iintro Hsa
  rw [write_Sa]
  iapply (wp_copy d L (dst := mFa) (Sd := Finset.univ) (fs := f5) NB rfl NB_pos (Finset.subset_univ _) (read_fl f5 (off9_eq L t1 t3) _ _ _)) $$ [Hla Hfa Hwa]
  · isplitl [Hla]; · iexact Hla
    isplitl [Hfa]; · iexact Hfa
    iexact Hwa
  iintro Hfa
  rw [write_Fa]
  iapply (wp_await d L (dstw := mSb) (N := NB) rfl hO) $$ [Hsb HO]
  · isplitr; · iexact Hlv
    isplitl [Hsb]; · iexact Hsb
    iexact HO
  iintro ⟨⟨Hi, Hsb⟩, Hvb, HO⟩
  iapply (wp_await d L (dstw := mFb) (N := NB) rfl hO) $$ [Hfb HO]
  · isplitr; · iexact Hlv
    isplitl [Hfb]; · iexact Hfb
    iexact HO
  iintro ⟨⟨Hl, Hfb⟩, Hwb, HO⟩
  dsimp only
  sl_for (fun k _ => (iprop(own d L cc0_scratch0 (chunk id (srcOf f2 (tb L t1) (tp L t1) (2 * t3.val + 1)) (flOf f5 (tb L t1) (2 * t3.val + 1)) (2 * t3.val + 1)
      (task id (srcOf f2 (tb L t1) (tp L t1)) (flOf f5 (tb L t1)) (2 * t3.val + 1)) k)
      ∗ own d L cc0_scratch2 (srcOf f2 (tb L t1) (tp L t1) (2 * t3.val + 1)) ∗ own d L cc0_scratch4 (flOf f5 (tb L t1) (2 * t3.val + 1))) : sProp 𝕄)) $$ [Hg Hsb Hfb]
  case region =>
    intro k _
    exact row6 d L t3 k _ _ _ (hfit _ (by omega) k.val k.isLt)
  · isplitl [Hg]; · iexact Hg
    isplitl [Hsb]; · iexact Hsb
    iexact Hfb
  iintro %_ HI
  icases HI with ⟨Hg, Hsb, Hfb⟩
  sl_step
  isplitr; · iexact Hlv
  isplitl [Hg]; · iexact Hg
  isplitl [Hsa]; · iexact Hsa
  isplitl [Hfa]; · iexact Hfa
  isplitl [Hi]; · iexact Hi
  isplitl [Hl]; · iexact Hl
  isplitl [Hsb]; · iexists _; iexact Hsb
  isplitl [Hfb]; · iexists _; iexact Hfb
  isplitl [Hvb]; · iexact Hvb
  isplitl [Hwb]; · iexact Hwb
  iexact HO

end Splat.KI
-- ==== Proof.KI.Task.lean ====
/- One task of a tile: the accumulator zeroed, twenty-eight chunks added, the result copied to the
task's block of the output. -/
module

public import proofs.«01_k».proof.Proof.KI.Pair

@[expose] public section

noncomputable section

namespace Splat.KI

open Cert.KernelIdeal Cert.KernelIdeal.Gen
open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)
open Idealize.ShloMosaic.Tactic

variable {F : FTy → Type} [FloatOps F]

local notation "𝕄" => MT nD τ sig (HIx 1) (Elt F) ℕ UU ℕ

/-- One trip of the zeroing loop. -/
abbrev b2 (L : grid0.Coords) :=
  k0_t2_body (F := F) L mI (Memref.isWhole_whole _) mF (Memref.isWhole_whole _) mO (Memref.isWhole_whole _)
    mA (Memref.isWhole_whole _) mSa (Memref.isWhole_whole _) mSb (Memref.isWhole_whole _) mFa (Memref.isWhole_whole _)
    mFb (Memref.isWhole_whole _) cc0_scratch5 cc0_scratch6 cc0_scratch7 cc0_scratch8 cc0_scoped0

/-- The accumulator with its first `16 k` elements zeroed. -/
def zeroed (g : Vec F NAcc .f32) (k : ℕ) : Vec F NAcc .f32 := fun j =>
  if (j 0).val < 16 * k then Scalar.ofBits .f32 0x00000000#32 else g j

/-- A trip of the zeroing loop zeroes sixteen elements. -/
theorem zero_trip (d : Dev nD) (L : grid0.Coords) (g : Vec F NAcc .f32) (t : Fin k0_t2_loop.trips) :
    own d L cc0_scratch0 (zeroed g t.val)
      ⊢ wp frame (wpE (defs₀ (F := F)) 𝒱₀ (VT d L) none) Set.univ (b2 L t ()) fun _ => own d L cc0_scratch0 (zeroed g (t.val + 1)) := by
  have ht : t.val < 6272 := t.isLt
  have h3 : k0_off3 t 0 = 16 * t.val := congrFun (k0_off3_eq t) 0
  unfold b2 k0_t2_body
  simp only [Prog.lift, Prog.bind_op, Prog.bind_ret, Prog.pure_eq_ret]
  iintro Hg
  iapply (wp_load 𝒱₀ (VT d L) none Set.univ (m := mA) (S := Finset.univ) (Finset.subset_univ _)) $$ Hg; iintro Hg
  iapply (wp_store 𝒱₀ (VT d L) none Set.univ (m := mA) (r := Rect.unit (s := S100352) (k0_off3 t) S16.size (k0_off3_inb t)) (S := Finset.univ) (Finset.subset_univ _)) $$ Hg; iintro Hg
  rw [wp_ret]; imodintro
  have e : (mA.access (Rect.unit (s := S100352) (k0_off3 t) S16.size (k0_off3_inb t))).write (Elt F) (zeroed g t.val) (k0_pay2 (F := F)) Finset.univ
      = zeroed g (t.val + 1) := by
    funext j
    have hj : (j 0).val < 100352 := (j 0).isLt
    by_cases h : 16 * t.val ≤ (j 0).val ∧ (j 0).val < 16 * t.val + 16
    · have hx : ∃ x : S16.Idx, (mA.access (Rect.unit (s := S100352) (k0_off3 t) S16.size (k0_off3_inb t))).emb x = j := by
        refine ⟨fun a => ⟨(j 0).val - 16 * t.val, by have : a = 0 := Fin.eq_zero a; subst this; show _ < 16; omega⟩, ?_⟩
        funext a
        have ha : a = 0 := Fin.eq_zero a
        subst ha
        apply Fin.ext
        show k0_off3 t 0 + 1 * ((j 0).val - 16 * t.val) = (j 0).val
        omega
      obtain ⟨x, rfl⟩ := hx
      rw [View.write_emb_of_mem _ _ (Finset.mem_univ x)]
      unfold zeroed
      rw [if_pos (by omega)]
      rfl
    · rw [View.write_of_not_mem]
      · unfold zeroed
        by_cases h1 : (j 0).val < 16 * t.val
        · rw [if_pos h1, if_pos (by omega)]
        · rw [if_neg h1, if_neg (by omega)]
      · intro hm
        obtain ⟨x, _, rfl⟩ := Finset.mem_map.1 hm
        apply h
        have hx : (x 0).val < 16 := (x 0).isLt
        have hv : (((mA.access (Rect.unit (s := S100352) (k0_off3 t) S16.size (k0_off3_inb t))).emb x : NAcc.Idx) 0).val = 16 * t.val + (x 0).val := by
          show k0_off3 t 0 + 1 * (x 0).val = _
          omega
        have hv' := hv
        omega
  rw [← e]
  iexact Hg

/-- All of it zeroed. -/
theorem zeroed_all (g : Vec F NAcc .f32) : zeroed g 6272 = fun _ => Scalar.ofBits .f32 0x00000000#32 := by
  funext j
  have hj : (j 0).val < 100352 := (j 0).isLt
  unfold zeroed
  rw [if_pos (by omega)]

/-- A task's block of the output. -/
def oS (L : grid0.Coords) (t1 : Fin k0_t1_loop.trips) : Finset NOut.Idx :=
  (Rect.unit (s := S4x4816896) (k0_off12 L t1) S1x100352.size (k0_off12_inb L t1)).set

/-- A task's block of the output, held outright. -/
abbrev oP (d : Dev nD) (L : grid0.Coords) (t1 : Fin k0_t1_loop.trips) (h : Vec F NOut .f32) : sProp 𝕄 :=
  mO.view.loc (VT d L) ↦[oS L t1]{fullShare} h

/-- A task's block of the output, as the kernel slices it. -/
abbrev mOt (L : grid0.Coords) (t1 : Fin k0_t1_loop.trips) : Memref sig .scVector .hbm S100352 .f32 :=
  (mO.slice (Rect.unit (s := S4x4816896) (k0_off12 L t1) S1x100352.size (k0_off12_inb L t1)) (fun _ => rfl)).squeeze S100352 squeezes_S1x100352_S100352

theorem set_mOt (L : grid0.Coords) (t1 : Fin k0_t1_loop.trips) : (mOt L t1).view.set = oS L t1 := by
  unfold mOt oS
  show ((mO.slice (Rect.unit (s := S4x4816896) (k0_off12 L t1) S1x100352.size (k0_off12_inb L t1)) (fun _ => rfl)).view.reshape S100352 _).set = _
  rw [View.set_reshape]
  exact View.set_slice_whole _ _

/-- The block with the task's accumulator written over it agrees there with the kernel's whole output. -/
theorem write_out (L : grid0.Coords) (t1 : Fin k0_t1_loop.trips) (f2 : Vec F NSrc .f32) (f5 : Vec F NFl .f32) (h : Vec F NOut .f32) :
    ∀ j ∈ oS L t1, (mOt L t1).view.write (Elt F) h (task id (srcOf f2 (tb L t1) (tp L t1)) (flOf f5 (tb L t1)) 28) Finset.univ j = out id f2 f5 j := by
  intro j hj
  rw [← set_mOt] at hj
  obtain ⟨x, _, rfl⟩ := Finset.mem_map.1 hj
  rw [View.write_emb_of_mem _ _ (Finset.mem_univ x)]
  have hx : (x 0).val < 100352 := (x 0).isLt
  have hi := k0_off12_inb L t1
  rw [off12_eq] at hi
  have h0 : tb L t1 + 1 ≤ 4 := hi 0
  have hp : tp L t1 < 48 := Nat.mod_lt _ (by decide)
  have hy : Shape.reshapeEquiv (Shape.Squeezes.numel_eq squeezes_S1x100352_S100352) x
      = (fun a => ⟨![0, (x 0).val] a, by fin_cases a <;> simp; exact hx⟩ : S1x100352.Idx) :=
    Shape.reshapeEquiv_eq_of_vals _ x _ (x 0).val (x 0).val (by rw [rowMajor_val2 _ 100352 rfl]; simp) (by rw [rowMajor_val1]) rfl
  have he : ((mOt L t1).view.emb x : NOut.Idx) = (Rect.unit (s := S4x4816896) (k0_off12 L t1) S1x100352.size (k0_off12_inb L t1)).emb
      (fun a => ⟨![0, (x 0).val] a, by fin_cases a <;> simp; exact hx⟩ : S1x100352.Idx) := by
    rw [← hy]; rfl
  have e0 : (((mOt L t1).view.emb x : NOut.Idx) 0).val = tb L t1 := by
    rw [he, Rect.emb_apply]
    show k0_off12 L t1 0 + 1 * 0 = _
    rw [off12_eq]; rfl
  have e1 : (((mOt L t1).view.emb x : NOut.Idx) 1).val = 100352 * tp L t1 + (x 0).val := by
    rw [he, Rect.emb_apply]
    show k0_off12 L t1 1 + 1 * (x 0).val = _
    rw [off12_eq, Nat.one_mul]; rfl
  unfold out
  rw [e0, e1, show (100352 * tp L t1 + (x 0).val) / 100352 = tp L t1 by omega]
  show task _ _ _ _ x = _
  congr 1
  funext a
  have ha : a = 0 := Fin.eq_zero a
  subst ha
  apply Fin.ext
  show _ = (100352 * tp L t1 + (x 0).val) % 100352
  omega

/-- The elements of a task's result, as its copy's semaphore counts them. -/
abbrev NO : ℕ := mA.view.amount (.dma cc0_scoped0.sem)
theorem NO_pos : 0 < NO := by decide

/-- One task. -/
abbrev b1 (L : grid0.Coords) (v1 : BitVec 32) :=
  k0_t1_body (F := F) L mI (Memref.isWhole_whole _) mF (Memref.isWhole_whole _) mO (Memref.isWhole_whole _)
    mA (Memref.isWhole_whole _) mSa (Memref.isWhole_whole _) mSb (Memref.isWhole_whole _) mFa (Memref.isWhole_whole _)
    mFb (Memref.isWhole_whole _) cc0_scratch5 cc0_scratch6 cc0_scratch7 cc0_scratch8 cc0_scoped0 v1

/-- What a tile holds between two tasks, but for the output: its shares of the inputs, its buffers
and its semaphores at rest. -/
def idle (d : Dev nD) (L : grid0.Coords) (q r : PosShare TreeShare) (f2 : Vec F NSrc .f32) (f5 : Vec F NFl .f32)
    (O : CellTallies nD τ sig (HIx 1)) (W : Waits sig (HIx 1)) : sProp 𝕄 :=
  iprop(imP d L q f2 ∗ flP d L r f5
    ∗ (∃ s, own d L cc0_scratch0 s) ∗ (∃ s, own d L cc0_scratch1 s) ∗ (∃ s, own d L cc0_scratch2 s)
    ∗ (∃ s, own d L cc0_scratch3 s) ∗ (∃ s, own d L cc0_scratch4 s)
    ∗ semVal (VT d L, .dma cc0_scratch5.sem) 0 ∗ semVal (VT d L, .dma cc0_scratch6.sem) 0
    ∗ semVal (VT d L, .dma cc0_scratch7.sem) 0 ∗ semVal (VT d L, .dma cc0_scratch8.sem) 0
    ∗ semVal (VT d L, .dma cc0_scoped0.sem) 0 ∗ owing d L O W)

set_option maxHeartbeats 4000000 in
set_option maxRecDepth 65536 in
/-- A task writes its block of the output. -/
theorem one_task (d : Dev nD) (L : grid0.Coords) (v1 : BitVec 32) (t1 : Fin k0_t1_loop.trips) (q r : PosShare TreeShare) (f2 : Vec F NSrc .f32)
    (f5 : Vec F NFl .f32) (hfit : FitsAll id (flOf f5 (tb L t1))) (h : Vec F NOut .f32)
    (O : CellTallies nD τ sig (HIx 1)) (W : Waits sig (HIx 1)) (hO : ∀ g, O g none = 0) :
    iprop(levAts (K (F := F)).L (K (F := F)).lev ∗ oP d L t1 h ∗ idle d L q r f2 f5 O W)
      ⊢ wp frame (wpE (defs₀ (F := F)) 𝒱₀ (VT d L) none) Set.univ (b1 L v1 t1 ())
          fun _ => iprop(oP d L t1 (out id f2 f5) ∗ idle d L q r f2 f5 O W) := by
  have hq := pointsTo_share (Name := ℕ) (U := UU) (Lvl := ℕ) (Ix := HIx 1) (ℓ := mI.view.loc (VT d L)) (I := Finset.univ) (f := f2)
    (PosShare.mem_left_op_right q)
  have hr := pointsTo_share (Name := ℕ) (U := UU) (Lvl := ℕ) (Ix := HIx 1) (ℓ := mF.view.loc (VT d L)) (I := Finset.univ) (f := f5)
    (PosShare.mem_left_op_right r)
  unfold b1 k0_t1_body
  simp only [k0_part6_eq_skeleton]
  unfold k0_part6_skel
  simp only [Prog.lift, Prog.bind_op, Prog.bind_ret, Prog.pure_eq_ret, Prog.bind_assoc]
  unfold idle
  iintro ⟨#Hlv, Ho, Hi, Hl, ⟨%g, Hg⟩, ⟨%sa, Hsa⟩, Hsb, ⟨%fa, Hfa⟩, Hfb, Hva, Hwa, Hvb, Hwb, Hvo, HO⟩
  ihave Hi2 := hq.1 $$ Hi
  icases Hi2 with ⟨Hia, Hi⟩
  ihave Hl2 := hr.1 $$ Hl
  icases Hl2 with ⟨Hla, Hl⟩
  iapply (wp_copy d L (dst := mSa) (Sd := Finset.univ) (fs := f2) NB rfl NB_pos (Finset.subset_univ _) (read_im f2 (off1_eq L t1) _ _ _)) $$ [Hia Hsa Hva]
  · isplitl [Hia]; · iexact Hia
    isplitl [Hsa]; · iexact Hsa
    iexact Hva
  iintro Hsa
  rw [write_Sa]
  iapply (wp_copy d L (dst := mFa) (Sd := Finset.univ) (fs := f5) NB rfl NB_pos (Finset.subset_univ _) (read_fl f5 (off2_eq L t1) _ _ _)) $$ [Hla Hfa Hwa]
  · isplitl [Hla]; · iexact Hla
    isplitl [Hfa]; · iexact Hfa
    iexact Hwa
  iintro Hfa
  rw [write_Fa]
  dsimp only
  sl_for (fun k _ => (own d L cc0_scratch0 (zeroed g k) : sProp 𝕄)) $$ [Hg]
  case region =>
    intro k _
    exact zero_trip d L g k
  · rw [show zeroed g 0 = g from funext fun j => if_neg (by omega)]
    iexact Hg
  iintro %_ Hg
  sl_for (fun k _ => (pairInv d L t1 q r f2 f5 O W k : sProp 𝕄)) $$ [Hg Hsa Hfa Hi Hl Hsb Hfb Hvb Hwb HO]
  case region =>
    intro k _
    exact pair d L t1 q r f2 f5 hfit O W hO k
  · unfold pairInv
    isplitr; · iexact Hlv
    isplitl [Hg]
    · rw [show zeroed g k0_t2_loop.trips = task id (srcOf f2 (tb L t1) (tp L t1)) (flOf f5 (tb L t1)) (2 * 0) from zeroed_all g]
      iexact Hg
    isplitl [Hsa]; · iexact Hsa
    isplitl [Hfa]; · iexact Hfa
    isplitl [Hi]; · iexact Hi
    isplitl [Hl]; · iexact Hl
    isplitl [Hsb]; · iexact Hsb
    isplitl [Hfb]; · iexact Hfb
    isplitl [Hvb]; · iexact Hvb
    isplitl [Hwb]; · iexact Hwb
    iexact HO
  iintro %_ HI
  unfold pairInv
  icases HI with ⟨-, Hg, Hsa, Hfa, Hi, Hl, Hsb, Hfb, Hvb, Hwb, HO⟩
  iapply (wp_await d L (dstw := mSa) (N := NB) rfl hO) $$ [Hsa HO]
  · isplitr; · iexact Hlv
    isplitl [Hsa]; · iexact Hsa
    iexact HO
  iintro ⟨⟨Hia, Hsa⟩, Hva, HO⟩
  iapply (wp_await d L (dstw := mFa) (N := NB) rfl hO) $$ [Hfa HO]
  · isplitr; · iexact Hlv
    isplitl [Hfa]; · iexact Hfa
    iexact HO
  iintro ⟨⟨Hla, Hfa⟩, Hwa, HO⟩
  iapply (wp_copy d L (src := mA) (dst := mOt L t1) (Sd := oS L t1) (fd := h) (w := task id (srcOf f2 (tb L t1) (tp L t1)) (flOf f5 (tb L t1)) 28)
    NO rfl NO_pos (set_mOt L t1).subset rfl) $$ [Hg Ho Hvo]
  · isplitl [Hg]; · iexact Hg
    isplitl [Ho]; · iexact Ho
    iexact Hvo
  iintro Ho
  iapply (wp_await d L (dstw := mOt L t1) (N := NO) rfl hO) $$ [Ho HO]
  · isplitr; · iexact Hlv
    isplitl [Ho]; · iexact Ho
    iexact HO
  iintro ⟨⟨Hg, Ho⟩, Hvo, HO⟩
  sl_step
  isplitl [Ho]
  · iapply (Entails.of_eq (pointsTo_congr (write_out L t1 f2 f5 h)))
    iexact Ho
  isplitl [Hia Hi]
  · iapply hq.2
    isplitl [Hia]; · iexact Hia
    iexact Hi
  isplitl [Hla Hl]
  · iapply hr.2
    isplitl [Hla]; · iexact Hla
    iexact Hl
  isplitl [Hg]; · iexists _; iexact Hg
  isplitl [Hsa]; · iexists _; iexact Hsa
  isplitl [Hsb]; · iexact Hsb
  isplitl [Hfa]; · iexists _; iexact Hfa
  isplitl [Hfb]; · iexact Hfb
  isplitl [Hva]; · iexact Hva
  isplitl [Hwa]; · iexact Hwa
  isplitl [Hvb]; · iexact Hvb
  isplitl [Hwb]; · iexact Hwb
  isplitl [Hvo]; · iexact Hvo
  iexact HO

end Splat.KI
-- ==== Proof.KI.Tile.lean ====
/- A tile's whole run: six tasks, from the buffers and semaphores the launch hands it. -/
module

public import proofs.«01_k».proof.Proof.KI.Task

@[expose] public section

noncomputable section

namespace Splat.KI

open Cert.KernelIdeal Cert.KernelIdeal.Gen
open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx Pay tileRest ownBufs ownSems0 ownCells ownRefs mem_ownCells mem_ownRefs)
open Idealize.ShloMosaic.Tactic

variable {F : FTy → Type} [FloatOps F]

local notation "𝕄" => MT nD τ sig (HIx 1) (Elt F) ℕ UU ℕ

/-- The blocks of the output a tile writes. -/
abbrev oPs (d : Dev nD) (L : grid0.Coords) (h : Vec F NOut .f32) : sProp 𝕄 :=
  bigSep Finset.univ fun t : Fin k0_t1_loop.trips => oP d L t h

/-- The kernel on a tile. -/
abbrev bK (L : grid0.Coords) :=
  cc0__fwarp (F := F) L mI (Memref.isWhole_whole _) mF (Memref.isWhole_whole _) mO (Memref.isWhole_whole _)
    mA (Memref.isWhole_whole _) mSa (Memref.isWhole_whole _) mSb (Memref.isWhole_whole _) mFa (Memref.isWhole_whole _)
    mFb (Memref.isWhole_whole _) cc0_scratch5 cc0_scratch6 cc0_scratch7 cc0_scratch8 cc0_scoped0

/-- After `k` tasks the first `k` blocks are written. -/
abbrev partly (h w : Vec F NOut .f32) (k : ℕ) (t : Fin k0_t1_loop.trips) : Vec F NOut .f32 := if t.val < k then w else h

/-- After the last task every block is written. -/
theorem all_partly (d : Dev nD) (L : grid0.Coords) (h w : Vec F NOut .f32) :
    (bigSep Finset.univ fun t : Fin k0_t1_loop.trips => (oP d L t (partly h w k0_t1_loop.trips t) : sProp 𝕄)) = oPs d L w :=
  BI.bigSep_congr fun t _ => congrArg (fun x => (oP d L t x : sProp 𝕄)) (if_pos t.isLt)

/-- A tile's six tasks write its six blocks. -/
theorem tile_run (d : Dev nD) (L : grid0.Coords) (q r : PosShare TreeShare) (f2 : Vec F NSrc .f32)
    (f5 : Vec F NFl .f32) (hfit : ∀ b, FitsAll id (flOf f5 b)) (h : Vec F NOut .f32)
    (O : CellTallies nD τ sig (HIx 1)) (W : Waits sig (HIx 1)) (hO : ∀ g, O g none = 0) :
    iprop(levAts (K (F := F)).L (K (F := F)).lev ∗ oPs d L h ∗ idle d L q r f2 f5 O W)
      ⊢ wp frame (wpE (defs₀ (F := F)) 𝒱₀ (VT d L) none) Set.univ (bK L)
          fun _ => iprop(oPs d L (out id f2 f5) ∗ idle d L q r f2 f5 O W) := by
  unfold bK
  rw [cc0__fwarp_eq_skeleton]
  unfold cc0__fwarp_skel
  dsimp only
  iintro ⟨#Hlv, Ho, Hr⟩
  sl_for (fun k _ => (iprop(levAts (K (F := F)).L (K (F := F)).lev
      ∗ (bigSep Finset.univ fun t : Fin k0_t1_loop.trips => oP d L t (partly h (out id f2 f5) k t)) ∗ idle d L q r f2 f5 O W) : sProp 𝕄)) $$ [Ho Hr]
  case region =>
    intro k _
    change Fin k0_t1_loop.trips at k
    rw [SparseCore.bigSep_erase' (Finset.mem_univ k), SparseCore.bigSep_erase' (Finset.mem_univ k)]
    rw [show partly h (out id f2 f5) k.val k = h from if_neg (lt_irrefl _),
      show partly h (out id f2 f5) (k.val + 1) k = out id f2 f5 from if_pos (Nat.lt_succ_self _)]
    rw [BI.bigSep_congr (s := (Finset.univ : Finset (Fin k0_t1_loop.trips)).erase k) (Ψ := fun t => (oP d L t (partly h (out id f2 f5) (k.val + 1) t) : sProp 𝕄)) (fun t ht => by
      have hne : t.val ≠ k.val := fun e => (Finset.mem_erase.1 ht).1 (Fin.ext e)
      unfold partly
      by_cases h1 : t.val < k.val
      · rw [if_pos h1, if_pos (by omega)]
      · rw [if_neg h1, if_neg (by omega)])]
    iintro ⟨#Hlv, ⟨Ho, Hos⟩, Hr⟩
    iapply (wp_wand_r Idealize.ShloMosaic.frame (wpE (defs₀ (F := F)) 𝒱₀ (VT d L) none) Set.univ)
    isplitl [Ho Hr]
    · iapply (one_task d L _ k q r f2 f5 (hfit _) h O W hO)
      isplitr; · iexact Hlv
      isplitl [Ho]; · iexact Ho
      iexact Hr
    iintro %_ ⟨Ho, Hr⟩
    isplitr; · iexact Hlv
    isplitl [Ho Hos]
    · isplitl [Ho]; · iexact Ho
      iexact Hos
    iexact Hr
  · isplitr; · iexact Hlv
    isplitl [Ho]; · iexact Ho
    iexact Hr
  iintro %_ ⟨-, Ho, Hr⟩
  sl_step
  isplitl [Ho]
  · iapply (Entails.of_eq (all_partly d L h (out id f2 f5)))
    iexact Ho
  iexact Hr

/-- The five counters of a tile's copies. -/
abbrev csem (k : Nat) (hk : k < 5 := by decide) : DmaSem sig := ⟨k, hk⟩
abbrev dcell (d : Dev nD) (c : Fin τ.nSC) (i : Fin τ.nSub) (k : Fin 5) : GSem nD τ sig := (V d c i, .dma (csem k.val k.isLt))

omit [FloatOps F] in
theorem dcell_mem (d : Dev nD) (c : Fin τ.nSC) (i : Fin τ.nSub) (k : Fin 5) : dcell d c i k ∈ ownCells (V d c i) :=
  mem_ownCells.mpr ⟨rfl, (show ∀ s : DmaSem sig, (SemLoc.dma s : SemLoc sig).isScoped .scVector = true by decide) _⟩

omit [FloatOps F] in
/-- A tile's own counters at zero: those of its copies, and the rest. -/
theorem ownSems0_V (d : Dev nD) (L : grid0.Coords) :
    (ownSems0 (VT d L) : sProp 𝕄)
      = iprop((semVal (VT d L, SemLoc.dma (csem 0)) 0 ∗ semVal (VT d L, SemLoc.dma (csem 1)) 0 ∗ semVal (VT d L, SemLoc.dma (csem 2)) 0
          ∗ semVal (VT d L, SemLoc.dma (csem 3)) 0 ∗ semVal (VT d L, SemLoc.dma (csem 4)) 0)
          ∗ bigSep ((ownCells (VT d L)) \ Finset.univ.image (dcell d (cV L) (jV L))) fun g => semVal g 0) := by
  unfold SparseCore.Cfg.ownSems0
  rw [SparseCore.bigSep_sdiff_split' (t := Finset.univ.image (dcell d (cV L) (jV L)))
      (Finset.image_subset_iff.mpr fun k _ => dcell_mem d (cV L) (jV L) k),
    SparseCore.bigSep_image_of_injOn (fun a _ b _ h => by
      have := congrArg (fun g : GSem nD τ sig => g.2) h
      simp only [SemLoc.dma.injEq, Fin.mk.injEq] at this; exact Fin.ext this)]
  rw [show (Finset.univ : Finset (Fin 5)) = {0, 1, 2, 3, 4} by decide,
    SparseCore.bigSep_insert' (by decide), SparseCore.bigSep_insert' (by decide), SparseCore.bigSep_insert' (by decide),
    SparseCore.bigSep_insert' (by decide), bigSep_singleton]
  rfl

/-- The references of a tile's five buffers. -/
abbrev bref (L : grid0.Coords) (b : Ref sig .scVector) : DevRef τ sig := (Proc.scVector (cV L) (jV L)).devRef b

omit [FloatOps F] in
theorem bref_ne (L : grid0.Coords) {b b' : Ref sig .scVector} (h : b ≠ b') : bref L b ≠ bref L b' :=
  fun e => h (Proc.devRef_injective _ e)

/-- What is left of a tile's own buffers beside the five the kernel names. -/
abbrev otherRefs (L : grid0.Coords) : Finset (DevRef τ sig) :=
  (((((ownRefs (τ := τ) (.scVector (cV L) (jV L))).erase (bref L cc0_scratch0)).erase (bref L cc0_scratch1)).erase (bref L cc0_scratch2)).erase
    (bref L cc0_scratch3)).erase (bref L cc0_scratch4)

omit [FloatOps F] in
/-- A tile's own buffers: the five the kernel names, and the rest. -/
theorem ownBufs_V (d : Dev nD) (L : grid0.Coords) :
    (ownBufs (VT d L) : sProp 𝕄)
      = iprop((∃ f, own d L cc0_scratch0 f) ∗ (∃ f, own d L cc0_scratch1 f) ∗ (∃ f, own d L cc0_scratch2 f)
          ∗ (∃ f, own d L cc0_scratch3 f) ∗ (∃ f, own d L cc0_scratch4 f)
          ∗ bigSep (otherRefs L) fun b => iprop(∃ f, ((d, b) : Loc nD τ sig) ↦{fullShare} f)) := by
  unfold SparseCore.Cfg.ownBufs
  rw [SparseCore.bigSep_erase' (SparseCore.Cfg.mem_ownRefs_of_owner (p := Proc.scVector (cV L) (jV L)) (b := bref L cc0_scratch0) rfl),
    SparseCore.bigSep_erase' (Finset.mem_erase.mpr ⟨bref_ne L (by decide),
      SparseCore.Cfg.mem_ownRefs_of_owner (p := Proc.scVector (cV L) (jV L)) (b := bref L cc0_scratch1) rfl⟩),
    SparseCore.bigSep_erase' (Finset.mem_erase.mpr ⟨bref_ne L (by decide), Finset.mem_erase.mpr ⟨bref_ne L (by decide),
      SparseCore.Cfg.mem_ownRefs_of_owner (p := Proc.scVector (cV L) (jV L)) (b := bref L cc0_scratch2) rfl⟩⟩),
    SparseCore.bigSep_erase' (Finset.mem_erase.mpr ⟨bref_ne L (by decide), Finset.mem_erase.mpr ⟨bref_ne L (by decide),
      Finset.mem_erase.mpr ⟨bref_ne L (by decide),
      SparseCore.Cfg.mem_ownRefs_of_owner (p := Proc.scVector (cV L) (jV L)) (b := bref L cc0_scratch3) rfl⟩⟩⟩),
    SparseCore.bigSep_erase' (Finset.mem_erase.mpr ⟨bref_ne L (by decide), Finset.mem_erase.mpr ⟨bref_ne L (by decide),
      Finset.mem_erase.mpr ⟨bref_ne L (by decide), Finset.mem_erase.mpr ⟨bref_ne L (by decide),
      SparseCore.Cfg.mem_ownRefs_of_owner (p := Proc.scVector (cV L) (jV L)) (b := bref L cc0_scratch4) rfl⟩⟩⟩⟩)]

/-- What a tile is handed for its run, and hands back: its shares of the inputs and its blocks of the output. -/
abbrev held3 (d : Dev nD) (L : grid0.Coords) (q r : PosShare TreeShare) (f2 : Vec F NSrc .f32) (f5 : Vec F NFl .f32) (h : Vec F NOut .f32) : sProp 𝕄 :=
  iprop(imP d L q f2 ∗ flP d L r f5 ∗ oPs d L h)

/-- A tile's run, from what the launch hands it to what it hands back. -/
theorem tile_body (hF : (K (F := F)).Facts) (d : Dev nD) (L : grid0.Coords) (q r : PosShare TreeShare) (f2 : Vec F NSrc .f32)
    (f5 : Vec F NFl .f32) (hfit : ∀ b, FitsAll id (flOf f5 b)) (h : Vec F NOut .f32)
    (O : CellTallies nD τ sig (HIx 1)) (W : Waits sig (HIx 1)) (hO : ∀ g, O g none = 0) :
    iprop(levAts (K (F := F)).L (K (F := F)).lev ∗ emp ∗ held3 d L q r f2 f5 h
        ∗ scopedBufs (VT d L) ∗ scopedSems0 (VT d L) ∗ owes (VT d L) O W)
      ⊢ wp frame (wpE (defs₀ (F := F)) 𝒱₀ (VT d L) none) Set.univ (bK L)
          fun _ => iprop(held3 d L q r f2 f5 (out id f2 f5) ∗ scopedBufs (VT d L) ∗ scopedSems0 (VT d L)
            ∗ ∃ W', ⌜∀ p ∈ W', p ∈ W ∨ p.2 = none ∨ p.2 = some (0 : Fin 1)⌝ ∗ owes (VT d L) O W') := by
  rw [(K (F := F)).scopedBufs_V hF d (cV L) (jV L), SparseCore.Cfg.scopedSems0_V (Val := Elt F) d (cV L) (jV L), ownSems0_V, ownBufs_V]
  iintro ⟨#Hlv, -, ⟨Hi, Hl, Ho⟩, ⟨Hb0, Hb1, Hb2, Hb3, Hb4, Hbufs⟩, ⟨⟨Hc0, Hc1, Hc2, Hc3, Hc4⟩, Hsems⟩, HO⟩
  iapply (wp_wand_r Idealize.ShloMosaic.frame (wpE (defs₀ (F := F)) 𝒱₀ (VT d L) none) Set.univ)
  isplitl [Hi Hl Ho Hb0 Hb1 Hb2 Hb3 Hb4 Hc0 Hc1 Hc2 Hc3 Hc4 HO]
  · iapply (tile_run d L q r f2 f5 hfit h O W hO)
    isplitr; · iexact Hlv
    isplitl [Ho]; · iexact Ho
    unfold idle owing
    isplitl [Hi]; · iexact Hi
    isplitl [Hl]; · iexact Hl
    isplitl [Hb0]; · iexact Hb0
    isplitl [Hb1]; · iexact Hb1
    isplitl [Hb2]; · iexact Hb2
    isplitl [Hb3]; · iexact Hb3
    isplitl [Hb4]; · iexact Hb4
    isplitl [Hc0]; · iexact Hc0
    isplitl [Hc1]; · iexact Hc1
    isplitl [Hc2]; · iexact Hc2
    isplitl [Hc3]; · iexact Hc3
    isplitl [Hc4]; · iexact Hc4
    iexists W
    isplitr
    · ipureintro; exact fun p hp => Or.inl hp
    · iexact HO
  unfold idle owing
  iintro %_ ⟨Ho, Hi, Hl, Hb0, Hb1, Hb2, Hb3, Hb4, Hc0, Hc1, Hc2, Hc3, Hc4, %W', %hW, HO⟩
  isplitl [Hi Hl Ho]
  · isplitl [Hi]; · iexact Hi
    isplitl [Hl]; · iexact Hl
    iexact Ho
  isplitl [Hb0 Hb1 Hb2 Hb3 Hb4 Hbufs]
  · isplitl [Hb0]; · iexact Hb0
    isplitl [Hb1]; · iexact Hb1
    isplitl [Hb2]; · iexact Hb2
    isplitl [Hb3]; · iexact Hb3
    isplitl [Hb4]; · iexact Hb4
    iexact Hbufs
  isplitl [Hc0 Hc1 Hc2 Hc3 Hc4 Hsems]
  · isplitl [Hc0 Hc1 Hc2 Hc3 Hc4]
    · isplitl [Hc0]; · iexact Hc0
      isplitl [Hc1]; · iexact Hc1
      isplitl [Hc2]; · iexact Hc2
      isplitl [Hc3]; · iexact Hc3
      iexact Hc4
    iexact Hsems
  iexists W'; isplitr
  · ipureintro; exact fun p hp => (hW p hp).imp_right Or.inl
  · iexact HO

end Splat.KI
-- ==== Proof.KI.Launch.lean ====
/- The launch: what each SparseCore and each tile is handed, how the arrays split among them and join again,
and the program's whole run. -/
module

public import proofs.«01_k».proof.Proof.KI.Tile

@[expose] public section

noncomputable section

namespace Splat.KI

open Cert.KernelIdeal Cert.KernelIdeal.Gen
open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx Pay tileRest ownBufs ownSems0 ownCells ownRefs mem_ownCells mem_ownRefs)
open Idealize.ShloMosaic.StableHlo (held held_split held_sdiff_result wp_hlo_within)
open Idealize.ShloMosaic.Transfers (dealOf pointsTo_deal)
open Idealize.ShloMosaic.Tactic

variable {F : FTy → Type} [FloatOps F]

local notation "𝕄" => MT nD τ sig (HIx 1) (Elt F) ℕ UU ℕ

omit [FloatOps F] in
theorem nSub_zero : (K (F := F)).nSub 0 = 16 := rfl
omit [FloatOps F] in
theorem nCore_zero : (K (F := F)).nCore 0 = 2 := rfl
/-- The program's loops need no variant either. -/
abbrev 𝒱 : Variants := 𝒱₀.lift
abbrev v₀ : 𝒱.V := Sum.inl none
/-- The launch's cells among the run's ghost state. -/
abbrev EH : Emb UH (MT nD τ sig (HIx 1) (Elt F) ℕ UU ℕ) := embL

/-- What the launch asks of the program's semaphores. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide, fun _ => rfl⟩

/-- The grid point of SparseCore `c`'s tile `s`. -/
def coordsV (c : Fin 2) (s : Fin 16) : grid0.Coords :=
  fun | 0 => c | 1 => s | ⟨_ + 2, h⟩ => absurd h (Nat.not_lt.2 (Nat.le_add_left _ _))

/-- The packed images, the packed flow and the output, as the TensorCore names them. -/
abbrev iLoc (d : Dev nD) : Loc nD τ sig := (SparseCore.T d).loc main_v2
abbrev lLoc (d : Dev nD) : Loc nD τ sig := (SparseCore.T d).loc main_v5
abbrev oLoc (d : Dev nD) : Loc nD τ sig := (SparseCore.T d).loc main_v6

/-- A SparseCore's share of what is only read, and a tile's. -/
abbrev cSh (c : Fin 2) : PosShare TreeShare := dealOf fullShare Finset.univ c
abbrev tSh (c : Fin 2) (i : Fin 16) : PosShare TreeShare := dealOf (cSh c) Finset.univ i

/-- What SparseCore `c` is handed: its shares of the inputs and its tiles' blocks of the output, at contents `h`. -/
abbrev forCore (d : Dev nD) (c : Fin 2) (f2 : Vec F NSrc .f32) (f5 : Vec F NFl .f32) (h : Vec F NOut .f32) : sProp 𝕄 :=
  iprop((iLoc d ↦{cSh c} f2) ∗ (lLoc d ↦{cSh c} f5) ∗ bigSep Finset.univ fun i : Fin 16 => oPs d (coordsV c i) h)
/-- What its tile `i` is handed. -/
abbrev forTile (d : Dev nD) (c : Fin 2) (i : Fin 16) (f2 : Vec F NSrc .f32) (f5 : Vec F NFl .f32) (h : Vec F NOut .f32) : sProp 𝕄 :=
  held3 d (coordsV c i) (tSh c i) (tSh c i) f2 f5 h

section Launch

variable (A2 : Dev nD → Vec F NSrc .f32) (A5 : Dev nD → Vec F NFl .f32) (A6 : Dev nD → Vec F NOut .f32)

/-- What the handshakes carry. -/
def P : (K (F := F)).Pay (nD := nD) (Val := Elt F) (Name := ℕ) (U := UU) where
  st := fun q d c => match q with | 0 => forCore d (Fin.cast nCore_zero c) (A2 d) (A5 d) (A6 d)
  dn := fun q d c => match q with | 0 => forCore d (Fin.cast nCore_zero c) (A2 d) (A5 d) (out id (A2 d) (A5 d))
  go := fun q d c i => match q with | 0 => forTile d (Fin.cast nCore_zero c) (Fin.cast nSub_zero i) (A2 d) (A5 d) (A6 d)
  td := fun q d c i => match q with | 0 => forTile d (Fin.cast nCore_zero c) (Fin.cast nSub_zero i) (A2 d) (A5 d) (out id (A2 d) (A5 d))
  x := fun _ _ => iprop(emp)

instance P_storable : (P A2 A5 A6).IsStorable where
  st q d c := match q with | 0 => (inferInstance : BI.Storable (upEmb : UEmb _ 𝕄) (forCore d _ (A2 d) (A5 d) (A6 d)))
  dn q d c := match q with | 0 => (inferInstance : BI.Storable (upEmb : UEmb _ 𝕄) (forCore d _ (A2 d) (A5 d) (out id (A2 d) (A5 d))))
  go q d c i := match q with | 0 => (inferInstance : BI.Storable (upEmb : UEmb _ 𝕄) (forTile d _ _ (A2 d) (A5 d) (A6 d)))
  td q d c i := match q with | 0 => (inferInstance : BI.Storable (upEmb : UEmb _ 𝕄) (forTile d _ _ (A2 d) (A5 d) (out id (A2 d) (A5 d))))

theorem defs₀_vector (c : Fin τ.nSC) (s : Fin τ.nSub) :
    defs₀ (F := F) (.scVector c s) 0 () = SparseCore.onTile hcore0 hsub0 (fun c s => bK (coordsV c s)) ⟨⟩ c s := rfl

/-- Every tile's run from what it is handed to what it hands back. -/
theorem tileObl (hfit : ∀ d b, FitsAll id (flOf (A5 d) b)) : (K (F := F)).TileObl (D (F := F)) 𝒱 (P A2 A5 A6) v₀ 0 := by
  intro d c i O W hO _ _
  simp only [show (P A2 A5 A6).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body facts d (coordsV ⟨_, hci.1⟩ ⟨_, hci.2⟩) _ _ (A2 d) (A5 d) (hfit d) (A6 d) O W hO

omit [FloatOps F] in
theorem bigSep_tasks (Φ : Fin 16 → sProp 𝕄) :
    (bigSep Finset.univ fun i : Fin ((K (F := F)).nSub 0) => Φ (Fin.cast nSub_zero i)) = bigSep Finset.univ Φ :=
  BI.bigSep_congr fun _ _ => congrArg Φ (Fin.ext rfl)
omit [FloatOps F] in
theorem bigSep_cores (Φ : Fin 2 → sProp 𝕄) :
    (bigSep Finset.univ fun i : Fin ((K (F := F)).nCore 0) => Φ (Fin.cast nCore_zero i)) = bigSep Finset.univ Φ :=
  BI.bigSep_congr fun _ _ => congrArg Φ (Fin.ext rfl)

/-- A SparseCore's part is its tiles' parts. -/
theorem tiles_eq (d : Dev nD) (c : Fin 2) (f2 : Vec F NSrc .f32) (f5 : Vec F NFl .f32) (h : Vec F NOut .f32) :
    (bigSep Finset.univ fun i : Fin 16 => (forTile d c i f2 f5 h : sProp 𝕄)) = forCore d c f2 f5 h := by
  unfold forTile held3 forCore
  rw [BI.bigSep_sep', BI.bigSep_sep']
  rw [pointsTo_deal (ℓ := iLoc d) (S := Finset.univ) (f := f2) (Finset.univ : Finset (Fin 16)) Finset.univ_nonempty (cSh c),
    pointsTo_deal (ℓ := lLoc d) (S := Finset.univ) (f := f5) (Finset.univ : Finset (Fin 16)) Finset.univ_nonempty (cSh c)]

/-- A SparseCore's part splits among its tiles and joins again. -/
theorem vecSplit : (K (F := F)).VecSplit' (P A2 A5 A6) 0 := by
  intro d c
  show forCore d (Fin.cast nCore_zero c) (A2 d) (A5 d) (A6 d) ⊢ |={Set.univ}=> iprop(
      (bigSep Finset.univ fun i : Fin ((K (F := F)).nSub 0) => forTile d (Fin.cast nCore_zero c) (Fin.cast nSub_zero i) (A2 d) (A5 d) (A6 d))
      ∗ ((bigSep Finset.univ fun i : Fin ((K (F := F)).nSub 0) =>
            forTile d (Fin.cast nCore_zero c) (Fin.cast nSub_zero i) (A2 d) (A5 d) (out id (A2 d) (A5 d)))
          -∗ forCore d (Fin.cast nCore_zero c) (A2 d) (A5 d) (out id (A2 d) (A5 d))))
  rw [bigSep_tasks (F := F) (fun i => forTile d (Fin.cast nCore_zero c) i (A2 d) (A5 d) (A6 d)),
    bigSep_tasks (F := F) (fun i => forTile d (Fin.cast nCore_zero c) i (A2 d) (A5 d) (out id (A2 d) (A5 d))), tiles_eq, tiles_eq]
  iintro H; imodintro
  isplitl [H]; · iexact H
  iintro H; iexact H

/-- The index of a block of the output: SparseCore, tile, task. -/
abbrev BIx : Type := Fin 2 × Fin 16 × Fin k0_t1_loop.trips
abbrev bS (p : BIx) : Finset NOut.Idx := oS (coordsV p.1 p.2.1) p.2.2

omit [FloatOps F] in
/-- Block membership: the image, and the pair of channels. -/
theorem mem_bS (p : BIx) (x : NOut.Idx) :
    x ∈ bS p ↔ (x 0).val = tn (coordsV p.1 p.2.1) p.2.2 / 48 ∧ (x 1).val / 100352 = tn (coordsV p.1 p.2.1) p.2.2 % 48 := by
  have e := off12_eq (coordsV p.1 p.2.1) p.2.2
  have e0 : k0_off12 (coordsV p.1 p.2.1) p.2.2 0 = tb (coordsV p.1 p.2.1) p.2.2 := by rw [e]; rfl
  have e1 : k0_off12 (coordsV p.1 p.2.1) p.2.2 1 = 100352 * tp (coordsV p.1 p.2.1) p.2.2 := by rw [e]; rfl
  unfold tb at e0
  unfold tp at e1
  unfold bS oS
  rw [Rect.mem_set_unit]
  constructor
  · intro h
    have h0 := h 0
    have h1 := h 1
    rw [e0] at h0
    rw [e1] at h1
    change _ ≤ (x 0).val ∧ (x 0).val < _ + 1 at h0
    change _ ≤ (x 1).val ∧ (x 1).val < _ + 100352 at h1
    omega
  · rintro ⟨h0, h1⟩ a
    match a with
    | 0 => rw [e0]; show _ ≤ (x 0).val ∧ (x 0).val < _ + 1; omega
    | 1 => rw [e1]; show _ ≤ (x 1).val ∧ (x 1).val < _ + 100352; omega

omit [FloatOps F] in
theorem tn_coords (p : BIx) : tn (coordsV p.1 p.2.1) p.2.2 = (p.2.1.val * 2 + p.1.val) * 6 + p.2.2.val := rfl

omit [FloatOps F] in
theorem bS_disjoint : ∀ p ∈ (Finset.univ : Finset BIx), ∀ p' ∈ (Finset.univ : Finset BIx), p ≠ p' → Disjoint (bS p) (bS p') := by
  intro p _ p' _ hne
  refine Finset.disjoint_left.mpr fun x hx hx' => hne ?_
  rw [mem_bS, tn_coords] at hx hx'
  obtain ⟨c, s, t⟩ := p
  obtain ⟨c', s', t'⟩ := p'
  have ht : t.val < 6 := t.isLt
  have ht' : t'.val < 6 := t'.isLt
  have hc := c.isLt
  have hc' := c'.isLt
  simp only at hx hx'
  refine Prod.ext (Fin.ext ?_) (Prod.ext (Fin.ext ?_) (Fin.ext ?_)) <;> simp only <;> omega

omit [FloatOps F] in
theorem bS_cover : (Finset.univ : Finset BIx).biUnion bS = Finset.univ := by
  refine Finset.eq_univ_of_forall fun x => Finset.mem_biUnion.mpr ?_
  have h0 : (x 0).val < 4 := (x 0).isLt
  have h1 : (x 1).val < 4816896 := (x 1).isLt
  refine ⟨(⟨(48 * (x 0).val + (x 1).val / 100352) / 6 % 2, by omega⟩, ⟨(48 * (x 0).val + (x 1).val / 100352) / 12, by omega⟩,
    ⟨(48 * (x 0).val + (x 1).val / 100352) % 6, show _ < 6 by omega⟩), Finset.mem_univ _, ?_⟩
  rw [mem_bS, tn_coords]
  simp only
  omega

omit [FloatOps F] in
/-- The output whole is the SparseCores' tiles' blocks of it. -/
theorem out_blocks (d : Dev nD) (h : Vec F NOut .f32) :
    (oLoc d ↦{fullShare} h : sProp 𝕄) = bigSep Finset.univ fun c : Fin 2 => bigSep Finset.univ fun i : Fin 16 => oPs d (coordsV c i) h := by
  have e : (oLoc d ↦{fullShare} h : sProp 𝕄) = bigSep Finset.univ fun p : BIx => oLoc d ↦[bS p]{fullShare} h := by
    rw [← pointsTo_biUnion Finset.univ (ℓ := oLoc d) bS bS_disjoint, bS_cover]
  rw [e, BI.bigSep_univ_prod]
  refine BI.bigSep_congr fun c _ => ?_
  rw [BI.bigSep_univ_prod]

/-- The three arrays whole are the SparseCores' parts. -/
theorem cores_eq (d : Dev nD) (f2 : Vec F NSrc .f32) (f5 : Vec F NFl .f32) (h : Vec F NOut .f32) :
    (bigSep Finset.univ fun c : Fin 2 => (forCore d c f2 f5 h : sProp 𝕄))
      = iprop((iLoc d ↦{fullShare} f2) ∗ (lLoc d ↦{fullShare} f5) ∗ oLoc d ↦{fullShare} h) := by
  unfold forCore
  rw [BI.bigSep_sep', BI.bigSep_sep', out_blocks]
  rw [pointsTo_deal (ℓ := iLoc d) (S := Finset.univ) (f := f2) (Finset.univ : Finset (Fin 2)) Finset.univ_nonempty fullShare,
    pointsTo_deal (ℓ := lLoc d) (S := Finset.univ) (f := f5) (Finset.univ : Finset (Fin 2)) Finset.univ_nonempty fullShare]

/-- What the call takes for the SparseCores. -/
theorem st0_eq (d : Dev nD) : (bigSep Finset.univ fun c : Fin ((K (F := F)).nCore 0) => (P A2 A5 A6).st 0 d c)
    = iprop((iLoc d ↦{fullShare} A2 d) ∗ (lLoc d ↦{fullShare} A5 d) ∗ oLoc d ↦{fullShare} A6 d) :=
  (bigSep_cores (F := F) fun c => forCore d c (A2 d) (A5 d) (A6 d)).trans (cores_eq d _ _ _)
/-- What the call hands back. -/
theorem dn0_eq (d : Dev nD) : (bigSep Finset.univ fun c : Fin ((K (F := F)).nCore 0) => (P A2 A5 A6).dn 0 d c)
    = iprop((iLoc d ↦{fullShare} A2 d) ∗ (lLoc d ↦{fullShare} A5 d) ∗ oLoc d ↦{fullShare} out id (A2 d) (A5 d)) :=
  (bigSep_cores (F := F) fun c => forCore d c (A2 d) (A5 d) (out id (A2 d) (A5 d))).trans (cores_eq d _ _ _)

/-- The launch's ghost state. -/
def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P A2 A5 A6).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P A2 A5 A6).x q thr)
      = bigSep Finset.univ fun _ => iprop(emp) from BI.bigSep_congr fun _ _ => bigSep_univ_of_subsingleton (0 : Fin 1), bigSep_emp']
  iempintro

end Launch

end Splat.KI
-- ==== Proof.KI.Run.lean ====
/- The program's whole run over any float values: the arrays the call is given, the host steps around it, and
what the memory holds at the end. -/
module

public import proofs.«01_k».proof.Proof.KI.Launch

@[expose] public section

noncomputable section

namespace Splat.KI

open Cert.KernelIdeal Cert.KernelIdeal.Gen
open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx Pay tileRest ownBufs ownSems0 ownCells ownRefs mem_ownCells mem_ownRefs)
open Idealize.ShloMosaic.StableHlo (held held_split held_sdiff_result wp_hlo_within)
open Idealize.ShloMosaic.Transfers (dealOf pointsTo_deal)
open Idealize.ShloMosaic.Tactic

variable {F : FTy → Type} [FloatOps F]

local notation "𝕄" => MT nD τ sig (HIx 1) (Elt F) ℕ UU ℕ

/-- The packed images: the channels in pairs, the rows in chunks. -/
def A2 (x : Vec F S4x96x224x224 .f32) : Vec F NSrc .f32 :=
  shapeCast S4x48x28x3584 (transpose S4x48x28x2x1792 [0, 1, 3, 2, 4]
    (shapeCast S4x48x2x28x1792 x shapeCasts_S4x96x224x224_S4x48x2x28x1792) transposes_S4x48x2x28x1792_S4x48x28x2x1792_0_1_3_2_4)
    shapeCasts_S4x48x28x2x1792_S4x48x28x3584

/-- The packed flow: the rows in chunks, a chunk's x parts before its y parts. -/
def A5 (y : Vec F S4x224x224x2 .f32) : Vec F NFl .f32 :=
  shapeCast S4x28x3584 (transpose S4x28x2x1792 [0, 1, 3, 2]
    (shapeCast S4x28x1792x2 y shapeCasts_S4x224x224x2_S4x28x1792x2) transposes_S4x28x1792x2_S4x28x2x1792_0_1_3_2)
    shapeCasts_S4x28x2x1792_S4x28x3584

/-- The program's result. -/
def Res (x : Vec F S4x96x224x224 .f32) (y : Vec F S4x224x224x2 .f32) : Vec F S4x96x224x224 .f32 :=
  shapeCast S4x96x224x224 (out id (A2 x) (A5 y)) shapeCasts_S4x4816896_S4x96x224x224

/-- The host steps before the call, and the one after it. -/
abbrev op1 : HloOp τ sig (Elt F) := StableHlo.reshape main_arg0 main_v0 (rfl : (.f32 : EltTy) = .f32) shapeCasts_S4x96x224x224_S4x48x2x28x1792
abbrev op2 : HloOp τ sig (Elt F) := StableHlo.unary main_v0 main_v1
  ((transpose S4x48x28x2x1792 [0, 1, 3, 2, 4] · transposes_S4x48x2x28x1792_S4x48x28x2x1792_0_1_3_2_4) :
     (⟨S4x48x2x28x1792, .f32⟩ : BufTy).Contents (Elt F) → (⟨S4x48x28x2x1792, .f32⟩ : BufTy).Contents (Elt F))
abbrev op3 : HloOp τ sig (Elt F) := StableHlo.reshape main_v1 main_v2 (rfl : (.f32 : EltTy) = .f32) shapeCasts_S4x48x28x2x1792_S4x48x28x3584
abbrev op4 : HloOp τ sig (Elt F) := StableHlo.reshape main_arg1 main_v3 (rfl : (.f32 : EltTy) = .f32) shapeCasts_S4x224x224x2_S4x28x1792x2
abbrev op5 : HloOp τ sig (Elt F) := StableHlo.unary main_v3 main_v4
  ((transpose S4x28x2x1792 [0, 1, 3, 2] · transposes_S4x28x1792x2_S4x28x2x1792_0_1_3_2) :
     (⟨S4x28x1792x2, .f32⟩ : BufTy).Contents (Elt F) → (⟨S4x28x2x1792, .f32⟩ : BufTy).Contents (Elt F))
abbrev op6 : HloOp τ sig (Elt F) := StableHlo.reshape main_v4 main_v5 (rfl : (.f32 : EltTy) = .f32) shapeCasts_S4x28x2x1792_S4x28x3584
abbrev op7 : HloOp τ sig (Elt F) := StableHlo.reshape main_v6 main_v7 (rfl : (.f32 : EltTy) = .f32) shapeCasts_S4x4816896_S4x96x224x224

/-- The program's tensor values. -/
abbrev SA : Finset (DevRef τ sig) :=
  {Proc.devRef .tc (main_arg0 : Ref sig .tc), Proc.devRef .tc (main_arg1 : Ref sig .tc), Proc.devRef .tc (main_v0 : Ref sig .tc),
   Proc.devRef .tc (main_v1 : Ref sig .tc), Proc.devRef .tc (main_v2 : Ref sig .tc), Proc.devRef .tc (main_v3 : Ref sig .tc),
   Proc.devRef .tc (main_v4 : Ref sig .tc), Proc.devRef .tc (main_v5 : Ref sig .tc), Proc.devRef .tc (main_v6 : Ref sig .tc),
   Proc.devRef .tc (main_v7 : Ref sig .tc)}
/-- Those beside the call's three. -/
abbrev SR : Finset (DevRef τ sig) :=
  {Proc.devRef .tc (main_arg0 : Ref sig .tc), Proc.devRef .tc (main_arg1 : Ref sig .tc), Proc.devRef .tc (main_v0 : Ref sig .tc),
   Proc.devRef .tc (main_v1 : Ref sig .tc), Proc.devRef .tc (main_v3 : Ref sig .tc),
   Proc.devRef .tc (main_v4 : Ref sig .tc), Proc.devRef .tc (main_v7 : Ref sig .tc)}

omit [FloatOps F] in
/-- A step between two of the program's values touches no other memory. -/
theorem sub2 {x y : Ref sig .tc} (h : ({Proc.devRef .tc x, Proc.devRef .tc y} : Finset (DevRef τ sig)) ⊆ SA := by decide) :
    ({Proc.devRef .tc x, Proc.devRef .tc y} : Finset (DevRef τ sig)) ⊆ SA := h

variable (m : (ℓ : Loc nD τ sig) → Buf (Elt F) ℓ) (ρ : Dev nD → PrngReg)

/-- The memory at the launch, before the call, after it, and at the end. -/
def V0 (d : Dev nD) : Valuation τ sig (Elt F) := fun b => m (d, b)
abbrev V6 (d : Dev nD) : Valuation τ sig (Elt F) :=
  (op6 (F := F)).result ((op5 (F := F)).result ((op4 (F := F)).result ((op3 (F := F)).result ((op2 (F := F)).result ((op1 (F := F)).result (V0 m d))))))
abbrev X (d : Dev nD) : Vec F S4x96x224x224 .f32 := m ((SparseCore.T d).loc main_arg0)
abbrev Y (d : Dev nD) : Vec F S4x224x224x2 .f32 := m ((SparseCore.T d).loc main_arg1)
abbrev I6 (d : Dev nD) : Vec F NOut .f32 := m ((SparseCore.T d).loc main_v6)
def V7 (d : Dev nD) : Valuation τ sig (Elt F) :=
  Function.update (V6 m d) (Proc.devRef .tc (main_v6 : Ref sig .tc)) (out id (A2 (X m d)) (A5 (Y m d)) : Vec F NOut .f32)
abbrev V8 (d : Dev nD) : Valuation τ sig (Elt F) := (op7 (F := F)).result (V7 m d)

theorem V6_v2 (d : Dev nD) : V6 m d (Proc.devRef .tc (main_v2 : Ref sig .tc)) = A2 (X m d) := by
  show StableHlo.after [op1, op2, op3, op4, op5, op6] (V0 m d) (Proc.devRef .tc (main_v2 : Ref sig .tc)) = _
  after_results
  rfl
theorem V6_v5 (d : Dev nD) : V6 m d (Proc.devRef .tc (main_v5 : Ref sig .tc)) = A5 (Y m d) := by
  show StableHlo.after [op1, op2, op3, op4, op5, op6] (V0 m d) (Proc.devRef .tc (main_v5 : Ref sig .tc)) = _
  after_results
  rfl
theorem V6_v6 (d : Dev nD) : V6 m d (Proc.devRef .tc (main_v6 : Ref sig .tc)) = I6 m d := by
  show StableHlo.after [op1, op2, op3, op4, op5, op6] (V0 m d) (Proc.devRef .tc (main_v6 : Ref sig .tc)) = _
  after_results
  rfl
theorem V6_arg0 (d : Dev nD) : V6 m d (Proc.devRef .tc (main_arg0 : Ref sig .tc)) = X m d := by
  show StableHlo.after [op1, op2, op3, op4, op5, op6] (V0 m d) (Proc.devRef .tc (main_arg0 : Ref sig .tc)) = _
  after_results
  rfl
theorem V6_arg1 (d : Dev nD) : V6 m d (Proc.devRef .tc (main_arg1 : Ref sig .tc)) = Y m d := by
  show StableHlo.after [op1, op2, op3, op4, op5, op6] (V0 m d) (Proc.devRef .tc (main_arg1 : Ref sig .tc)) = _
  after_results
  rfl

/-- Away from the call's result, the call changes nothing. -/
theorem V7_ne (d : Dev nD) (b : DevRef τ sig) (h : b ≠ Proc.devRef .tc (main_v6 : Ref sig .tc)) : V7 m d b = V6 m d b :=
  Function.update_of_ne h _ _
theorem V7_v6 (d : Dev nD) : V7 m d (Proc.devRef .tc (main_v6 : Ref sig .tc)) = out id (A2 (X m d)) (A5 (Y m d)) := Function.update_self _ _ _

theorem V8_v7 (d : Dev nD) : V8 m d (Proc.devRef .tc (main_v7 : Ref sig .tc)) = Res (X m d) (Y m d) := by
  unfold V8 op7
  rw [StableHlo.reshape_result', V7_v6]
  rfl
theorem V8_arg0 (d : Dev nD) : V8 m d (Proc.devRef .tc (main_arg0 : Ref sig .tc)) = X m d := by
  unfold V8 op7
  rw [StableHlo.reshape_result_ne' _ _ _ _ _ (by decide), V7_ne m d _ (by decide), V6_arg0]
theorem V8_arg1 (d : Dev nD) : V8 m d (Proc.devRef .tc (main_arg1 : Ref sig .tc)) = Y m d := by
  unfold V8 op7
  rw [StableHlo.reshape_result_ne' _ _ _ _ _ (by decide), V7_ne m d _ (by decide), V6_arg1]

omit [FloatOps F] in
theorem unscoped_held (d : Dev nD) : (unscopedBufs d (fun b => m ((SparseCore.T d).loc b)) : sProp 𝕄) = held (T d) SA (V0 m d) := by
  unfold unscopedBufs held SA
  rw [show (Finset.univ.filter fun b : Ref sig .tc => ¬ b.isScoped)
      = {main_arg0, main_arg1, main_v0, main_v1, main_v2, main_v3, main_v4, main_v5, main_v6, main_v7} by decide]
  iterate 9 rw [SparseCore.bigSep_insert' (by decide)]
  iterate 9 rw [SparseCore.bigSep_insert' (by decide)]
  rw [bigSep_singleton, bigSep_singleton]
  rfl

omit [FloatOps F] in
/-- The call's three arrays, and the others. -/
theorem held_SA (d : Dev nD) (W : Valuation τ sig (Elt F)) :
    (held (T d) SA W : sProp 𝕄) = iprop((iLoc d ↦{fullShare} W (Proc.devRef .tc (main_v2 : Ref sig .tc)))
      ∗ (lLoc d ↦{fullShare} W (Proc.devRef .tc (main_v5 : Ref sig .tc))) ∗ (oLoc d ↦{fullShare} W (Proc.devRef .tc (main_v6 : Ref sig .tc)))
      ∗ held (T d) SR W) := by
  unfold held
  rw [show SA = insert (Proc.devRef .tc (main_v2 : Ref sig .tc)) (insert (Proc.devRef .tc (main_v5 : Ref sig .tc))
    (insert (Proc.devRef .tc (main_v6 : Ref sig .tc)) SR)) by decide]
  rw [SparseCore.bigSep_insert' (by decide), SparseCore.bigSep_insert' (by decide), SparseCore.bigSep_insert' (by decide)]

omit [FloatOps F] in
theorem held_SR (d : Dev nD) (W W' : Valuation τ sig (Elt F)) (h : ∀ b, b ≠ Proc.devRef .tc (main_v6 : Ref sig .tc) → W b = W' b) :
    (held (T d) SR W : sProp 𝕄) = held (T d) SR W' := by
  unfold held
  refine BI.bigSep_congr fun b hb => ?_
  rw [h b (fun e => by subst e; revert hb; decide)]

omit [FloatOps F] in
/-- The result and the arguments, and the others. -/
theorem held_end (d : Dev nD) (W : Valuation τ sig (Elt F)) :
    (held (T d) SA W : sProp 𝕄) = iprop(((SparseCore.T d).loc main_arg0 ↦{fullShare} W (Proc.devRef .tc (main_arg0 : Ref sig .tc)))
      ∗ ((SparseCore.T d).loc main_arg1 ↦{fullShare} W (Proc.devRef .tc (main_arg1 : Ref sig .tc)))
      ∗ ((SparseCore.T d).loc main_v7 ↦{fullShare} W (Proc.devRef .tc (main_v7 : Ref sig .tc)))
      ∗ held (T d) (((SA.erase (Proc.devRef .tc (main_arg0 : Ref sig .tc))).erase (Proc.devRef .tc (main_arg1 : Ref sig .tc))).erase
          (Proc.devRef .tc (main_v7 : Ref sig .tc))) W) := by
  unfold held
  rw [SparseCore.bigSep_erase' (show (Proc.devRef .tc (main_arg0 : Ref sig .tc)) ∈ SA by decide),
    SparseCore.bigSep_erase' (show (Proc.devRef .tc (main_arg1 : Ref sig .tc)) ∈ SA.erase (Proc.devRef .tc (main_arg0 : Ref sig .tc)) by decide),
    SparseCore.bigSep_erase' (show (Proc.devRef .tc (main_v7 : Ref sig .tc)) ∈ (SA.erase (Proc.devRef .tc (main_arg0 : Ref sig .tc))).erase
      (Proc.devRef .tc (main_arg1 : Ref sig .tc)) by decide)]

/-- What the handshakes of this program's call carry. -/
abbrev PP : (K (F := F)).Pay (nD := nD) (Val := Elt F) (Name := ℕ) (U := UU) := P (fun d => A2 (X m d)) (fun d => A5 (Y m d)) (fun d => I6 m d)

/-- What the program leaves: its arguments as they were, its result. -/
abbrev FIN (d : Dev nD) : sProp 𝕄 := iprop(((SparseCore.T d).loc main_arg0 ↦{fullShare} X m d)
  ∗ ((SparseCore.T d).loc main_arg1 ↦{fullShare} Y m d) ∗ ((SparseCore.T d).loc main_v7 ↦{fullShare} Res (X m d) (Y m d)))

/-- The TensorCore's program: the host steps, the call, the last reshape. -/
theorem hmain (κ : GSem nD τ sig → ℕ) (d : Dev nD) :
    iprop((K (F := F)).ctx EH (PP m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := op1) (S := SA) (sub2 (x := main_arg0) (y := main_v0)) (V := V0 m d)) $$ [Hb Hheld]
  · isplitl [Hb] <;> iassumption
  iintro ⟨Hb, Hheld⟩
  rw [wp_ret]; imodintro
  iapply (wp_hlo_within 𝒱 (SparseCore.T d) none Set.univ (op := op2) (S := SA) (sub2 (x := main_v0) (y := main_v1))) $$ [Hb Hheld]
  · isplitl [Hb] <;> iassumption
  iintro ⟨Hb, Hheld⟩
  rw [wp_ret]; imodintro
  iapply (wp_hlo_within 𝒱 (SparseCore.T d) none Set.univ (op := op3) (S := SA) (sub2 (x := main_v1) (y := main_v2))) $$ [Hb Hheld]
  · isplitl [Hb] <;> iassumption
  iintro ⟨Hb, Hheld⟩
  rw [wp_ret]; imodintro
  iapply (wp_hlo_within 𝒱 (SparseCore.T d) none Set.univ (op := op4) (S := SA) (sub2 (x := main_arg1) (y := main_v3))) $$ [Hb Hheld]
  · isplitl [Hb] <;> iassumption
  iintro ⟨Hb, Hheld⟩
  rw [wp_ret]; imodintro
  iapply (wp_hlo_within 𝒱 (SparseCore.T d) none Set.univ (op := op5) (S := SA) (sub2 (x := main_v3) (y := main_v4))) $$ [Hb Hheld]
  · isplitl [Hb] <;> iassumption
  iintro ⟨Hb, Hheld⟩
  rw [wp_ret]; imodintro
  iapply (wp_hlo_within 𝒱 (SparseCore.T d) none Set.univ (op := op6) (S := SA) (sub2 (x := main_v4) (y := main_v5))) $$ [Hb Hheld]
  · isplitl [Hb] <;> iassumption
  iintro ⟨Hb, Hheld⟩
  rw [wp_ret]; imodintro
  ihave Hh := (Entails.of_eq (held_SA (F := F) d (V6 m d))) $$ Hheld
  rw [V6_v2, V6_v5, V6_v6]
  icases Hh with ⟨Hi, Hl, Ho, Hr⟩
  iapply ((K (F := F)).wp_run (D (F := F)) 𝒱 (EH := EH) (P := PP m) κ d 0) $$ [Hst Hi Hl Ho Hb Hr Hts]
  isplitr; · iexact Hctx
  isplitl [Hst]; · iexact Hst
  isplitl [Hi Hl Ho]
  · rw [st0_eq]
    isplitl [Hi]; · iexact Hi
    isplitl [Hl]; · iexact Hl
    iexact Ho
  iintro ⟨Hst, Hdn⟩
  ihave Hdn := (Entails.of_eq (dn0_eq (fun d => A2 (X m d)) (fun d => A5 (Y m d)) (fun d => I6 m d) d)) $$ Hdn
  icases Hdn with ⟨Hi, Hl, Ho⟩
  iapply (wp_hlo_within 𝒱 (SparseCore.T d) none Set.univ (op := op7) (S := SA) (sub2 (x := main_v6) (y := main_v7)) (V := V7 m d)) $$ [Hb Hi Hl Ho Hr]
  · isplitl [Hb]; · iexact Hb
    rw [held_SA, V7_v6, V7_ne m d _ (by decide), V7_ne m d _ (by decide), V6_v2, V6_v5, held_SR d (V7 m d) (V6 m d) (V7_ne m d)]
    isplitl [Hi]; · iexact Hi
    isplitl [Hl]; · iexact Hl
    isplitl [Ho]; · iexact Ho
    iexact Hr
  iintro ⟨Hb, Hheld⟩
  ihave Hh := (Entails.of_eq (held_end (F := F) d (V8 m d))) $$ Hheld
  rw [V8_arg0, V8_arg1, V8_v7]
  icases Hh with ⟨Ha, Hc, Hv, -⟩
  rw [wp_ret]; imodintro; imodintro
  isplitl [Hst]; · iexact Hst
  isplitr [Hb Hts]
  · isplitl [Ha]; · iexact Ha
    isplitl [Hc]; · iexact Hc
    iexact Hv
  isplitl [Hb] <;> iassumption

/-- What device `d`'s memory holds at the end. -/
def fq (d : Dev nD) (s' : Phys nD τ sig (Elt F)) : Prop :=
  s'.mem.mem ((SparseCore.T d).loc main_arg0) = X m d ∧ s'.mem.mem ((SparseCore.T d).loc main_arg1) = Y m d
    ∧ s'.mem.mem ((SparseCore.T d).loc main_v7) = Res (X m d) (Y m d)

theorem hfin (d : Dev nD) (s' : Phys nD τ sig (Elt F)) : iprop(FIN m d ∗ SI s') ⊢ (⌜fq m d s'⌝ : sProp 𝕄) := by
  iintro ⟨⟨Ha, Hc, Hv⟩, HSI⟩
  ihave H := (persistent_entails_right (SI_pointsTo_agree (st := s') (ℓ := (SparseCore.T d).loc main_arg0) (I := Finset.univ) (q := fullShare) (f := X m d))) $$ [HSI Ha]
  · isplitl [HSI] <;> iassumption
  icases H with ⟨%ha, HSI, -⟩
  ihave H := (persistent_entails_right (SI_pointsTo_agree (st := s') (ℓ := (SparseCore.T d).loc main_arg1) (I := Finset.univ) (q := fullShare) (f := Y m d))) $$ [HSI Hc]
  · isplitl [HSI] <;> iassumption
  icases H with ⟨%hc, HSI, -⟩
  ihave H := (SI_pointsTo_agree (st := s') (ℓ := (SparseCore.T d).loc main_v7) (I := Finset.univ) (q := fullShare) (f := Res (X m d) (Y m d))) $$ [HSI Hv]
  · isplitl [HSI] <;> iassumption
  icases H with %hv
  ipureintro
  exact ⟨funext fun i => ha i (Finset.mem_univ i), funext fun i => hc i (Finset.mem_univ i), funext fun i => hv i (Finset.mem_univ i)⟩

/-- The end of a run: arguments as they were, the result, the counters at zero. -/
def QC : PUnit × MemSt nD τ sig (Elt F) → Prop := fun r =>
  (∀ d : Dev nD, r.2.mem ((SparseCore.T d).loc main_arg0) = X m d ∧ r.2.mem ((SparseCore.T d).loc main_arg1) = Y m d
    ∧ r.2.mem ((SparseCore.T d).loc main_v7) = Res (X m d) (Y m d)) ∧ r.2.sem = fun _ => 0

/-- Where the flow names pixels of the accumulator only, the program runs to its end and leaves `Res` of its arguments. -/
theorem run_main [∀ e, Nonempty (Elt F e)] (hfit : ∀ d b, FitsAll id (flOf (A5 (Y m d)) b)) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := PP m) (A := ∅) facts v₀
    (fun q hq => match q with | 0 => nomatch hq)
    (fun q _ => match q with | 0 => tileObl _ _ _ hfit)
    (fun q _ => match q with | 0 => SparseCore.Cfg.VecSplit.of_plain (vecSplit _ _ _))
    m ρ main (fun _ => iprop(emp)) (FIN m) (u₀ (F := F)) (sep_elim_left.trans (hu₀ _ _ _)) (hmain m ρ) (fq m) (hfin m) (QC m)
    (fun _ h hz => ⟨h, hz⟩)

end Splat.KI
-- ==== Proof.Layout.lean ====
/- Where the packed arrays' elements come from: the chunk buffers of the images and of the flow, element by
element, out of the program's two arguments; and what the precondition says of one pixel. -/
module

public import proofs.«01_k».proof.Proof.KI.Run
public import proofs.«01_k».proof.Proof.Gen.Pre_in_range
public import Idealize.ShloMosaic.Lib.ReduceAll
public import Idealize.ShloMosaic.Lib.Pointwise
public import Idealize.ShloMosaic.Lib.Affine

@[expose] public section

noncomputable section

namespace Splat

open Cert.KernelIdeal Cert.KernelIdeal.Gen
open Idealize.ShloMosaic
open Splat.KI (A2 A5 Res)

variable {F : FTy → Type} [FloatOps F]

/-- Lane `l` of sixteen. -/
abbrev lane (l : Fin 16) : N16.Idx := ix1 l

theorem ix4_congr {n₀ n₁ n₂ n₃ : ℕ} {a a' : Fin n₀} {b b' : Fin n₁} {c c' : Fin n₂} {d d' : Fin n₃} (h₀ : a = a') (h₁ : b = b')
    (h₂ : c = c') (h₃ : d = d') : ix4 a b c d = ix4 a' b' c' d' := by subst h₀ h₁ h₂ h₃; rfl

/-! ### The chunk buffers out of the arguments -/

/-- A lane of a block of a flow chunk's x half is that pixel's x displacement. -/
theorem ld_flow_x (y : Vec F S4x224x224x2 .f32) (B : Fin 4) (c r b : ℕ) (hc : c < 28) (hr : r < 8) (hb : b < 14) (l : Fin 16) :
    ld (flOf (A5 y) B c) (224 * r + 16 * b) (lane l)
      = y (ix4 B ⟨8 * c + r, by omega⟩ ⟨16 * b + l, by omega⟩ 0) := by
  have hl := l.isLt
  have hB := B.isLt
  show A5 y (ix3 ⟨B.val % 4, _⟩ ⟨c % 28, _⟩ ⟨((224 * r + 16 * b + l.val) % 3584) % 3584, _⟩) = _
  unfold A5
  pointwise
  refine congrArg y (ix4_congr ?_ ?_ ?_ ?_) <;> apply Fin.ext <;> dsimp <;> omega

/-- A lane of a block of a flow chunk's y half is that pixel's y displacement. -/
theorem ld_flow_y (y : Vec F S4x224x224x2 .f32) (B : Fin 4) (c r b : ℕ) (hc : c < 28) (hr : r < 8) (hb : b < 14) (l : Fin 16) :
    ld (flOf (A5 y) B c) (224 * r + 16 * b + 1792) (lane l)
      = y (ix4 B ⟨8 * c + r, by omega⟩ ⟨16 * b + l, by omega⟩ 1) := by
  have hl := l.isLt
  have hB := B.isLt
  show A5 y (ix3 ⟨B.val % 4, _⟩ ⟨c % 28, _⟩ ⟨((224 * r + 16 * b + 1792 + l.val) % 3584) % 3584, _⟩) = _
  unfold A5
  pointwise
  refine congrArg _ (ix4_congr ?_ ?_ ?_ ?_) <;> apply Fin.ext <;> dsimp <;> omega

/-- A lane of a block of an image chunk's half `k` is that pixel of channel `2 p + k`. -/
theorem ld_src (x : Vec F S4x96x224x224 .f32) (B : Fin 4) (p : Fin 48) (k : Fin 2) (c r b : ℕ) (hc : c < 28) (hr : r < 8) (hb : b < 14) (l : Fin 16) :
    ld (srcOf (A2 x) B p c) (224 * r + 16 * b + 1792 * k) (lane l)
      = x (ix4 B ⟨2 * p + k, by omega⟩ ⟨8 * c + r, by omega⟩ ⟨16 * b + l, by omega⟩) := by
  have hl := l.isLt
  have hB := B.isLt
  show A2 x (ix4 ⟨B.val % 4, _⟩ ⟨p.val % 48, _⟩ ⟨c % 28, _⟩ ⟨((224 * r + 16 * b + 1792 * k + l.val) % 3584) % 3584, _⟩) = _
  unfold A2
  pointwise
  refine congrArg _ (ix4_congr ?_ ?_ ?_ ?_) <;> apply Fin.ext <;> dsimp <;> omega

/-! ### One pixel's scalars -/

/-- A coordinate brought into [-2, 225]. -/
def clip₁ (v : F .f32) : F .f32 :=
  FloatOps.minimumf (FloatOps.ofBits .f32 0x43610000#32) (FloatOps.maximumf (FloatOps.ofBits .f32 0xC0000000#32) v)

/-- The floor as a word, by truncation and a correction. -/
def floi₁ (v : F .f32) : BitVec 32 :=
  Scalar.select (FloatOps.cmpf .olt v (FloatOps.sitofp .f32 (FloatOps.fptosi 32 v))) (IntOp.subi (FloatOps.fptosi 32 v) 1#32)
    (FloatOps.fptosi 32 v)

/-- The upper left neighbour's position in a plane. -/
def cell₁ (X Y : F .f32) : BitVec 32 := IntOp.addi (IntOp.muli (floi₁ Y) 224#32) (floi₁ X)

/-- The x coordinate at which a pixel lands, as the kernel computes it: lane, then block, then displacement. -/
def px (y : Vec F S4x224x224x2 .f32) (B : Fin 4) (h w : Fin 224) : F .f32 :=
  clip₁ (FloatOps.addf (FloatOps.addf (FloatOps.sitofp .f32 (BitVec.ofNat 32 (w.val % 16))) (FloatOps.sitofp .f32 (BitVec.ofNat 32 (16 * (w.val / 16)))))
    (y (ix4 B h w 0)))

/-- The y coordinate at which a pixel lands. -/
def py (y : Vec F S4x224x224x2 .f32) (B : Fin 4) (h w : Fin 224) : F .f32 :=
  clip₁ (FloatOps.addf (FloatOps.sitofp .f32 (BitVec.ofNat 32 h.val)) (y (ix4 B h w 1)))

/-- The scalar unit converts words to floats as the vector unit does. -/
def OneConversion (F : FTy → Type) [FloatOps F] : Prop := ∀ n : BitVec 32, Scalar.sitofp (F := F) .f32 n = FloatOps.sitofp .f32 n

/-- It does on the chip's own floats. -/
theorem oneConversion_bits : OneConversion Bits := fun _ => rfl
/-- It does on the extended reals. -/
theorem oneConversion_ideal : OneConversion Ideal := fun _ => rfl

/-- A block's x coordinates, lane by lane. -/
theorem xs_lane (hs : OneConversion F) (y : Vec F S4x224x224x2 .f32) (B : Fin 4) (c r b : ℕ) (hc : c < 28) (hr : r < 8) (hb : b < 14) (l : Fin 16) :
    xs (flOf (A5 y) B c) r b (lane l) = px y B ⟨8 * c + r, by omega⟩ ⟨16 * b + l, by omega⟩ := by
  have hl := l.isLt
  show clip₁ (FloatOps.addf (FloatOps.addf (lanes (lane l)) (Scalar.sitofp .f32 _)) (ld (flOf (A5 y) B c) (224 * r + 16 * b) (lane l))) = _
  rw [ld_flow_x y B c r b hc hr hb l]
  unfold px
  have h1 : (16 * b + l.val) % 16 = l.val := by omega
  have h2 : (16 * b + l.val) / 16 = b := by omega
  simp only [h1, h2, hs]
  have hi : lanes (F := F) (lane l) = FloatOps.sitofp .f32 (BitVec.ofNat 32 l.val) :=
    congrArg (fun n => FloatOps.sitofp .f32 (BitVec.ofNat 32 n)) (by simp)
  rw [hi, hs]

/-- A block's y coordinates, lane by lane. -/
theorem ys_lane (hs : OneConversion F) (y : Vec F S4x224x224x2 .f32) (B : Fin 4) (c r b : ℕ) (hc : c < 28) (hr : r < 8) (hb : b < 14) (l : Fin 16) :
    ys (flOf (A5 y) B c) c r b (lane l) = py y B ⟨8 * c + r, by omega⟩ ⟨16 * b + l, by omega⟩ := by
  show clip₁ (FloatOps.addf (Scalar.sitofp .f32 _) (ld (flOf (A5 y) B c) (224 * r + 16 * b + 1792) (lane l))) = _
  rw [ld_flow_y y B c r b hc hr hb l, hs]
  rfl

/-! ### The precondition at one pixel -/

/-- A word that is at least 0 and below 49951 read signed is below 49951. -/
theorem word_bound (v : BitVec 32) (h : IntOp.andi (IntOp.cmpi .sge v 0#32) (IntOp.cmpi .slt v 49951#32) = 1#1) : v.toNat < 49951 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  simp only [IntOp.cmpi, andi_ofBool, ofBool_eq_one, Bool.and_eq_true, BitVec.sle_eq_decide, BitVec.slt_eq_decide,
    decide_eq_true_eq, BitVec.toInt_eq_toNat_cond, BitVec.toNat_ofNat, Nat.reducePow, Nat.reduceMod] at h
  omega

/-- The precondition, at one pixel: its upper left cell is at least 0 and below 49951, read signed. -/
theorem pre_at (x : FVec F S4x96x224x224 .f32) (y : FVec F S4x224x224x2 .f32)
    (hp : Cert.Pre_in_range.fn x y = fun _ => 1#1) (B : Fin 4) (h w : Fin 224) :
    IntOp.andi (IntOp.cmpi .sge (cell₁ (px y B h w) (py y B h w)) 0#32) (IntOp.cmpi .slt (cell₁ (px y B h w) (py y B h w)) 49951#32) = 1#1 := by
  dsimp only [Cert.Pre_in_range.fn, Cert.Pre_in_range.fn_part1, Cert.Pre_in_range.fn_part2, Cert.Pre_in_range.fn_clip, Cert.Pre_in_range.fn_where] at hp
  haveI : Subsingleton Cert.Pre_in_range.S_.Idx := ⟨fun a b => funext fun k => k.elim0⟩
  have hq := Host.reduce_andi_all _ _ _ _ _ (congrFun hp ix0) (ix3 B h w)
  pointwise at hq
  have e : (IntOp.muli (BitVec.ofNat 32 (w.val / 16)) 16#32) = BitVec.ofNat 32 (16 * (w.val / 16)) := by
    rw [mul_comm, BitVec.ofNat_mul]; rfl
  rw [e] at hq
  exact hq

/-- Under the precondition every index vector of the kernel names places of the accumulator. -/
theorem fits_of_pre (hs : OneConversion F) (x : FVec F S4x96x224x224 .f32) (y : FVec F S4x224x224x2 .f32)
    (hp : Cert.Pre_in_range.fn x y = fun _ => 1#1) (B : ℕ) : FitsAll id (flOf (A5 y) B) := by
  have hB : B % 4 < 4 := Nat.mod_lt _ (by decide)
  have e : flOf (A5 y) B = flOf (A5 y) (⟨B % 4, hB⟩ : Fin 4) := by
    funext c j
    refine congrArg (A5 y) (funext fun a => Fin.ext ?_)
    fin_cases a <;> simp [pos]
  rw [e]
  intro c hc r hr b hb
  have key : ∀ l : Fin 16, (cell (xs (flOf (A5 y) (⟨B % 4, hB⟩ : Fin 4) c) r b) (ys (flOf (A5 y) (⟨B % 4, hB⟩ : Fin 4) c) c r b) (lane l)).toNat < 49951 := by
    intro l
    have h := pre_at x y hp ⟨B % 4, hB⟩ ⟨8 * c + r, by omega⟩ ⟨16 * b + l, by omega⟩
    rw [← xs_lane hs y ⟨B % 4, hB⟩ c r b hc hr hb l, ← ys_lane hs y ⟨B % 4, hB⟩ c r b hc hr hb l] at h
    exact word_bound _ h
  generalize hV : cell (xs (flOf (A5 y) (⟨B % 4, hB⟩ : Fin 4) c) r b) (ys (flOf (A5 y) (⟨B % 4, hB⟩ : Fin 4) c) c r b) = V at key
  have low : ∀ (k : Fin 4) (l : Fin 16), ((![id V, id (plus V 1#32), id (plus V 224#32), id (plus (plus V 224#32) 1#32)] : Fin 4 → IVec N16 32) k (lane l)).toNat < 50176 := by
    intro k l
    have h := key l
    fin_cases k
    · show (V (lane l)).toNat < 50176
      omega
    · show (V (lane l) + 1#32).toNat < 50176
      rw [BitVec.toNat_add, BitVec.toNat_ofNat]; omega
    · show (V (lane l) + 224#32).toNat < 50176
      rw [BitVec.toNat_add, BitVec.toNat_ofNat]; omega
    · show (V (lane l) + 224#32 + 1#32).toNat < 50176
      rw [BitVec.toNat_add, BitVec.toNat_add, BitVec.toNat_ofNat, BitVec.toNat_ofNat]; omega
  intro k
  unfold nb
  rw [hV]
  generalize hw : (![id V, id (plus V 1#32), id (plus V 224#32), id (plus (plus V 224#32) 1#32)] : Fin 4 → IVec N16 32) k = w
  have hl : ∀ i : N16.Idx, (w i).toNat < 50176 := by
    intro i
    have h := low k (i 0)
    rw [hw] at h
    have ei : lane (i 0) = i := (eq_ix1 i).symm
    rwa [ei] at h
  constructor
  · intro a i
    have h := hl i
    fin_cases a
    show (w i).toNat < 100352
    omega
  · intro a i
    have h := hl i
    fin_cases a
    show (w i + 50176#32).toNat < 100352
    rw [BitVec.toNat_add, BitVec.toNat_ofNat]; omega

end Splat
-- ==== Proof.Frames.lean ====
/- The frames: under the precondition the kernel runs at either reading of its floats, and the reference
runs, each with its arguments unchanged and every counter back at zero. -/
module

public import proofs.«01_k».proof.Defs
public import proofs.«01_k».proof.Proof.Layout
public import proofs.«01_k».proof.Proof.Gen.Kernel
public import proofs.«01_k».proof.Proof.Gen.ReferenceIdeal.Run
public import Idealize.ShloMosaic.Lib.Quiescent

@[expose] public section

noncomputable section

namespace Splat

open Idealize.ShloMosaic Idealize.SL.Sem

/-- The kernel's frame on the chip's floats. -/
theorem frame_kernel : Cert.quiescent_Kernel := fun m ρ hpre =>
  (θ_run Cert.KernelIdeal.defs _ _).mono
    (fun _ h => ⟨fun c => ⟨(h.1 c).1, (h.1 c).2.1⟩, h.2⟩)
    (KI.run_main (F := Bits) m ρ fun d B => fits_of_pre oneConversion_bits _ _ (hpre d) B)

/-- The kernel's frame on the extended reals. -/
theorem frame_kernelIdeal : Cert.quiescent_KernelIdeal := fun m ρ hpre =>
  (θ_run Cert.KernelIdeal.defs _ _).mono
    (fun _ h => ⟨fun c => ⟨(h.1 c).1, (h.1 c).2.1⟩, h.2⟩)
    (KI.run_main (F := Ideal) m ρ fun d B => fits_of_pre oneConversion_ideal _ _ (hpre d) B)

/-- The reference's frame. -/
theorem frame_referenceIdeal : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The reference's frame under the kernel's precondition. -/
theorem frame_referenceIdeal_in_range : Cert.quiescent_ReferenceIdeal_pre_in_range := fun m ρ _ =>
  frame_referenceIdeal m ρ trivial

end Splat
-- ==== Proof.Axis.lean ====
/- One coordinate on the extended reals: what the kernel computes of a pixel's clipped landing coordinate (the
neighbour's test, word and weight) against what the reference computes of the coordinate itself. -/
module

public import proofs.«01_k».proof.Proof.Layout
public import Idealize.ShloMosaic.Lib.IdealHost

@[expose] public section

noncomputable section

namespace Splat

open Idealize.ShloMosaic

section Scalars
variable {F : FTy → Type} [FloatOps F]

/-- The floor as a float, by truncation and a correction. -/
def flo₁ (v : F .f32) : F .f32 :=
  Scalar.select (FloatOps.cmpf .olt v (FloatOps.sitofp .f32 (FloatOps.fptosi 32 v)))
    (FloatOps.subf (FloatOps.sitofp .f32 (FloatOps.fptosi 32 v)) (FloatOps.ofBits .f32 0x3F800000#32))
    (FloatOps.sitofp .f32 (FloatOps.fptosi 32 v))

/-- Between two constants, both included. -/
def between₁ (lo hi : BitVec 32) (v : F .f32) : BitVec 1 :=
  IntOp.andi (FloatOps.cmpf .oge v (FloatOps.ofBits .f32 lo)) (FloatOps.cmpf .ole v (FloatOps.ofBits .f32 hi))

/-- The kernel's test of the near (0) and of the far (1) neighbour. -/
def okA : Fin 2 → F .f32 → BitVec 1 :=
  ![fun v => between₁ 0x00000000#32 0x435F0000#32 (flo₁ v), fun v => between₁ 0xBF800000#32 0x435E0000#32 (flo₁ v)]

/-- The kernel's weight of the near and of the far neighbour. -/
def wA : Fin 2 → F .f32 → F .f32 :=
  ![fun v => FloatOps.subf (FloatOps.ofBits .f32 0x3F800000#32) (FloatOps.subf v (flo₁ v)), fun v => FloatOps.subf v (flo₁ v)]

end Scalars

/-- The reference's floor. -/
def fl (x : EReal) : EReal := Ideal.liftRound Int.floor x

/-- The reference's word for the near and for the far neighbour. -/
def iA : Fin 2 → EReal → BitVec 32 := ![fun x => Ideal.fptosi 32 (fl x), fun x => Ideal.fptosi 32 (fl x + 1)]

/-- The reference's weight of the near and of the far neighbour. -/
def vA : Fin 2 → EReal → EReal := ![fun x => (fl x + 1) - x, fun x => x - fl x]

/-- A word that names a row or a column of the image. -/
def Inn (v : BitVec 32) : Prop := 0 ≤ v.toInt ∧ v.toInt < 224

/-! ### The constants -/

theorem lit_225 : Ideal.ofBits .f32 0x43610000#32 = ((225 : ℝ) : EReal) := by simp [Ideal.ofBits, Ideal.ieee, -EReal.coe_mul]; norm_num
theorem lit_neg2 : Ideal.ofBits .f32 0xC0000000#32 = ((-2 : ℝ) : EReal) := by simp [Ideal.ofBits, Ideal.ieee, -EReal.coe_mul]; norm_num
theorem lit_223 : Ideal.ofBits .f32 0x435F0000#32 = ((223 : ℝ) : EReal) := by simp [Ideal.ofBits, Ideal.ieee, -EReal.coe_mul]; norm_num
theorem lit_222 : Ideal.ofBits .f32 0x435E0000#32 = ((222 : ℝ) : EReal) := by simp [Ideal.ofBits, Ideal.ieee, -EReal.coe_mul]; norm_num
theorem lit_neg1 : Ideal.ofBits .f32 0xBF800000#32 = ((-1 : ℝ) : EReal) := by simp [Ideal.ofBits, Ideal.ieee, -EReal.coe_mul]; norm_num
theorem lit_0 : Ideal.ofBits .f32 0x00000000#32 = ((0 : ℝ) : EReal) := by simp
theorem lit_1 : Ideal.ofBits .f32 0x3F800000#32 = ((1 : ℝ) : EReal) := by simp

/-! ### Words of whole numbers -/

/-- A whole number as a word, read back signed: clamped into the words' range. -/
theorem fptosi_int (z : ℤ) : (Ideal.fptosi 32 ((z : ℝ) : EReal)).toInt = max (-2147483648) (min 2147483647 z) := by
  unfold Ideal.fptosi
  rw [Ideal.toIntClamped_coe, BitVec.toInt_ofInt]
  have : (if (0 : ℝ) ≤ (z : ℝ) then ⌊(z : ℝ)⌋ else ⌈(z : ℝ)⌉) = z := by simp
  rw [this]
  norm_num
  rw [Int.bmod_def]
  split <;> omega

/-- The truncation of a real in the clipped range. -/
theorem fptosi_toInt (r : ℝ) (h₀ : -2 ≤ r) (h₁ : r ≤ 225) :
    (Ideal.fptosi 32 (r : EReal)) = BitVec.ofInt 32 (if 0 ≤ r then ⌊r⌋ else ⌈r⌉)
      ∧ (Ideal.fptosi 32 (r : EReal)).toInt = (if 0 ≤ r then ⌊r⌋ else ⌈r⌉)
      ∧ -2 ≤ (if 0 ≤ r then ⌊r⌋ else ⌈r⌉) ∧ (if 0 ≤ r then ⌊r⌋ else ⌈r⌉) ≤ 225 := by
  have hlo : -2 ≤ (if 0 ≤ r then ⌊r⌋ else ⌈r⌉) := by
    split
    · exact le_trans (by norm_num) (Int.floor_nonneg.2 ‹_›)
    · have : ((-3 : ℤ) : ℝ) < r := by norm_num; linarith
      have := Int.lt_ceil.2 this
      omega
  have hhi : (if 0 ≤ r then ⌊r⌋ else ⌈r⌉) ≤ 225 := by
    split
    · have : (⌊r⌋ : ℝ) ≤ 225 := (Int.floor_le r).trans h₁
      exact_mod_cast this
    · exact Int.ceil_le.2 (by norm_num; linarith)
  have e : (Ideal.fptosi 32 (r : EReal)) = BitVec.ofInt 32 (if 0 ≤ r then ⌊r⌋ else ⌈r⌉) := by
    unfold Ideal.fptosi
    rw [Ideal.toIntClamped_coe]
    congr 1
    generalize (if 0 ≤ r then ⌊r⌋ else ⌈r⌉) = t at hlo hhi
    norm_num
    omega
  refine ⟨e, ?_, hlo, hhi⟩
  rw [e, BitVec.toInt_ofInt]
  generalize (if 0 ≤ r then ⌊r⌋ else ⌈r⌉) = t at hlo hhi
  rw [Int.bmod_def]
  split <;> omega

/-- Truncation with the kernel's correction is the floor. -/
theorem trunc_floor (r : ℝ) :
    (r < ((if 0 ≤ r then ⌊r⌋ else ⌈r⌉ : ℤ) : ℝ) → (if 0 ≤ r then ⌊r⌋ else ⌈r⌉) - 1 = ⌊r⌋)
      ∧ (¬ r < ((if 0 ≤ r then ⌊r⌋ else ⌈r⌉ : ℤ) : ℝ) → (if 0 ≤ r then ⌊r⌋ else ⌈r⌉) = ⌊r⌋) := by
  split
  · exact ⟨fun h => absurd h (not_lt.2 (Int.floor_le r)), fun _ => rfl⟩
  · constructor
    · intro h
      refine (Int.floor_eq_iff.2 ⟨?_, ?_⟩).symm
      · have := Int.ceil_lt_add_one r
        push_cast; linarith
      · push_cast; linarith
    · intro h
      refine (Int.floor_eq_iff.2 ⟨not_lt.1 h, ?_⟩).symm
      have := Int.le_ceil r
      linarith

theorem floi_real (r : ℝ) (h₀ : -2 ≤ r) (h₁ : r ≤ 225) : floi₁ (F := Ideal) (r : EReal) = BitVec.ofInt 32 ⌊r⌋ := by
  obtain ⟨e, ei, -, -⟩ := fptosi_toInt r h₀ h₁
  obtain ⟨t₁, t₂⟩ := trunc_floor r
  show Scalar.select (BitVec.ofBool (decide ((r : EReal) < (((Ideal.fptosi 32 (r : EReal)).toInt : ℝ) : EReal))))
    (IntOp.subi (Ideal.fptosi 32 (r : EReal)) 1#32) (Ideal.fptosi 32 (r : EReal)) = _
  rw [ei, e]
  generalize (if 0 ≤ r then ⌊r⌋ else ⌈r⌉) = t at t₁ t₂
  by_cases h : r < (t : ℝ)
  · rw [decide_eq_true (EReal.coe_lt_coe_iff.2 h), ← t₁ h, sub_eq_add_neg, BitVec.ofInt_add]
    exact BitVec.sub_eq_add_neg _ _
  · rw [decide_eq_false (fun q => h (EReal.coe_lt_coe_iff.1 q)), ← t₂ h]
    rfl

theorem flo_real (r : ℝ) (h₀ : -2 ≤ r) (h₁ : r ≤ 225) : flo₁ (F := Ideal) (r : EReal) = ((⌊r⌋ : ℝ) : EReal) := by
  obtain ⟨e, ei, -, -⟩ := fptosi_toInt r h₀ h₁
  obtain ⟨t₁, t₂⟩ := trunc_floor r
  show Scalar.select (BitVec.ofBool (decide ((r : EReal) < (((Ideal.fptosi 32 (r : EReal)).toInt : ℝ) : EReal))))
    ((((Ideal.fptosi 32 (r : EReal)).toInt : ℝ) : EReal) - Ideal.ofBits .f32 0x3F800000#32) (((Ideal.fptosi 32 (r : EReal)).toInt : ℝ) : EReal) = _
  rw [ei, lit_1]
  generalize (if 0 ≤ r then ⌊r⌋ else ⌈r⌉) = t at t₁ t₂
  by_cases h : r < (t : ℝ)
  · rw [decide_eq_true (EReal.coe_lt_coe_iff.2 h), ← t₁ h, ← EReal.coe_sub]
    push_cast
    rfl
  · rw [decide_eq_false (fun q => h (EReal.coe_lt_coe_iff.1 q)), ← t₂ h]
    rfl

/-- The kernel's test on a real in the clipped range. -/
theorem okA_real (a : Fin 2) (r : ℝ) (h₀ : -2 ≤ r) (h₁ : r ≤ 225) :
    okA (F := Ideal) a (r : EReal) = 1#1 ↔ 0 ≤ ⌊r⌋ + a.val ∧ ⌊r⌋ + a.val < 224 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  have gen : ∀ (lo hi : BitVec 32) (l u : ℤ), Ideal.ofBits .f32 lo = ((l : ℝ) : EReal) → Ideal.ofBits .f32 hi = ((u : ℝ) : EReal) →
      (between₁ (F := Ideal) lo hi (flo₁ (F := Ideal) (r : EReal)) = 1#1 ↔ l ≤ ⌊r⌋ ∧ ⌊r⌋ ≤ u) := by
    intro lo hi l u hl hu
    rw [flo_real r h₀ h₁]
    show IntOp.andi (BitVec.ofBool (decide (Ideal.ofBits .f32 lo ≤ ((⌊r⌋ : ℝ) : EReal)))) (BitVec.ofBool (decide (((⌊r⌋ : ℝ) : EReal) ≤ Ideal.ofBits .f32 hi))) = 1#1 ↔ _
    rw [hl, hu, andi_ofBool, ofBool_eq_one, Bool.and_eq_true, decide_eq_true_iff, decide_eq_true_iff, EReal.coe_le_coe_iff, EReal.coe_le_coe_iff]
    norm_cast
  fin_cases a
  · refine (gen 0x00000000#32 0x435F0000#32 0 223 (by rw [lit_0]; norm_num) (by rw [lit_223]; norm_num)).trans ?_
    show _ ↔ 0 ≤ ⌊r⌋ + ((0 : ℕ) : ℤ) ∧ ⌊r⌋ + ((0 : ℕ) : ℤ) < 224
    omega
  · refine (gen 0xBF800000#32 0x435E0000#32 (-1) 222 (by rw [lit_neg1]; norm_num) (by rw [lit_222]; norm_num)).trans ?_
    show _ ↔ 0 ≤ ⌊r⌋ + ((1 : ℕ) : ℤ) ∧ ⌊r⌋ + ((1 : ℕ) : ℤ) < 224
    omega

/-- The reference's word on a real. -/
theorem iA_real (a : Fin 2) (r : ℝ) : (iA a (r : EReal)).toInt = max (-2147483648) (min 2147483647 (⌊r⌋ + a.val)) := by
  fin_cases a
  · show (Ideal.fptosi 32 ((⌊r⌋ : ℝ) : EReal)).toInt = max (-2147483648) (min 2147483647 (⌊r⌋ + ((0 : ℕ) : ℤ)))
    rw [fptosi_int]; simp
  · show (Ideal.fptosi 32 (((⌊r⌋ : ℝ) : EReal) + 1)).toInt = max (-2147483648) (min 2147483647 (⌊r⌋ + ((1 : ℕ) : ℤ)))
    have : ((⌊r⌋ : ℝ) : EReal) + 1 = (((⌊r⌋ + 1 : ℤ) : ℝ) : EReal) := by push_cast; rfl
    rw [this, fptosi_int]; simp

/-- The clipped coordinate. -/
theorem clip_ideal (x : EReal) : clip₁ (F := Ideal) x = min ((225 : ℝ) : EReal) (max ((-2 : ℝ) : EReal) x) := by
  show min (Ideal.ofBits .f32 0x43610000#32) (max (Ideal.ofBits .f32 0xC0000000#32) x) = _
  rw [lit_225, lit_neg2]

/-- A coordinate is a real that clipping leaves alone, or it clips to the left end and the reference's words are
negative, or it clips to the right end and the reference's words are past the image. -/
theorem clip_cases (x : EReal) :
    (∃ r : ℝ, x = r ∧ -2 ≤ r ∧ r ≤ 225 ∧ clip₁ (F := Ideal) x = (r : EReal))
      ∨ (clip₁ (F := Ideal) x = ((-2 : ℝ) : EReal) ∧ ∀ a, (iA a x).toInt < 0)
      ∨ (clip₁ (F := Ideal) x = ((225 : ℝ) : EReal) ∧ ∀ a, 224 ≤ (iA a x).toInt) := by
  rw [clip_ideal]
  induction x with
  | bot =>
    refine Or.inr (Or.inl ⟨?_, ?_⟩)
    · rw [max_eq_left bot_le, min_eq_right (EReal.coe_le_coe_iff.2 (by norm_num))]
    · intro a
      have : iA a ⊥ = Ideal.fptosi 32 ⊥ := by fin_cases a <;> rfl
      rw [this]; decide
  | top =>
    refine Or.inr (Or.inr ⟨?_, ?_⟩)
    · rw [max_eq_right le_top, min_eq_left le_top]
    · intro a
      have : iA a ⊤ = Ideal.fptosi 32 ⊤ := by fin_cases a <;> rfl
      rw [this]; decide
  | coe r =>
    by_cases h₀ : -2 ≤ r
    · by_cases h₁ : r ≤ 225
      · refine Or.inl ⟨r, rfl, h₀, h₁, ?_⟩
        rw [max_eq_right (EReal.coe_le_coe_iff.2 h₀), min_eq_right (EReal.coe_le_coe_iff.2 h₁)]
      · refine Or.inr (Or.inr ⟨?_, ?_⟩)
        · rw [max_eq_right (EReal.coe_le_coe_iff.2 h₀), min_eq_left (EReal.coe_le_coe_iff.2 (le_of_not_ge h₁))]
        · intro a
          rw [iA_real]
          have : 225 ≤ ⌊r⌋ := Int.le_floor.2 (by push_cast; linarith)
          have := a.isLt
          omega
    · refine Or.inr (Or.inl ⟨?_, ?_⟩)
      · rw [max_eq_left (EReal.coe_le_coe_iff.2 (le_of_not_ge h₀)), min_eq_right (EReal.coe_le_coe_iff.2 (by norm_num))]
      · intro a
        rw [iA_real]
        have : ⌊r⌋ < -2 := Int.floor_lt.2 (by push_cast; linarith)
        have := a.isLt
        omega

/-- The kernel's test of a neighbour passes exactly when the reference's word lies in the image. -/
theorem axis_ok (a : Fin 2) (x : EReal) : okA (F := Ideal) a (clip₁ (F := Ideal) x) = 1#1 ↔ Inn (iA a x) := by
  unfold Inn
  have ha := a.isLt
  rcases clip_cases x with ⟨r, rfl, h₀, h₁, e⟩ | ⟨e, h⟩ | ⟨e, h⟩
  · rw [e, okA_real a r h₀ h₁, iA_real]
    omega
  · rw [e, okA_real a _ (by norm_num) (by norm_num)]
    have := h a
    have f : ⌊(-2 : ℝ)⌋ = -2 := by norm_num
    rw [f]; omega
  · rw [e, okA_real a _ (by norm_num) (by norm_num)]
    have := h a
    have f : ⌊(225 : ℝ)⌋ = 225 := by norm_num
    rw [f]; omega

/-- Where the reference's word lies in the image, the kernel's floor word plus the neighbour's number is that word. -/
theorem axis_word (a : Fin 2) (x : EReal) (h : Inn (iA a x)) :
    (floi₁ (F := Ideal) (clip₁ (F := Ideal) x)).toInt + a.val = (iA a x).toInt := by
  unfold Inn at h
  have ha := a.isLt
  rcases clip_cases x with ⟨r, rfl, h₀, h₁, e⟩ | ⟨e, h'⟩ | ⟨e, h'⟩
  · rw [e, floi_real r h₀ h₁]
    rw [iA_real] at h ⊢
    rw [BitVec.toInt_ofInt, Int.bmod_def]
    split <;> omega
  · have := h' a; omega
  · have := h' a; omega

/-- Where the reference's word lies in the image, the two weights are equal. -/
theorem axis_weight (a : Fin 2) (x : EReal) (h : Inn (iA a x)) : wA (F := Ideal) a (clip₁ (F := Ideal) x) = vA a x := by
  unfold Inn at h
  rcases clip_cases x with ⟨r, rfl, h₀, h₁, e⟩ | ⟨e, h'⟩ | ⟨e, h'⟩
  · rw [e]
    fin_cases a
    · show Ideal.ofBits .f32 0x3F800000#32 - ((r : EReal) - flo₁ (F := Ideal) (r : EReal)) = (((⌊r⌋ : ℝ) : EReal) + 1) - (r : EReal)
      rw [flo_real r h₀ h₁, lit_1, ← EReal.coe_one, ← EReal.coe_sub, ← EReal.coe_sub, ← EReal.coe_add, ← EReal.coe_sub]
      congr 1; ring
    · show (r : EReal) - flo₁ (F := Ideal) (r : EReal) = (r : EReal) - ((⌊r⌋ : ℝ) : EReal)
      rw [flo_real r h₀ h₁]
  · have := h' a; omega
  · have := h' a; omega

end Splat
-- ==== Proof.Sum.lean ====
/- The kernel's accumulator on the extended reals, as a sum: what each masked indexed add contributes to one
position, then a block, a row, a chunk and a whole task. -/
module

public import proofs.«01_k».proof.Proof.Axis

@[expose] public section

noncomputable section

namespace Splat

open Idealize.ShloMosaic

/-- What sixteen lanes add at position `e`: the lanes whose mask bit is set and whose word is `e`. -/
def hits (ix : IVec N16 32) (v : N16.Idx → EReal) (m : IVec N16 1) (e : ℕ) : EReal :=
  ∑ l : Fin 16, if m (lane l) = 1#1 ∧ (ix (lane l)).toNat = e then v (lane l) else 0

theorem ofLane_eq (l : Fin 16) : (Shape.ofLane (d := ![16]) l) = lane l := by
  funext a
  match a with
  | ⟨0, _⟩ => rfl

/-- One masked indexed add, read at a position. -/
theorem upd_sum (g : Vec Ideal NAcc .f32) (ix : IVec N16 32) (v : Vec Ideal N16 .f32) (m : IVec N16 1) (h : InAcc ix) (e : NAcc.Idx) :
    upd g ix v m e = ((g e : EReal) + hits ix v m (e 0).val : EReal) := by
  unfold upd
  rw [dif_pos h]
  unfold hits
  rw [Fin.sum_univ_def]
  have h' : ∀ (a : Fin NAcc.rank) (x : N16.Idx), ((![ix] : Fin NAcc.rank → IVec N16 32) a x).toNat < NAcc.size a := h
  have gen : ∀ (L : List (Fin 16)) (g : Vec Ideal NAcc .f32), (L.foldl (fun (g : Vec Ideal NAcc .f32) (k : Fin 16) =>
      if m (Shape.ofLane (d := ![16]) k) = 1 then
        (fun j => if (∀ a, (j a).val = (idxAt (s := NAcc) ![ix] h' (Shape.ofLane (d := ![16]) k) a).val)
          then Elt.idxAdd .f32 (g (idxAt (s := NAcc) ![ix] h' (Shape.ofLane (d := ![16]) k))) (v (Shape.ofLane (d := ![16]) k)) else g j)
      else g) g) e
      = ((g e : EReal) + (L.map fun l => if m (lane l) = 1#1 ∧ (ix (lane l)).toNat = (e 0).val then (v (lane l) : EReal) else 0).sum : EReal) := by
    intro L
    induction L with
    | nil => intro g; simp
    | cons l L ih =>
      intro g
      rw [List.foldl_cons, ih, List.map_cons, List.sum_cons, ← add_assoc]
      congr 1
      rw [ofLane_eq]
      by_cases hm : m (lane l) = 1
      · rw [if_pos hm]
        have hc : (∀ a, (e a).val = (idxAt (s := NAcc) ![ix] h' (lane l) a).val) ↔ (ix (lane l)).toNat = (e 0).val := by
          constructor
          · intro q; exact (q 0).symm
          · intro q a
            match a with
            | ⟨0, _⟩ => exact q.symm
        by_cases hx : (ix (lane l)).toNat = (e 0).val
        · dsimp only
          rw [if_pos (hc.2 hx), if_pos ⟨hm, hx⟩]
          have hi : idxAt (s := NAcc) ![ix] h' (lane l) = e := funext fun a => Fin.ext (hc.2 hx a).symm
          rw [hi]
          rfl
        · dsimp only
          rw [if_neg fun q => hx (hc.1 q), if_neg fun q => hx q.2, add_zero]
      · rw [if_neg hm, if_neg fun q => hm q.1, add_zero]
  refine Eq.trans ?_ (gen (List.finRange 16) g)
  unfold storeIdx
  simp only [if_true]
  rfl

/-- What one block adds at a position: its four neighbours, in either channel plane. -/
def blkSum (q : IVec N16 32 → IVec N16 32) (X Y : FVec Ideal N16 .f32) (s₀ s₁ : Vec Ideal N16 .f32) (e : ℕ) : EReal :=
  ∑ k : Fin 4, (hits (nb q X Y k) (mulf (φ := .f32) s₀ (wgt X Y k)) (msk X Y k) e
    + hits (plus (nb q X Y k) 50176#32) (mulf (φ := .f32) s₁ (wgt X Y k)) (msk X Y k) e)

theorem splat_sum (q : IVec N16 32 → IVec N16 32) (X Y : FVec Ideal N16 .f32) (s₀ s₁ : Vec Ideal N16 .f32) (g : Vec Ideal NAcc .f32)
    (h : Fits q X Y) (e : NAcc.Idx) : splat q X Y s₀ s₁ g e = ((g e : EReal) + blkSum q X Y s₀ s₁ (e 0).val : EReal) := by
  have one : ∀ (k : Fin 4) (g : Vec Ideal NAcc .f32), splat1 q X Y s₀ s₁ k g e
      = ((g e : EReal) + (hits (nb q X Y k) (mulf (φ := .f32) s₀ (wgt X Y k)) (msk X Y k) (e 0).val
          + hits (plus (nb q X Y k) 50176#32) (mulf (φ := .f32) s₁ (wgt X Y k)) (msk X Y k) (e 0).val) : EReal) := by
    intro k g
    unfold splat1
    rw [upd_sum _ _ _ _ (h k).2, upd_sum _ _ _ _ (h k).1, add_assoc]
  unfold splat blkSum
  rw [one, one, one, one, Fin.sum_univ_four]
  simp only [add_assoc]

/-- What block `b` of row `r` of chunk `c` adds at a position. -/
def part (q : IVec N16 32 → IVec N16 32) (src fl : ℕ → Vec Ideal NBuf .f32) (e c r b : ℕ) : EReal :=
  blkSum q (xs (fl c) r b) (ys (fl c) c r b) (ld (src c) (224 * r + 16 * b)) (ld (src c) (224 * r + 16 * b + 1792)) e

/-- A whole task, read at a position: the sum over its chunks, rows and blocks. -/
theorem task_sum (q : IVec N16 32 → IVec N16 32) (src fl : ℕ → Vec Ideal NBuf .f32) (h : FitsAll q fl) (e : NAcc.Idx) :
    ∀ n ≤ 28, task q src fl n e = (∑ c ∈ Finset.range n, ∑ r ∈ Finset.range 8, ∑ b ∈ Finset.range 14, part q src fl (e 0).val c r b : EReal) := by
  have rows : ∀ c < 28, ∀ r < 8, ∀ g : Vec Ideal NAcc .f32, ∀ n ≤ 14, row q (src c) (fl c) c r g n e
      = ((g e : EReal) + ∑ b ∈ Finset.range n, part q src fl (e 0).val c r b : EReal) := by
    intro c hc r hr g n
    induction n with
    | zero => intro _; simp [row]
    | succ n ih =>
      intro hn
      rw [Finset.sum_range_succ, ← add_assoc, ← ih (by omega)]
      exact splat_sum q _ _ _ _ _ (h c hc r hr n (by omega)) e
  have chunks : ∀ c < 28, ∀ g : Vec Ideal NAcc .f32, ∀ n ≤ 8, chunk q (src c) (fl c) c g n e
      = ((g e : EReal) + ∑ r ∈ Finset.range n, ∑ b ∈ Finset.range 14, part q src fl (e 0).val c r b : EReal) := by
    intro c hc g n
    induction n with
    | zero => intro _; simp [chunk]
    | succ n ih =>
      intro hn
      rw [Finset.sum_range_succ, ← add_assoc, ← ih (by omega)]
      exact rows c hc n (by omega) _ 14 le_rfl
  intro n
  induction n with
  | zero => intro _; exact lit_0
  | succ n ih =>
    intro hn
    rw [Finset.sum_range_succ, ← ih (by omega)]
    exact chunks n (by omega) _ 8 le_rfl

end Splat
-- ==== Proof.Warp.lean ====
/- The warped images on the extended reals, as one sum over pixels and neighbours, and the kernel's result
equal to it. -/
module

public import proofs.«01_k».proof.Proof.Sum

@[expose] public section

noncomputable section

namespace Splat

open Idealize.ShloMosaic
open Cert.KernelIdeal Cert.KernelIdeal.Gen
open Splat.KI (A2 A5 Res)

/-- Whether neighbour `k` is the left or the right one. -/
def kx : Fin 4 → Fin 2 := ![0, 1, 0, 1]
/-- Whether neighbour `k` is the upper or the lower one. -/
def ky : Fin 4 → Fin 2 := ![0, 0, 1, 1]

/-- The pixel whose source coordinates are `h`, `w` lands at this x coordinate. -/
def rx (y : Vec Ideal S4x224x224x2 .f32) (B : Fin 4) (h w : Fin 224) : EReal := ((w.val : ℝ) : EReal) + y (ix4 B h w 0)
/-- The pixel whose source coordinates are `h`, `w` lands at this y coordinate. -/
def ry (y : Vec Ideal S4x224x224x2 .f32) (B : Fin 4) (h w : Fin 224) : EReal := ((h.val : ℝ) : EReal) + y (ix4 B h w 1)

/-- Neighbour `k` of the landing point is pixel `p` of the image. -/
def Lands (k : Fin 4) (x y : EReal) (p : ℕ) : Prop :=
  Inn (iA (kx k) x) ∧ Inn (iA (ky k) y) ∧ (iA (ky k) y).toInt * 224 + (iA (kx k) x).toInt = p

open scoped Classical in
/-- What source pixel `h`, `w` gives to pixel `p` of channel `ch` by neighbour `k`. -/
def gain (x : Vec Ideal S4x96x224x224 .f32) (y : Vec Ideal S4x224x224x2 .f32) (B : Fin 4) (ch : Fin 96) (p : ℕ) (h w : Fin 224) (k : Fin 4) : EReal :=
  if Lands k (rx y B h w) (ry y B h w) p then x (ix4 B ch h w) * (vA (kx k) (rx y B h w) * vA (ky k) (ry y B h w)) else 0

/-- The warped images: every source pixel's gain by every neighbour. -/
def warped (x : Vec Ideal S4x96x224x224 .f32) (y : Vec Ideal S4x224x224x2 .f32) (B : Fin 4) (ch : Fin 96) (p : ℕ) : EReal :=
  ∑ h : Fin 224, ∑ w : Fin 224, ∑ k : Fin 4, gain x y B ch p h w k

/-! ### One lane -/

theorem msk_lane (X Y : FVec Ideal N16 .f32) (k : Fin 4) (i : N16.Idx) :
    msk X Y k i = IntOp.andi (okA (kx k) (X i)) (okA (ky k) (Y i)) := by fin_cases k <;> rfl

theorem wgt_lane (X Y : FVec Ideal N16 .f32) (k : Fin 4) (i : N16.Idx) :
    wgt X Y k i = ((wA (F := Ideal) (kx k) (X i) : EReal) * (wA (F := Ideal) (ky k) (Y i) : EReal) : EReal) := by fin_cases k <;> rfl

theorem nb_q (q : IVec N16 32 → IVec N16 32) (X Y : FVec Ideal N16 .f32) (k : Fin 4) : nb q X Y k = q (nb id X Y k) := by
  fin_cases k <;> rfl

theorem nb_lane (X Y : FVec Ideal N16 .f32) (k : Fin 4) (i : N16.Idx) :
    nb id X Y k i = cell₁ (F := Ideal) (X i) (Y i) + BitVec.ofNat 32 (224 * (ky k).val + (kx k).val) := by
  fin_cases k
  · exact (BitVec.add_zero _).symm
  · rfl
  · rfl
  · exact BitVec.add_assoc _ _ _

/-- The word the kernel computes for a neighbour in the image is that pixel's position. -/
theorem word_toNat (k : Fin 4) (x y : EReal) (hx : Inn (iA (kx k) x)) (hy : Inn (iA (ky k) y)) :
    (((cell₁ (F := Ideal) (clip₁ (F := Ideal) x) (clip₁ (F := Ideal) y) + BitVec.ofNat 32 (224 * (ky k).val + (kx k).val)).toNat : ℕ) : ℤ)
      = (iA (ky k) y).toInt * 224 + (iA (kx k) x).toInt := by
  have ex := axis_word _ _ hx
  have ey := axis_word _ _ hy
  unfold Inn at hx hy
  unfold cell₁
  show (((floi₁ (F := Ideal) (clip₁ (F := Ideal) y) * 224#32 + floi₁ (F := Ideal) (clip₁ (F := Ideal) x)
    + BitVec.ofNat 32 (224 * (ky k).val + (kx k).val)).toNat : ℕ) : ℤ) = _
  rw [← BitVec.ofInt_toInt (x := floi₁ (F := Ideal) (clip₁ (F := Ideal) y)), ← BitVec.ofInt_toInt (x := floi₁ (F := Ideal) (clip₁ (F := Ideal) x)),
    show (224#32 : BitVec 32) = BitVec.ofInt 32 224 from rfl, ← BitVec.ofInt_natCast, ← BitVec.ofInt_mul, ← BitVec.ofInt_add, ← BitVec.ofInt_add,
    BitVec.toNat_ofInt]
  push_cast
  omega

/-- An index map that leaves words naming a place of a plane alone. -/
def Keeps (q : IVec N16 32 → IVec N16 32) : Prop := ∀ (V : IVec N16 32) (i : N16.Idx), (V i).toNat < 50176 → q V i = V i

theorem keeps_id : Keeps id := fun _ _ _ => rfl

open scoped Classical in
/-- One lane's two adds by neighbour `k`, at a position of plane `j`: the gain, of the plane's channel. -/
theorem lane_term (q : IVec N16 32 → IVec N16 32) (hq : Keeps q) (X Y : FVec Ideal N16 .f32) (s₀ s₁ : Vec Ideal N16 .f32) (k : Fin 4) (i : N16.Idx)
    (x y : EReal) (hX : X i = clip₁ (F := Ideal) x) (hY : Y i = clip₁ (F := Ideal) y) (j : Fin 2) (p : ℕ) (hp : p < 50176) :
    ((if msk X Y k i = 1#1 ∧ (nb q X Y k i).toNat = 50176 * j.val + p then (mulf (φ := .f32) s₀ (wgt X Y k) i : EReal) else 0)
      + (if msk X Y k i = 1#1 ∧ (plus (nb q X Y k) 50176#32 i).toNat = 50176 * j.val + p then (mulf (φ := .f32) s₁ (wgt X Y k) i : EReal) else 0) : EReal)
    = if Lands k x y p then ((![s₀ i, s₁ i] : Fin 2 → EReal) j) * (vA (kx k) x * vA (ky k) y) else 0 := by
  have and_one (p q : BitVec 1) : IntOp.andi p q = 1#1 ↔ p = 1#1 ∧ q = 1#1 := by revert p q; decide
  have hm : msk X Y k i = 1#1 ↔ Inn (iA (kx k) x) ∧ Inn (iA (ky k) y) := by
    rw [msk_lane, and_one, hX, hY, axis_ok, axis_ok]
  by_cases hin : Inn (iA (kx k) x) ∧ Inn (iA (ky k) y)
  · have hw := word_toNat k x y hin.1 hin.2
    have hr := hin
    unfold Inn at hr
    have hlt : (nb id X Y k i).toNat < 50176 := by
      rw [nb_lane, hX, hY]; omega
    have hn : (nb q X Y k i).toNat = (nb id X Y k i).toNat := by rw [nb_q, hq _ _ hlt]
    have hpl : (plus (nb q X Y k) 50176#32 i).toNat = (nb id X Y k i).toNat + 50176 := by
      show (nb q X Y k i + 50176#32).toNat = _
      rw [BitVec.toNat_add, hn, BitVec.toNat_ofNat]; omega
    have hwt : wgt X Y k i = vA (kx k) x * vA (ky k) y := by
      rw [wgt_lane, hX, hY, axis_weight _ _ hin.1, axis_weight _ _ hin.2]
    have hl : Lands k x y p ↔ (nb id X Y k i).toNat = p := by
      rw [nb_lane, hX, hY]
      unfold Lands
      rw [← hw]
      exact ⟨fun h => by exact_mod_cast h.2.2, fun h => ⟨hin.1, hin.2, by exact_mod_cast h⟩⟩
    rw [hn, hpl]
    simp only [hm, hl, hin, and_self, true_and]
    have m0 : (mulf (φ := .f32) s₀ (wgt X Y k) i : EReal) = (s₀ i : EReal) * (vA (kx k) x * vA (ky k) y) := by rw [← hwt]; rfl
    have m1 : (mulf (φ := .f32) s₁ (wgt X Y k) i : EReal) = (s₁ i : EReal) * (vA (kx k) x * vA (ky k) y) := by rw [← hwt]; rfl
    rw [m0, m1]
    generalize (nb id X Y k i).toNat = n at hlt
    fin_cases j
    · rw [if_neg (show ¬ n + 50176 = 50176 * 0 + p by omega), add_zero]
      by_cases e : n = p
      · rw [if_pos (show n = 50176 * 0 + p by omega), if_pos e]; rfl
      · rw [if_neg (show ¬ n = 50176 * 0 + p by omega), if_neg e]
    · rw [if_neg (show ¬ n = 50176 * 1 + p by omega), zero_add]
      by_cases e : n = p
      · rw [if_pos (show n + 50176 = 50176 * 1 + p by omega), if_pos e]; rfl
      · rw [if_neg (show ¬ n + 50176 = 50176 * 1 + p by omega), if_neg e]
  · rw [if_neg fun h => hin (hm.1 h.1), if_neg fun h => hin (hm.1 h.1), if_neg fun h => hin ⟨h.1, h.2.1⟩, add_zero]

/-! ### The kernel's coordinates -/

theorem toInt_ofNat_small (n : ℕ) (h : n < 2147483648) : (BitVec.ofNat 32 n).toInt = n := by
  have e : (BitVec.ofNat 32 n).toNat = n := by rw [BitVec.toNat_ofNat]; omega
  rw [BitVec.toInt_eq_toNat_of_lt (by omega), e]

theorem px_ideal (y : Vec Ideal S4x224x224x2 .f32) (B : Fin 4) (h w : Fin 224) : px y B h w = clip₁ (F := Ideal) (rx y B h w) := by
  have hw := w.isLt
  unfold px rx
  congr 1
  show ((((BitVec.ofNat 32 (w.val % 16)).toInt : ℝ) : EReal) + (((BitVec.ofNat 32 (16 * (w.val / 16))).toInt : ℝ) : EReal)) + (y (ix4 B h w 0) : EReal) = _
  rw [toInt_ofNat_small _ (by omega), toInt_ofNat_small _ (by omega), ← EReal.coe_add]
  congr 3
  norm_cast
  omega

theorem py_ideal (y : Vec Ideal S4x224x224x2 .f32) (B : Fin 4) (h w : Fin 224) : py y B h w = clip₁ (F := Ideal) (ry y B h w) := by
  have hh := h.isLt
  unfold py ry
  congr 1
  show (((BitVec.ofNat 32 h.val).toInt : ℝ) : EReal) + (y (ix4 B h w 1) : EReal) = _
  rw [toInt_ofNat_small _ (by omega)]
  norm_cast

/-! ### The sum over blocks as a sum over pixels -/

/-- `n` groups of `m` in turn are `m n` places in turn. -/
theorem sum_groups (m : ℕ) (f : ℕ → EReal) (n : ℕ) :
    ∑ c ∈ Finset.range n, ∑ r ∈ Finset.range m, f (m * c + r) = ∑ h ∈ Finset.range (m * n), f h := by
  induction n with
  | zero => simp
  | succ n ih => rw [Finset.sum_range_succ, ih, Nat.mul_succ, Finset.sum_range_add]

/-- What a block of the kernel adds to plane `j` is its pixels' gain. -/
theorem part_gain (q : IVec N16 32 → IVec N16 32) (hq : Keeps q) (x : Vec Ideal S4x96x224x224 .f32) (y : Vec Ideal S4x224x224x2 .f32)
    (B : Fin 4) (P : Fin 48) (j : Fin 2) (p : ℕ) (hp : p < 50176) (c r b : ℕ) (hc : c < 28) (hr : r < 8) (hb : b < 14) :
    part q (srcOf (A2 x) B P) (flOf (A5 y) B) (50176 * j.val + p) c r b
      = ∑ l ∈ Finset.range 16, ∑ k : Fin 4, gain x y B ⟨2 * P + j, by omega⟩ p (Fin.ofNat 224 (8 * c + r)) (Fin.ofNat 224 (16 * b + l)) k := by
  rw [Finset.sum_range]
  unfold part blkSum hits
  rw [Finset.sum_comm]
  refine Finset.sum_congr rfl fun k _ => ?_
  rw [← Finset.sum_add_distrib]
  refine Finset.sum_congr rfl fun l _ => ?_
  have hl := l.isLt
  have eh : Fin.ofNat 224 (8 * c + r) = ⟨8 * c + r, by omega⟩ := Fin.ext (Nat.mod_eq_of_lt (by omega))
  have ew : Fin.ofNat 224 (16 * b + l.val) = ⟨16 * b + l, by omega⟩ := Fin.ext (Nat.mod_eq_of_lt (by omega))
  rw [eh, ew]
  have s0 := ld_src x B P 0 c r b hc hr hb l
  have s1 := ld_src x B P 1 c r b hc hr hb l
  rw [lane_term q hq _ _ _ _ k (lane l) (rx y B ⟨8 * c + r, by omega⟩ ⟨16 * b + l, by omega⟩) (ry y B ⟨8 * c + r, by omega⟩ ⟨16 * b + l, by omega⟩)
    ((xs_lane oneConversion_ideal y B c r b hc hr hb l).trans (px_ideal _ _ _ _))
    ((ys_lane oneConversion_ideal y B c r b hc hr hb l).trans (py_ideal _ _ _ _)) j p hp]
  unfold gain
  congr 2
  fin_cases j
  · exact s0
  · exact s1

/-- A whole task at a position of plane `j` is the warped image's pixel. -/
theorem task_warped (q : IVec N16 32 → IVec N16 32) (hq : Keeps q) (x : Vec Ideal S4x96x224x224 .f32) (y : Vec Ideal S4x224x224x2 .f32)
    (B : Fin 4) (P : Fin 48) (j : Fin 2) (p : ℕ) (hp : p < 50176) (hfit : FitsAll q (flOf (A5 y) B)) (e : NAcc.Idx) (he : (e 0).val = 50176 * j.val + p) :
    task q (srcOf (A2 x) B P) (flOf (A5 y) B) 28 e = warped x y B ⟨2 * P + j, by omega⟩ p := by
  rw [task_sum q _ _ hfit e 28 le_rfl, he]
  have step : ∀ c ∈ Finset.range 28, ∀ r ∈ Finset.range 8,
      (∑ b ∈ Finset.range 14, part q (srcOf (A2 x) B P) (flOf (A5 y) B) (50176 * j.val + p) c r b)
        = ∑ w : Fin 224, ∑ k : Fin 4, gain x y B ⟨2 * P + j, by omega⟩ p (Fin.ofNat 224 (8 * c + r)) w k := by
    intro c hc r hr
    rw [Finset.sum_congr rfl fun b hb => part_gain q hq x y B P j p hp c r b (Finset.mem_range.1 hc) (Finset.mem_range.1 hr) (Finset.mem_range.1 hb),
      sum_groups 16 (fun w => ∑ k : Fin 4, gain x y B ⟨2 * P + j, by omega⟩ p (Fin.ofNat 224 (8 * c + r)) (Fin.ofNat 224 w) k) 14, Finset.sum_range]
    refine Finset.sum_congr rfl fun w _ => ?_
    have ew : Fin.ofNat 224 w.val = w := Fin.ext (Nat.mod_eq_of_lt w.isLt)
    rw [ew]
  rw [Finset.sum_congr rfl fun c hc => Finset.sum_congr rfl fun r hr => step c hc r hr,
    sum_groups 8 (fun h => ∑ w : Fin 224, ∑ k : Fin 4, gain x y B ⟨2 * P + j, by omega⟩ p (Fin.ofNat 224 h) w k) 28, Finset.sum_range]
  unfold warped
  refine Finset.sum_congr rfl fun h _ => ?_
  have eh : Fin.ofNat 224 h.val = h := Fin.ext (Nat.mod_eq_of_lt h.isLt)
  rw [eh]

/-- The kernel's result, element by element, is the warped images. -/
theorem res_warped (q : IVec N16 32 → IVec N16 32) (hq : Keeps q) (x : Vec Ideal S4x96x224x224 .f32) (y : Vec Ideal S4x224x224x2 .f32)
    (hfit : ∀ B, FitsAll q (flOf (A5 y) B)) (B : Fin 4) (ch : Fin 96) (h w : Fin 224) :
    shapeCast S4x96x224x224 (out q (A2 x) (A5 y)) shapeCasts_S4x4816896_S4x96x224x224 (ix4 B ch h w) = warped x y B ch (224 * h + w) := by
  have hch := ch.isLt
  have hh := h.isLt
  have hw := w.isLt
  pointwise
  show task q (srcOf (A2 x) B.val (_ / 100352)) (flOf (A5 y) B.val) 28 (pos NAcc _ fun _ => _) = _
  generalize hN : ((ix2 B _ 1 : Fin _).val : ℕ) = N
  have hN' : N = 100352 * (ch.val / 2) + (50176 * (ch.val % 2) + (224 * h.val + w.val)) := by
    rw [← hN]
    show ch.val * 50176 + h.val * 224 + w.val = _
    omega
  have hP : N / 100352 = ch.val / 2 := by omega
  rw [hP]
  refine (task_warped q hq x y B ⟨ch.val / 2, by omega⟩ ⟨ch.val % 2, by omega⟩ (224 * h.val + w.val) (by omega) (hfit B) _ ?_).trans ?_
  · show N % 100352 = 50176 * (ch.val % 2) + (224 * h.val + w.val)
    omega
  · congr 1
    exact Fin.ext (Nat.div_add_mod _ _)

end Splat
-- ==== Proof.Scatter.lean ====
/- The reference's four scatter-adds on the extended reals, read at one element. -/
module

public import proofs.«01_k».proof.Proof.Warp
public import proofs.«01_k».proof.Proof.Gen.ReferenceIdeal.Run
public import Idealize.ShloMosaic.Lib.Routing.OpsPair
public import Idealize.ShloMosaic.Lib.Tactic.CleanTypes

@[expose] public section

noncomputable section

namespace Splat.Ref

open Idealize.ShloMosaic
open Cert.ReferenceIdeal Cert.ReferenceIdeal.Gen

/-- The scatter's dimension numbers: rows of 96 channels, one row index each. -/
abbrev dims := scatter_S200704x96_S200704x1_S200704x96_1_0_0_1

/-- An update's row is the index its row of the index column holds. -/
theorem start_row (m : Fin 200704) (c : Fin 96) (idx : IVec S200704x1 32) : dims.start (ix2 m c) idx 0 = (idx (ix2 m 0)).toInt := by
  show (idx (dims.siIdx (ix2 m c) ⟨0, _⟩)).toInt = _
  congr 2
  funext a
  match a with
  | ⟨0, _⟩ => rfl
  | ⟨1, _⟩ => exact Subsingleton.elim (α := Fin 1) _ _
theorem start_col (m : Fin 200704) (c : Fin 96) (idx : IVec S200704x1 32) : dims.start (ix2 m c) idx 1 = 0 := by
  rfl
theorem window_row (m : Fin 200704) (c : Fin 96) : dims.window (ix2 m c) 0 = 0 := by
  rfl
theorem window_col (m : Fin 200704) (c : Fin 96) : dims.window (ix2 m c) 1 = c.val := by
  rfl

/-- An update lands in the row it names, in its own channel. -/
theorem lands (m n : Fin 200704) (c ch : Fin 96) (idx : IVec S200704x1 32) :
    dims.resultIdx? (ix2 m c) idx = some (ix2 n ch) ↔ (idx (ix2 m 0)).toInt = n.val ∧ c = ch := by
  refine (Routing.resultIdx?_ix2 dims (ix2 m c) idx n ch).trans ?_
  rw [start_row, start_col, window_row, window_col, Fin.ext_iff]
  push_cast
  omega

/-! ### The reference's terms at one pixel -/

open Cert.ReferenceIdeal.Value Idealize.ShloMosaic.TcCoe Idealize.ShloMosaic.StableHlo Idealize.SL.Sem

variable (V : Valuation τ sig (Elt Ideal))

/-- The images the reference reads. -/
abbrev im : Vec Ideal S4x96x224x224 .f32 := V (Proc.devRef .tc main_arg0)
/-- The flow the reference reads. -/
abbrev flow : Vec Ideal S4x224x224x2 .f32 := V (Proc.devRef .tc main_arg1)

/-- The number of a pixel among all images' pixels, as a row of the reference's matrices. -/
abbrev row (B : Fin 4) (h w : Fin 224) : Fin 200704 := ⟨B * 50176 + h * 224 + w, by omega⟩

/-- The reference's x coordinates. -/
abbrev X9 : S4x224x224.Idx → EReal := res_main_v9 V
/-- The reference's y coordinates. -/
abbrev Y15 : S4x224x224.Idx → EReal := res_main_v15 V
/-- The x coordinates' floors. -/
abbrev X16 : S4x224x224.Idx → EReal := res_main_v16 V
/-- The y coordinates' floors. -/
abbrev Y17 : S4x224x224.Idx → EReal := res_main_v17 V
/-- The floors of x, plus one. -/
abbrev X19 : S4x224x224.Idx → EReal := res_main_v19 V
/-- The floors of y, plus one. -/
abbrev Y21 : S4x224x224.Idx → EReal := res_main_v21 V
/-- The source rows. -/
abbrev S39 : S200704x96.Idx → EReal := res_main_v39 V

theorem v9_at (B : Fin 4) (h w : Fin 224) : X9 V (ix3 B h w) = rx (flow V) B h w := by
  unfold X9 res_main_v9
  clean_types
  pointwise
  show (((BitVec.ofNat 32 w.val).toInt : ℝ) : EReal) + (flow V (ix4 B h w 0) : EReal) = _
  rw [toInt_ofNat_small _ (by omega)]
  unfold rx
  norm_cast

theorem v15_at (B : Fin 4) (h w : Fin 224) : Y15 V (ix3 B h w) = ry (flow V) B h w := by
  unfold Y15 res_main_v15
  clean_types
  pointwise
  show (((BitVec.ofNat 32 h.val).toInt : ℝ) : EReal) + (flow V (ix4 B h w 1) : EReal) = _
  rw [toInt_ofNat_small _ (by omega)]
  unfold ry
  norm_cast

theorem v16_at (B : Fin 4) (h w : Fin 224) : X16 V (ix3 B h w) = fl (rx (flow V) B h w) := by
  rw [← v9_at]; rfl

theorem v17_at (B : Fin 4) (h w : Fin 224) : Y17 V (ix3 B h w) = fl (ry (flow V) B h w) := by
  rw [← v15_at]; rfl

theorem v19_at (B : Fin 4) (h w : Fin 224) : X19 V (ix3 B h w) = fl (rx (flow V) B h w) + 1 := by
  have e : X19 V (ix3 B h w) = X16 V (ix3 B h w) + Ideal.ofBits .f32 0x3F800000#32 := rfl
  rw [e, v16_at, lit_1]; rfl

theorem v21_at (B : Fin 4) (h w : Fin 224) : Y21 V (ix3 B h w) = fl (ry (flow V) B h w) + 1 := by
  have e : Y21 V (ix3 B h w) = Y17 V (ix3 B h w) + Ideal.ofBits .f32 0x3F800000#32 := rfl
  rw [e, v17_at, lit_1]; rfl

theorem v39_at (B : Fin 4) (h w : Fin 224) (ch : Fin 96) : S39 V (ix2 (row B h w) ch) = im V (ix4 B ch h w) := by
  unfold S39 res_main_v39
  clean_types
  dsimp only [row]
  pointwise

/-- The x words of the near and of the far neighbours. -/
abbrev xw : Fin 2 → IVec S4x224x224 32 := ![res_main_v34 V, res_main_v36 V]
/-- The y words of the near and of the far neighbours. -/
abbrev yw : Fin 2 → IVec S4x224x224 32 := ![res_main_v35 V, res_main_v37 V]
/-- The x weights of the near and of the far neighbours. -/
abbrev xv : Fin 2 → Vec Ideal S4x224x224 .f32 := ![subf (φ := .f32) (res_main_v19 V) (res_main_v9 V), subf (φ := .f32) (res_main_v9 V) (res_main_v16 V)]
/-- The y weights of the near and of the far neighbours. -/
abbrev yv : Fin 2 → Vec Ideal S4x224x224 .f32 := ![subf (φ := .f32) (res_main_v21 V) (res_main_v15 V), subf (φ := .f32) (res_main_v15 V) (res_main_v17 V)]

theorem xw_at (a : Fin 2) (B : Fin 4) (h w : Fin 224) : xw V a (ix3 B h w) = iA a (rx (flow V) B h w) := by
  fin_cases a
  · show Ideal.fptosi 32 (X16 V (ix3 B h w)) = _
    rw [v16_at]; rfl
  · show Ideal.fptosi 32 (X19 V (ix3 B h w)) = _
    rw [v19_at]; rfl

theorem yw_at (a : Fin 2) (B : Fin 4) (h w : Fin 224) : yw V a (ix3 B h w) = iA a (ry (flow V) B h w) := by
  fin_cases a
  · show Ideal.fptosi 32 (Y17 V (ix3 B h w)) = _
    rw [v17_at]; rfl
  · show Ideal.fptosi 32 (Y21 V (ix3 B h w)) = _
    rw [v21_at]; rfl

theorem xv_at (a : Fin 2) (B : Fin 4) (h w : Fin 224) : (xv V a (ix3 B h w) : EReal) = vA a (rx (flow V) B h w) := by
  fin_cases a
  · show X19 V (ix3 B h w) - X9 V (ix3 B h w) = _
    rw [v19_at, v9_at]; rfl
  · show X9 V (ix3 B h w) - X16 V (ix3 B h w) = _
    rw [v16_at, v9_at]; rfl

theorem yv_at (a : Fin 2) (B : Fin 4) (h w : Fin 224) : (yv V a (ix3 B h w) : EReal) = vA a (ry (flow V) B h w) := by
  fin_cases a
  · show Y21 V (ix3 B h w) - Y15 V (ix3 B h w) = _
    rw [v21_at, v15_at]; rfl
  · show Y15 V (ix3 B h w) - Y17 V (ix3 B h w) = _
    rw [v17_at, v15_at]; rfl

/-! ### One of the four scatters -/

section Scatters

variable (xi yi : IVec S4x224x224 32)

/-- One value at every pixel. -/
abbrev all (v : BitVec 32) : IVec S4x224x224 32 := broadcastInDim S4x224x224 ![] bcast_S_S4x224x224 (constantI S_ 32 v)

/-- The test of a neighbour, on its two words. -/
def valid : IVec S4x224x224 1 :=
  andi (andi (andi (cmpi .sge xi (all 0#32)) (cmpi .slt xi (all 224#32))) (cmpi .sge yi (all 0#32))) (cmpi .slt yi (all 224#32))

/-- The rows the reference adds to: the neighbour's where it is in the image, else row 0. -/
def flat : IVec S200704 32 :=
  shapeCast _ (select (valid xi yi) (addi (addi (broadcastInDim S4x224x224 ![0, 1, 2] bcast_S4x1x1_S4x224x224_0_1_2 (res_main_v43 V)) (muli yi (all 224#32))) xi)
    (broadcastInDim S4x224x224 ![] bcast_S_S4x224x224 (id (constantI S_ 32 0#32)))) shapeCasts_S4x224x224_S200704

/-- The same as the scatter's index column. -/
def col : IVec S200704x1 32 :=
  broadcastInDim S200704x1 ![0] bcast_S200704_S200704x1_0 (select (cmpi .slt (flat V xi yi) (broadcastInDim S200704 ![] bcast_S_S200704 (constantI S_ 32 0#32)))
    (addi (flat V xi yi) (broadcastInDim S200704 ![] bcast_S_S200704 (constantI S_ 32 200704#32))) (flat V xi yi))

/-- What the reference adds: the source rows times the weight, or times 0 outside the image. -/
def upd (u v : Vec Ideal S4x224x224 .f32) : Vec Ideal S200704x96 .f32 :=
  mulf (φ := .f32) (res_main_v39 V) (broadcastInDim S200704x96 ![0, 1] bcast_S200704x1_S200704x96_0_1 (shapeCast _ (select (valid xi yi) (mulf (φ := .f32) u v)
    (broadcastInDim S4x224x224 ![] bcast_S_S4x224x224 (constant (F := Ideal) S_ .f32 0x00000000#32))) shapeCasts_S4x224x224_S200704x1))

theorem valid_at (i : S4x224x224.Idx) : valid xi yi i = 1#1 ↔ Inn (xi i) ∧ Inn (yi i) := by
  have and_one (p q : BitVec 1) : IntOp.andi p q = 1#1 ↔ p = 1#1 ∧ q = 1#1 := by revert p q; decide
  have sge (v : BitVec 32) : IntOp.cmpi .sge v 0#32 = 1#1 ↔ 0 ≤ v.toInt := WordCmp.ofBool_decide_eq_one_iff _
  have slt (v : BitVec 32) : IntOp.cmpi .slt v 224#32 = 1#1 ↔ v.toInt < 224 := WordCmp.ofBool_decide_eq_one_iff _
  show IntOp.andi (IntOp.andi (IntOp.andi (IntOp.cmpi .sge (xi i) 0#32) (IntOp.cmpi .slt (xi i) 224#32)) (IntOp.cmpi .sge (yi i) 0#32)) (IntOp.cmpi .slt (yi i) 224#32) = 1#1 ↔ _
  rw [and_one, and_one, and_one, sge, sge, slt, slt]
  unfold Inn
  exact ⟨fun h => ⟨h.1.1, h.1.2, h.2⟩, fun h => ⟨⟨h.1, h.2.1⟩, h.2.2⟩⟩

theorem flat_at (B : Fin 4) (h w : Fin 224) :
    flat V xi yi (ix1 (row B h w)) = Scalar.select (valid xi yi (ix3 B h w))
      (BitVec.ofNat 32 B.val * 50176#32 + yi (ix3 B h w) * 224#32 + xi (ix3 B h w)) 0#32 := by
  unfold flat res_main_v43
  clean_types
  dsimp only [row]
  pointwise
  rfl

theorem col_at (B : Fin 4) (h w : Fin 224) :
    col V xi yi (ix2 (row B h w) 0) = Scalar.select (IntOp.cmpi .slt (flat V xi yi (ix1 (row B h w))) 0#32)
      (flat V xi yi (ix1 (row B h w)) + 200704#32) (flat V xi yi (ix1 (row B h w))) := by
  unfold col
  pointwise
  rfl

/-- A neighbour in the image names its own image's row. -/
theorem col_valid (B : Fin 4) (h w : Fin 224) (hx : Inn (xi (ix3 B h w))) (hy : Inn (yi (ix3 B h w))) :
    (col V xi yi (ix2 (row B h w) 0)).toInt = B.val * 50176 + (yi (ix3 B h w)).toInt * 224 + (xi (ix3 B h w)).toInt := by
  have e := flat_at V xi yi B h w
  rw [(valid_at xi yi _).2 ⟨hx, hy⟩] at e
  change _ = BitVec.ofNat 32 B.val * 50176#32 + yi (ix3 B h w) * 224#32 + xi (ix3 B h w) at e
  unfold Inn at hx hy
  have hB := B.isLt
  have en : ((flat V xi yi (ix1 (row B h w))).toNat : ℤ) = B.val * 50176 + (yi (ix3 B h w)).toInt * 224 + (xi (ix3 B h w)).toInt := by
    rw [e, ← BitVec.ofInt_toInt (x := yi (ix3 B h w)), ← BitVec.ofInt_toInt (x := xi (ix3 B h w)), ← BitVec.ofInt_natCast,
      show (224#32 : BitVec 32) = BitVec.ofInt 32 224 from rfl, show (50176#32 : BitVec 32) = BitVec.ofInt 32 50176 from rfl,
      ← BitVec.ofInt_mul, ← BitVec.ofInt_mul, ← BitVec.ofInt_add, ← BitVec.ofInt_add, BitVec.toNat_ofInt]
    simp only [BitVec.ofInt_toInt]
    push_cast
    omega
  rw [col_at, Routing.wrap_of_lt _ _ (by omega), BitVec.toInt_eq_toNat_of_lt (by omega), en]

theorem upd_at (u v : Vec Ideal S4x224x224 .f32) (B : Fin 4) (h w : Fin 224) (ch : Fin 96) :
    (upd V xi yi u v (ix2 (row B h w) ch) : EReal)
      = Scalar.select (valid xi yi (ix3 B h w)) (im V (ix4 B ch h w) * ((u (ix3 B h w) : EReal) * (v (ix3 B h w) : EReal)) : EReal) (0 : EReal) := by
  rw [← v39_at]
  unfold upd
  dsimp only [row]
  pointwise

/-- A sum over the rows, as a sum over the images' pixels. -/
theorem sum_rows (g : Fin 200704 → EReal) : ∑ m, g m = ∑ B : Fin 4, ∑ h : Fin 224, ∑ w : Fin 224, g (row B h w) := by
  have e (m : Fin 200704) : Fin.ofNat 200704 m.val = m := Fin.ext (Nat.mod_eq_of_lt m.isLt)
  have t : ∑ m, g m = ∑ n ∈ Finset.range (50176 * 4), g (Fin.ofNat 200704 n) := by
    rw [Finset.sum_range]
    exact Finset.sum_congr rfl fun m _ => by rw [e]
  rw [t, ← sum_groups 50176 (fun n => g (Fin.ofNat 200704 n)) 4, Finset.sum_range]
  refine Finset.sum_congr rfl fun B _ => ?_
  rw [show (50176 : ℕ) = 224 * 224 from rfl, ← sum_groups 224 (fun n => g (Fin.ofNat 200704 (224 * 224 * B.val + n))) 224, Finset.sum_range]
  refine Finset.sum_congr rfl fun h _ => ?_
  rw [Finset.sum_range]
  refine Finset.sum_congr rfl fun w _ => congrArg g (Fin.ext ?_)
  show (224 * 224 * B.val + (224 * h.val + w.val)) % 200704 = B.val * 50176 + h.val * 224 + w.val
  omega

open scoped Classical in
/-- One scatter adds, to a pixel of a channel, that channel's source pixels whose neighbour it is. -/
theorem scatter_one (acc : Vec Ideal S200704x96 .f32) (u v : Vec Ideal S4x224x224 .f32) (B : Fin 4) (hh ww : Fin 224) (ch : Fin 96) :
    (Host.scatterAdd (F := Ideal) (φ := .f32) dims acc (col V xi yi) (upd V xi yi u v) (ix2 (row B hh ww) ch) : EReal)
      = (acc (ix2 (row B hh ww) ch) : EReal) + ∑ h : Fin 224, ∑ w : Fin 224,
        if Inn (xi (ix3 B h w)) ∧ Inn (yi (ix3 B h w)) ∧ (yi (ix3 B h w)).toInt * 224 + (xi (ix3 B h w)).toInt = ((224 * hh.val + ww.val : ℕ) : ℤ)
          then im V (ix4 B ch h w) * ((u (ix3 B h w) : EReal) * (v (ix3 B h w) : EReal)) else 0 := by
  show (acc (ix2 (row B hh ww) ch) : EReal) + ∑ j ∈ Finset.univ.filter (fun j => dims.resultIdx? j (col V xi yi) = some (ix2 (row B hh ww) ch)), (upd V xi yi u v j : EReal) = _
  refine congrArg (HAdd.hAdd _) ?_
  rw [Finset.sum_filter, sum_idx2, sum_rows]
  have inner (B' : Fin 4) (h w : Fin 224) :
      (∑ c : Fin 96, if dims.resultIdx? (ix2 (row B' h w) c) (col V xi yi) = some (ix2 (row B hh ww) ch) then (upd V xi yi u v (ix2 (row B' h w) c) : EReal) else 0)
        = if B' = B ∧ Inn (xi (ix3 B' h w)) ∧ Inn (yi (ix3 B' h w)) ∧ (yi (ix3 B' h w)).toInt * 224 + (xi (ix3 B' h w)).toInt = ((224 * hh.val + ww.val : ℕ) : ℤ)
          then im V (ix4 B' ch h w) * ((u (ix3 B' h w) : EReal) * (v (ix3 B' h w) : EReal)) else 0 := by
    rw [Finset.sum_eq_single ch (fun c _ hc => if_neg fun q => hc ((lands _ _ _ _ _).1 q).2) (fun q => (q (Finset.mem_univ _)).elim), upd_at]
    simp only [lands, and_true]
    by_cases hv : Inn (xi (ix3 B' h w)) ∧ Inn (yi (ix3 B' h w))
    · rw [(valid_at xi yi _).2 hv, col_valid V xi yi B' h w hv.1 hv.2]
      have hx := hv.1
      have hy := hv.2
      unfold Inn at hx hy
      refine if_congr ?_ rfl rfl
      show _ = ((B.val * 50176 + hh.val * 224 + ww.val : ℕ) : ℤ) ↔ _
      rw [Fin.ext_iff]
      constructor
      · intro q
        push_cast at q ⊢
        exact ⟨by omega, hv.1, hv.2, by omega⟩
      · rintro ⟨q, -, -, r⟩
        push_cast at r ⊢
        omega
    · have z : valid xi yi (ix3 B' h w) = 0#1 := by
        have two (p : BitVec 1) : p ≠ 1#1 → p = 0#1 := by revert p; decide
        exact two _ fun q => hv ((valid_at xi yi _).1 q)
      refine Eq.trans ?_ (if_neg fun q => hv ⟨q.2.1, q.2.2.1⟩).symm
      rw [z]
      exact ite_self _
  simp only [inner]
  rw [Finset.sum_eq_single B (fun B' _ hB => ?_) (fun q => (q (Finset.mem_univ _)).elim)]
  · simp only [true_and]
  · exact Finset.sum_eq_zero fun h _ => Finset.sum_eq_zero fun w _ => if_neg fun q => hB q.1

end Scatters

/-! ### All four -/

/-- Neighbour `k`'s scatter onto what came before. -/
abbrev next (k : Fin 4) (acc : Vec Ideal S200704x96 .f32) : Vec Ideal S200704x96 .f32 :=
  Host.scatterAdd (F := Ideal) (φ := .f32) dims acc (col V (xw V (kx k)) (yw V (ky k))) (upd V (xw V (kx k)) (yw V (ky k)) (xv V (kx k)) (yv V (ky k)))

/-- Neighbour `k`'s scatter adds the gains by that neighbour. -/
theorem next_at (k : Fin 4) (acc : Vec Ideal S200704x96 .f32) (B : Fin 4) (hh ww : Fin 224) (ch : Fin 96) :
    (next V k acc (ix2 (row B hh ww) ch) : EReal) = (acc (ix2 (row B hh ww) ch) : EReal)
      + ∑ h : Fin 224, ∑ w : Fin 224, gain (im V) (flow V) B ch (224 * hh + ww) h w k := by
  refine (scatter_one V _ _ acc _ _ B hh ww ch).trans (congrArg (HAdd.hAdd _) ?_)
  refine Finset.sum_congr rfl fun h _ => Finset.sum_congr rfl fun w _ => ?_
  rw [xw_at, yw_at, xv_at, yv_at]
  by_cases q : Lands k (rx (flow V) B h w) (ry (flow V) B h w) (224 * hh.val + ww.val)
  · exact (if_pos q).trans (if_pos q).symm
  · exact (if_neg q).trans (if_neg q).symm

/-- The zeros the scatters start from. -/
abbrev zeros : Vec Ideal S200704x96 .f32 := broadcastInDim S200704x96 ![] bcast_S_S200704x96 (constant (F := Ideal) S_ .f32 0x00000000#32)

/-- The four scatters on zeros give the warped images' pixels. -/
theorem four_at (B : Fin 4) (hh ww : Fin 224) (ch : Fin 96) :
    (next V 3 (next V 2 (next V 1 (next V 0 zeros))) (ix2 (row B hh ww) ch) : EReal) = warped (im V) (flow V) B ch (224 * hh + ww) := by
  have z : (zeros (ix2 (row B hh ww) ch) : EReal) = 0 := (show _ = Ideal.ofBits .f32 0x00000000#32 from rfl).trans (lit_0.trans EReal.coe_zero)
  rw [next_at, next_at, next_at, next_at, z]
  unfold warped
  simp only [Fin.sum_univ_four, Finset.sum_add_distrib, zero_add]

/-- The reference's result as it is printed. -/
abbrev result : Vec Ideal S4x96x224x224 .f32 :=
  transpose S4x96x224x224 [0, 3, 1, 2] (shapeCast S4x224x224x96 (next V 3 (next V 2 (next V 1 (next V 0 zeros)))) shapeCasts_S200704x96_S4x224x224x96)
    transposes_S4x224x224x96_S4x96x224x224_0_3_1_2

/-- The reference's result, element by element, is the warped images. -/
theorem result_at (B : Fin 4) (ch : Fin 96) (hh ww : Fin 224) :
    (result V (ix4 B ch hh ww) : EReal) = warped (im V) (flow V) B ch (224 * hh + ww) := by
  rw [← four_at]
  unfold result
  generalize next V 3 (next V 2 (next V 1 (next V 0 zeros))) = A
  dsimp only [row]
  pointwise

/-- Every run of the reference ends with the warped images. -/
theorem run_result (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v166) = result (launchContents m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  Value.run m ρ

end Splat.Ref
-- ==== Proof.Value.lean ====
/- The value claim: on the extended reals the kernel's result is the reference's, every element. -/
module

public import proofs.«01_k».proof.Proof.Frames
public import proofs.«01_k».proof.Proof.Scatter

@[expose] public section

noncomputable section

namespace Splat

open Idealize.ShloMosaic Idealize.SL.Sem

/-- On the same images and flow, where the flow names pixels of the accumulator only, the reference's result is the kernel's. -/
theorem result_eq (V : Valuation Cert.ReferenceIdeal.τ Cert.ReferenceIdeal.sig (Elt Ideal))
    (x : Vec Ideal Cert.KernelIdeal.S4x96x224x224 .f32) (y : Vec Ideal Cert.KernelIdeal.S4x224x224x2 .f32)
    (hx : Ref.im V = x) (hy : Ref.flow V = y) (hfit : ∀ B, FitsAll id (flOf (KI.A5 y) B)) : Ref.result V = KI.Res x y := by
  subst hx hy
  funext j
  rw [eq_ix4 j]
  exact (Ref.result_at V (j 0) (j 1) (j 2) (j 3)).trans (res_warped id keeps_id _ _ hfit (j 0) (j 1) (j 2) (j 3)).symm

/-- Under the precondition, the kernel and the reference, from the same images and flow, end with the same warped images. -/
theorem algebraic : Cert.algebraic_KernelIdeal_ReferenceIdeal := fun m g m' g' hpre hsame =>
  have hfit := fun d B => fits_of_pre oneConversion_ideal _ _ (hpre d) B
  ⟨fun c => KI.Res (KI.X m c) (KI.Y m c),
    (θ_run Cert.KernelIdeal.defs _ _).mono (fun _ h c => ⟨(h.1 c).2.2, (h.1 c).1, (h.1 c).2.1⟩) (KI.run_main (F := Ideal) m g hfit),
    (θ_run Cert.ReferenceIdeal.defs _ _).mono
      (fun _ h c => ⟨(h c).1.trans (result_eq _ (KI.X m c) (KI.Y m c) (hsame c).1 (hsame c).2 (hfit c)), (h c).2⟩)
      (Ref.run_result m' g')⟩

end Splat
-- ==== Proof.GI.Base.lean ====
/- The guarded kernel's threads and buffers, named once, and the two steps its inner loops take:
a load of sixteen consecutive elements, and a masked indexed add into the accumulator. -/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import proofs.«01_k».proof.Proof.Gen.GuardedIdeal
public import proofs.«01_k».proof.Proof.Gen.GuardedIdeal.Skeleton
public import proofs.«01_k».proof.Proof.Val

@[expose] public section

noncomputable section

namespace Splat.GI

open Cert.GuardedIdeal Cert.GuardedIdeal.Gen
open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)
open Idealize.ShloMosaic.Tactic

variable {F : FTy → Type}

/-- The labels of this program's pipelines and calls. -/
abbrev ΛP : Labels := Pipeline.Sig Λ₀ (Fin 0) fun p => (pcfgs (F := F) p).Adm
/-- The launch's configuration. -/
abbrev K : SparseCore.Cfg τ sig (ΛP (F := F)) 1 := sc (F := F)
/-- The program's definitions. -/
abbrev D [FloatOps F] : Defs nD τ sig (Elt F) (ΛP (F := F)) := Pipeline.defs pcfgs defs₀
/-- No loop of the kernel needs a variant. -/
abbrev 𝒱₀ : Variants := Variants.none

/-- The launch's cells and the transfers' counters. -/
abbrev UH : Type := URounds (GSem nD τ sig) ℕ
/-- The ghost state of the run. -/
abbrev UU : Type := UH × Counters

local notation "𝕄" => MT nD τ sig (HIx 1) (Elt F) ℕ UU ℕ

/-- The SparseCore of a grid point. -/
abbrev cV (L : grid0.Coords) : Fin τ.nSC := (L 0).castLE hcore0
/-- The tile of a grid point. -/
abbrev jV (L : grid0.Coords) : Fin τ.nSub := (L 1).castLE hsub0
/-- The thread of a grid point. -/
abbrev VT (d : Dev nD) (L : grid0.Coords) : Thread nD τ := V d (cV L) (jV L)

/-- The packed images. -/
abbrev mI : Memref sig .scVector .hbm S4x48x28x3584 .f32 := Memref.whole main_v2_scv
/-- The packed flow. -/
abbrev mF : Memref sig .scVector .hbm S4x28x3584 .f32 := Memref.whole main_v5_scv
/-- The output. -/
abbrev mO : Memref sig .scVector .hbm S4x4816896 .f32 := Memref.whole main_v6_scv
/-- A tile's accumulator. -/
abbrev mA : Memref sig .scVector .vmem S100352 .f32 := Memref.whole cc0_scratch0
/-- A tile's first image buffer. -/
abbrev mSa : Memref sig .scVector .vmem S3584 .f32 := Memref.whole cc0_scratch1
/-- A tile's second image buffer. -/
abbrev mSb : Memref sig .scVector .vmem S3584 .f32 := Memref.whole cc0_scratch2
/-- A tile's first flow buffer. -/
abbrev mFa : Memref sig .scVector .vmem S3584 .f32 := Memref.whole cc0_scratch3
/-- A tile's second flow buffer. -/
abbrev mFb : Memref sig .scVector .vmem S3584 .f32 := Memref.whole cc0_scratch4

variable [FloatOps F]

/-- One block of a row out of the first pair of buffers. -/
abbrev b5 (L : grid0.Coords) (v3 : FVec F S16 .f32) (t1 : Fin k0_t1_loop.trips) (c0 c1 : BitVec 32) (t3 : Fin k0_t3_loop.trips)
    (t4 : Fin k0_t4_loop.trips) (a : BitVec 32) :=
  k0_t5_body (F := F) L mI (Memref.isWhole_whole _) mF (Memref.isWhole_whole _) mO (Memref.isWhole_whole _)
    mA (Memref.isWhole_whole _) mSa (Memref.isWhole_whole _) mSb (Memref.isWhole_whole _) mFa (Memref.isWhole_whole _)
    mFb (Memref.isWhole_whole _) cc0_scratch5 cc0_scratch6 cc0_scratch7 cc0_scratch8 cc0_scoped0 v3 t1 c0 c1 t3 t4 a

/-- One block of a row out of the second pair of buffers. -/
abbrev b7 (L : grid0.Coords) (v57 : BitVec 32) (t6 : Fin k0_t6_loop.trips) (a : BitVec 32) :=
  k0_t7_body (F := F) L mI (Memref.isWhole_whole _) mF (Memref.isWhole_whole _) mO (Memref.isWhole_whole _)
    mA (Memref.isWhole_whole _) mSa (Memref.isWhole_whole _) mSb (Memref.isWhole_whole _) mFa (Memref.isWhole_whole _)
    mFb (Memref.isWhole_whole _) cc0_scratch5 cc0_scratch6 cc0_scratch7 cc0_scratch8 cc0_scoped0 v57 t6 a

/-- A buffer of a tile's own memory, held outright. -/
abbrev own (d : Dev nD) (L : grid0.Coords) (b : Ref sig .scVector) (f : Buf (Elt F) ((VT d L).loc b)) : sProp 𝕄 :=
  (VT d L).loc b ↦{fullShare} f

/-- A masked indexed add at the head of a tile's program: the accumulator, held outright, goes on
holding the scattered sums. -/
theorem wp_add (d : Dev nD) (L : grid0.Coords) {α : Type} {Q : α → sProp 𝕄} (ix : IVec S16 32) (v : Vec F S16 .f32)
    (m : IVec S16 1) (h : ∀ a x, ((![ix] : Fin 1 → IVec S16 32) a x).toNat < S100352.size a)
    (hs : (mA.access (.whole S100352)).Stores Finset.univ)
    (k : PUnit → Prog (TpuEff nD τ sig (Elt F) Λ₀ (VT d L).2) α) (g : Vec F NAcc .f32) :
    own d L cc0_scratch0 g
      ⊢ iprop((own d L cc0_scratch0 (upd g ix v m) -∗ wp frame (wpE (defs₀ (F := F)) 𝒱₀ (VT d L) none) Set.univ (k ⟨⟩) Q)
        -∗ wp frame (wpE (defs₀ (F := F)) 𝒱₀ (VT d L) none) Set.univ
            (SparseCore.vectorStoreIdx mA ![ix] v m true h hs >>= k) Q) := by
  have hset : (mA.access (.whole S100352)).set = Finset.univ := Memref.set_access_whole _
  have hb := SparseCore.wp_vectorStoreIdx (Q := Q) (defs := defs₀ (F := F)) 𝒱₀ (VT d L) none Set.univ (base := mA) (idxs := ![ix]) (v := v)
    (mask := m) (add := true) (h := h) (hs := hs) (k := k) (f := g)
  have hw : ∀ f w, (mA.access (.whole S100352)).write (Elt F) f w Finset.univ = w :=
    Memref.write_access_whole_univ (Elt F) cc0_scratch0
  have hr : ∀ f, (mA.access (.whole S100352)).read (Elt F) f = f := Memref.read_access_whole (Elt F) cc0_scratch0
  rw [hset, hw, hr] at hb
  rw [← upd_eq g ix v m h]
  exact hb

/-- The element a unit rectangle's index names. -/
theorem at_unit {n : ℕ} (hn : n + 16 ≤ 3584) {off : Fin 1 → ℕ} (ho : off = ![n]) (h : ∀ a, off a + S16.size a ≤ S3584.size a) (x : S16.Idx) :
    ((Rect.unit (s := S3584) off S16.size h).toLoadRect.idx x : NBuf.Idx) = pos NBuf (by decide) fun _ => n + (x 0).val := by
  subst ho
  funext a
  have h0 : a = 0 := Fin.eq_zero a
  subst h0
  have hx : (x 0).val < 16 := (x 0).isLt
  apply Fin.ext
  show n + 1 * (x 0).val = (n + (x 0).val) % 3584
  rw [Nat.mod_eq_of_lt (by omega)]
  omega

/-- A load of sixteen elements of the first flow buffer. -/
theorem read_Fa (f : Vec F NBuf .f32) {n : ℕ} (hn : n + 16 ≤ 3584) {off : Fin 1 → ℕ} (ho : off = ![n]) (h : ∀ a, off a + S16.size a ≤ S3584.size a) :
    mFa.view.readAt (Elt F) (Rect.unit (s := S3584) off S16.size h).toLoadRect f = ld f n :=
  funext fun x => congrArg f (at_unit hn ho h x)

/-- A load of sixteen elements of the second flow buffer. -/
theorem read_Fb (f : Vec F NBuf .f32) {n : ℕ} (hn : n + 16 ≤ 3584) {off : Fin 1 → ℕ} (ho : off = ![n]) (h : ∀ a, off a + S16.size a ≤ S3584.size a) :
    mFb.view.readAt (Elt F) (Rect.unit (s := S3584) off S16.size h).toLoadRect f = ld f n :=
  funext fun x => congrArg f (at_unit hn ho h x)

/-- A load of sixteen elements of the first image buffer. -/
theorem read_Sa (f : Vec F NBuf .f32) {n : ℕ} (hn : n + 16 ≤ 3584) {off : Fin 1 → ℕ} (ho : off = ![n]) (h : ∀ a, off a + S16.size a ≤ S3584.size a) :
    mSa.view.readAt (Elt F) (Rect.unit (s := S3584) off S16.size h).toLoadRect f = ld f n :=
  funext fun x => congrArg f (at_unit hn ho h x)

/-- A load of sixteen elements of the second image buffer. -/
theorem read_Sb (f : Vec F NBuf .f32) {n : ℕ} (hn : n + 16 ≤ 3584) {off : Fin 1 → ℕ} (ho : off = ![n]) (h : ∀ a, off a + S16.size a ≤ S3584.size a) :
    mSb.view.readAt (Elt F) (Rect.unit (s := S3584) off S16.size h).toLoadRect f = ld f n :=
  funext fun x => congrArg f (at_unit hn ho h x)

end Splat.GI
-- ==== Proof.GI.Trip.lean ====
/- One block of a row, out of either pair of buffers: eight masked indexed adds. -/
module

public import proofs.«01_k».proof.Proof.GI.Base

@[expose] public section

noncomputable section

namespace Splat.GI

open Cert.GuardedIdeal Cert.GuardedIdeal.Gen
open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)
open Idealize.ShloMosaic.Tactic

variable {F : FTy → Type} [FloatOps F]

local notation "𝕄" => MT nD τ sig (HIx 1) (Elt F) ℕ UU ℕ

/-- The first column of a block. -/
theorem mul16 : ∀ t : Fin 14, Scalar.muli (Scf.iv 0#32 1#32 t.val) 16#32 = BitVec.ofNat 32 (16 * t.val) := by decide

/-- The image row of a row of an even chunk. -/
theorem rowA : ∀ (t : Fin 14) (r : Fin 8), Scalar.addi (Scalar.muli (Scalar.muli 2#32 (Scf.iv 0#32 1#32 t.val)) 8#32) (Scf.iv 0#32 1#32 r.val)
    = BitVec.ofNat 32 (8 * (2 * t.val) + r.val) := by decide

/-- The image row of a row of an odd chunk. -/
theorem rowB : ∀ (t : Fin 14) (r : Fin 8), Scalar.addi (Scalar.muli (Scalar.addi (Scalar.muli 2#32 (Scf.iv 0#32 1#32 t.val)) 1#32) 8#32) (Scf.iv 0#32 1#32 r.val)
    = BitVec.ofNat 32 (8 * (2 * t.val + 1) + r.val) := by decide

/-- The third of four. -/
theorem at_two {α : Type} (a b c d : α) : ![a, b, c, d] 2 = c := rfl
/-- The last of four. -/
theorem at_three {α : Type} (a b c d : α) : ![a, b, c, d] 3 = d := rfl

/-- The clipped position of the lower left neighbour. -/
theorem nb_two (X Y : FVec F S16 .f32) : nb clipIx X Y 2 = clipIx (plus (cell X Y) 224#32) := at_two _ _ _ _
/-- The clipped position of the lower right neighbour. -/
theorem nb_three (X Y : FVec F S16 .f32) : nb clipIx X Y 3 = clipIx (plus (plus (cell X Y) 224#32) 1#32) :=
  at_three _ _ _ _

/-- A block out of the first pair of buffers adds that block to the accumulator. -/
theorem trip5 (d : Dev nD) (L : grid0.Coords) (t1 : Fin k0_t1_loop.trips) (t3 : Fin k0_t3_loop.trips)
    (t4 : Fin k0_t4_loop.trips) (t5 : Fin k0_t5_loop.trips) (g : Vec F NAcc .f32) (s f : Vec F NBuf .f32)
    (hfit : Fits clipIx (xs f t4.val t5.val) (ys f (2 * t3.val) t4.val t5.val)) :
    iprop(own d L cc0_scratch0 g ∗ own d L cc0_scratch1 s ∗ own d L cc0_scratch3 f)
      ⊢ wp frame (wpE (defs₀ (F := F)) 𝒱₀ (VT d L) none) Set.univ
          (b5 L (k0_pay1 (F := F)) t1 0#32 1#32 t3 t4 (Scf.iv 0#32 1#32 t4) t5 ())
          fun _ => (iprop(own d L cc0_scratch0 (blk clipIx s f (2 * t3.val) t4.val t5.val g) ∗ own d L cc0_scratch1 s ∗ own d L cc0_scratch3 f) : sProp 𝕄) := by
  have h4 : t4.val < 8 := t4.isLt
  have h5 : t5.val < 14 := t5.isLt
  have hX : xs f t4.val t5.val = k0_pay5 (k0_pay1 (F := F)) 0#32 1#32 t5 (ld f (224 * t4.val + 16 * t5.val)) := by
    unfold xs; rw [← mul16 t5]; rfl
  have hY : ys f (2 * t3.val) t4.val t5.val = k0_pay6 (k0_pay97 (F := F) 0#32 1#32 t3 t4) (ld f (224 * t4.val + 16 * t5.val + 1792)) := by
    unfold ys; rw [← rowA t3 t4]; rfl
  rw [hX, hY] at hfit
  have hf₂ := hfit 2
  have hf₃ := hfit 3
  rw [nb_two] at hf₂
  rw [nb_three] at hf₃
  unfold blk splat splat1
  rw [hX, hY, nb_two, nb_three]
  unfold b5 k0_t5_body
  simp only [k0_part1_eq_skeleton, k0_part2_eq_skeleton, k0_part3_eq_skeleton]
  unfold k0_part1_skel k0_part2_skel k0_part3_skel
  simp only [Prog.lift, Prog.bind_op, Prog.bind_ret, Prog.pure_eq_ret, Prog.bind_assoc]
  iintro ⟨Hg, Hs, Hf⟩
  iapply (wp_load 𝒱₀ (VT d L) none Set.univ (m := mFa) (S := Finset.univ) (Finset.subset_univ _)) $$ Hf; iintro Hf
  rw [read_Fa f (n := 224 * t4.val + 16 * t5.val) (by omega) (k0_off6_eq t4 t5)]
  iapply (wp_load 𝒱₀ (VT d L) none Set.univ (m := mFa) (S := Finset.univ) (Finset.subset_univ _)) $$ Hf; iintro Hf
  rw [read_Fa f (n := 224 * t4.val + 16 * t5.val + 1792) (by omega) (k0_off7_eq t4 t5)]
  iapply (wp_load 𝒱₀ (VT d L) none Set.univ (m := mSa) (S := Finset.univ) (Finset.subset_univ _)) $$ Hs; iintro Hs
  rw [read_Sa s (n := 224 * t4.val + 16 * t5.val) (by omega) (k0_off6_eq t4 t5)]
  iapply (wp_load 𝒱₀ (VT d L) none Set.univ (m := mSa) (S := Finset.univ) (Finset.subset_univ _)) $$ Hs; iintro Hs
  rw [read_Sa s (n := 224 * t4.val + 16 * t5.val + 1792) (by omega) (k0_off7_eq t4 t5)]
  iapply (wp_assume 𝒱₀ (VT d L) none Set.univ (hfit 0).1)
  iapply (wp_add d L) $$ Hg; iintro Hg
  iapply (wp_assume 𝒱₀ (VT d L) none Set.univ (hfit 0).2)
  iapply (wp_add d L) $$ Hg; iintro Hg
  iapply (wp_assume 𝒱₀ (VT d L) none Set.univ (hfit 1).1)
  iapply (wp_add d L) $$ Hg; iintro Hg
  iapply (wp_assume 𝒱₀ (VT d L) none Set.univ (hfit 1).2)
  iapply (wp_add d L) $$ Hg; iintro Hg
  iapply (wp_assume 𝒱₀ (VT d L) none Set.univ hf₂.1)
  iapply (wp_add d L) $$ Hg; iintro Hg
  iapply (wp_assume 𝒱₀ (VT d L) none Set.univ hf₂.2)
  iapply (wp_add d L) $$ Hg; iintro Hg
  iapply (wp_assume 𝒱₀ (VT d L) none Set.univ hf₃.1)
  iapply (wp_add d L) $$ Hg; iintro Hg
  iapply (wp_assume 𝒱₀ (VT d L) none Set.univ hf₃.2)
  iapply (wp_add d L) $$ Hg; iintro Hg
  rw [wp_ret]; imodintro
  isplitl [Hg]; · iexact Hg
  isplitl [Hs]; · iexact Hs
  iexact Hf

/-- The number of a pair's second chunk, as the kernel computes it. -/
abbrev odd (t3 : Fin k0_t3_loop.trips) : BitVec 32 := Scalar.addi (Scalar.muli 2#32 (Scf.iv 0#32 1#32 t3)) 1#32

/-- A block out of the second pair of buffers adds that block to the accumulator. -/
theorem trip7 (d : Dev nD) (L : grid0.Coords) (t3 : Fin k0_t3_loop.trips)
    (t6 : Fin k0_t6_loop.trips) (t7 : Fin k0_t7_loop.trips) (g : Vec F NAcc .f32) (s f : Vec F NBuf .f32)
    (hfit : Fits clipIx (xs f t6.val t7.val) (ys f (2 * t3.val + 1) t6.val t7.val)) :
    iprop(own d L cc0_scratch0 g ∗ own d L cc0_scratch2 s ∗ own d L cc0_scratch4 f)
      ⊢ wp frame (wpE (defs₀ (F := F)) 𝒱₀ (VT d L) none) Set.univ
          (b7 L (odd t3) t6 (Scf.iv 0#32 1#32 t6) t7 ())
          fun _ => (iprop(own d L cc0_scratch0 (blk clipIx s f (2 * t3.val + 1) t6.val t7.val g) ∗ own d L cc0_scratch2 s ∗ own d L cc0_scratch4 f) : sProp 𝕄) := by
  have h4 : t6.val < 8 := t6.isLt
  have h5 : t7.val < 14 := t7.isLt
  have hX : xs f t6.val t7.val = k0_pay51 (k0_pay1 (F := F)) 0#32 1#32 t7 (ld f (224 * t6.val + 16 * t7.val)) := by
    unfold xs; rw [← mul16 t7]; rfl
  have hY : ys f (2 * t3.val + 1) t6.val t7.val = k0_pay52 (k0_pay3 (F := F) (odd t3) t6) (ld f (224 * t6.val + 16 * t7.val + 1792)) := by
    unfold ys; rw [← rowB t3 t6]; rfl
  rw [hX, hY] at hfit
  have hf₂ := hfit 2
  have hf₃ := hfit 3
  rw [nb_two] at hf₂
  rw [nb_three] at hf₃
  unfold blk splat splat1
  rw [hX, hY, nb_two, nb_three]
  unfold b7 k0_t7_body
  simp only [k0_part4_eq_skeleton, k0_part5_eq_skeleton, k0_part6_eq_skeleton]
  unfold k0_part4_skel k0_part5_skel k0_part6_skel
  simp only [Prog.lift, Prog.bind_op, Prog.bind_ret, Prog.pure_eq_ret, Prog.bind_assoc]
  iintro ⟨Hg, Hs, Hf⟩
  iapply (wp_load 𝒱₀ (VT d L) none Set.univ (m := mFb) (S := Finset.univ) (Finset.subset_univ _)) $$ Hf; iintro Hf
  rw [read_Fb f (n := 224 * t6.val + 16 * t7.val) (by omega) (k0_off10_eq t6 t7)]
  iapply (wp_load 𝒱₀ (VT d L) none Set.univ (m := mFb) (S := Finset.univ) (Finset.subset_univ _)) $$ Hf; iintro Hf
  rw [read_Fb f (n := 224 * t6.val + 16 * t7.val + 1792) (by omega) (k0_off11_eq t6 t7)]
  iapply (wp_load 𝒱₀ (VT d L) none Set.univ (m := mSb) (S := Finset.univ) (Finset.subset_univ _)) $$ Hs; iintro Hs
  rw [read_Sb s (n := 224 * t6.val + 16 * t7.val) (by omega) (k0_off10_eq t6 t7)]
  iapply (wp_load 𝒱₀ (VT d L) none Set.univ (m := mSb) (S := Finset.univ) (Finset.subset_univ _)) $$ Hs; iintro Hs
  rw [read_Sb s (n := 224 * t6.val + 16 * t7.val + 1792) (by omega) (k0_off11_eq t6 t7)]
  iapply (wp_assume 𝒱₀ (VT d L) none Set.univ (hfit 0).1)
  iapply (wp_add d L) $$ Hg; iintro Hg
  iapply (wp_assume 𝒱₀ (VT d L) none Set.univ (hfit 0).2)
  iapply (wp_add d L) $$ Hg; iintro Hg
  iapply (wp_assume 𝒱₀ (VT d L) none Set.univ (hfit 1).1)
  iapply (wp_add d L) $$ Hg; iintro Hg
  iapply (wp_assume 𝒱₀ (VT d L) none Set.univ (hfit 1).2)
  iapply (wp_add d L) $$ Hg; iintro Hg
  iapply (wp_assume 𝒱₀ (VT d L) none Set.univ hf₂.1)
  iapply (wp_add d L) $$ Hg; iintro Hg
  iapply (wp_assume 𝒱₀ (VT d L) none Set.univ hf₂.2)
  iapply (wp_add d L) $$ Hg; iintro Hg
  iapply (wp_assume 𝒱₀ (VT d L) none Set.univ hf₃.1)
  iapply (wp_add d L) $$ Hg; iintro Hg
  iapply (wp_assume 𝒱₀ (VT d L) none Set.univ hf₃.2)
  iapply (wp_add d L) $$ Hg; iintro Hg
  rw [wp_ret]; imodintro
  isplitl [Hg]; · iexact Hg
  isplitl [Hs]; · iexact Hs
  iexact Hf

/-- One row out of the first pair of buffers. -/
abbrev b4 (L : grid0.Coords) (t1 : Fin k0_t1_loop.trips) (t3 : Fin k0_t3_loop.trips) :=
  k0_t4_body (F := F) L mI (Memref.isWhole_whole _) mF (Memref.isWhole_whole _) mO (Memref.isWhole_whole _)
    mA (Memref.isWhole_whole _) mSa (Memref.isWhole_whole _) mSb (Memref.isWhole_whole _) mFa (Memref.isWhole_whole _)
    mFb (Memref.isWhole_whole _) cc0_scratch5 cc0_scratch6 cc0_scratch7 cc0_scratch8 cc0_scoped0 (k0_pay1 (F := F)) t1 0#32 1#32 t3

/-- One row out of the second pair of buffers. -/
abbrev b6 (L : grid0.Coords) (v57 : BitVec 32) :=
  k0_t6_body (F := F) L mI (Memref.isWhole_whole _) mF (Memref.isWhole_whole _) mO (Memref.isWhole_whole _)
    mA (Memref.isWhole_whole _) mSa (Memref.isWhole_whole _) mSb (Memref.isWhole_whole _) mFa (Memref.isWhole_whole _)
    mFb (Memref.isWhole_whole _) cc0_scratch5 cc0_scratch6 cc0_scratch7 cc0_scratch8 cc0_scoped0 v57

/-- A row out of the first pair of buffers adds its fourteen blocks. -/
theorem row4 (d : Dev nD) (L : grid0.Coords) (t1 : Fin k0_t1_loop.trips) (t3 : Fin k0_t3_loop.trips)
    (t4 : Fin k0_t4_loop.trips) (g : Vec F NAcc .f32) (s f : Vec F NBuf .f32)
    (hfit : ∀ b < 14, Fits clipIx (xs f t4.val b) (ys f (2 * t3.val) t4.val b)) :
    iprop(own d L cc0_scratch0 g ∗ own d L cc0_scratch1 s ∗ own d L cc0_scratch3 f)
      ⊢ wp frame (wpE (defs₀ (F := F)) 𝒱₀ (VT d L) none) Set.univ (b4 L t1 t3 t4 ())
          fun _ => (iprop(own d L cc0_scratch0 (row clipIx s f (2 * t3.val) t4.val g 14) ∗ own d L cc0_scratch1 s ∗ own d L cc0_scratch3 f) : sProp 𝕄) := by
  unfold b4 k0_t4_body
  dsimp only
  iintro ⟨Hg, Hs, Hf⟩
  sl_for (fun k _ => (iprop(own d L cc0_scratch0 (row clipIx s f (2 * t3.val) t4.val g k) ∗ own d L cc0_scratch1 s ∗ own d L cc0_scratch3 f) : sProp 𝕄)) $$ [Hg Hs Hf]
  case region =>
    intro k _
    exact trip5 d L t1 t3 t4 k (row clipIx s f (2 * t3.val) t4.val g k.val) s f (hfit _ k.isLt)
  · isplitl [Hg]; · iexact Hg
    isplitl [Hs]; · iexact Hs
    iexact Hf
  iintro %_ HI
  icases HI with ⟨Hg, Hs, Hf⟩
  sl_step
  isplitl [Hg]; · iexact Hg
  isplitl [Hs]; · iexact Hs
  iexact Hf

/-- A row out of the second pair of buffers adds its fourteen blocks. -/
theorem row6 (d : Dev nD) (L : grid0.Coords) (t3 : Fin k0_t3_loop.trips)
    (t6 : Fin k0_t6_loop.trips) (g : Vec F NAcc .f32) (s f : Vec F NBuf .f32)
    (hfit : ∀ b < 14, Fits clipIx (xs f t6.val b) (ys f (2 * t3.val + 1) t6.val b)) :
    iprop(own d L cc0_scratch0 g ∗ own d L cc0_scratch2 s ∗ own d L cc0_scratch4 f)
      ⊢ wp frame (wpE (defs₀ (F := F)) 𝒱₀ (VT d L) none) Set.univ (b6 L (odd t3) t6 ())
          fun _ => (iprop(own d L cc0_scratch0 (row clipIx s f (2 * t3.val + 1) t6.val g 14) ∗ own d L cc0_scratch2 s ∗ own d L cc0_scratch4 f) : sProp 𝕄) := by
  unfold b6 k0_t6_body
  dsimp only
  iintro ⟨Hg, Hs, Hf⟩
  sl_for (fun k _ => (iprop(own d L cc0_scratch0 (row clipIx s f (2 * t3.val + 1) t6.val g k) ∗ own d L cc0_scratch2 s ∗ own d L cc0_scratch4 f) : sProp 𝕄)) $$ [Hg Hs Hf]
  case region =>
    intro k _
    exact trip7 d L t3 t6 k (row clipIx s f (2 * t3.val + 1) t6.val g k.val) s f (hfit _ k.isLt)
  · isplitl [Hg]; · iexact Hg
    isplitl [Hs]; · iexact Hs
    iexact Hf
  iintro %_ HI
  icases HI with ⟨Hg, Hs, Hf⟩
  sl_step
  isplitl [Hg]; · iexact Hg
  isplitl [Hs]; · iexact Hs
  iexact Hf

end Splat.GI
-- ==== Proof.GI.Copies.lean ====
/- The copies of the kernel: where their slices lie, what they read and write, and how one is
started and waited for. -/
module

public import proofs.«01_k».proof.Proof.GI.Trip
public import Idealize.ShloMosaic.Lib.Transfers
public import Idealize.ShloMosaic.Lib.Pointwise.Reshape

@[expose] public section

noncomputable section

namespace Splat.GI

open Cert.GuardedIdeal Cert.GuardedIdeal.Gen
open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)
open Idealize.ShloMosaic.Tactic

variable {F : FTy → Type} [FloatOps F]

local notation "𝕄" => MT nD τ sig (HIx 1) (Elt F) ℕ UU ℕ

/-- The transfers' counters. -/
abbrev EC : UEmb Counters 𝕄 := countersEmb

/-- A task's number. -/
abbrev tn (L : grid0.Coords) (t1 : Fin k0_t1_loop.trips) : ℕ := ((L 1).val * 2 + (L 0).val) * 6 + t1.val
/-- A task's batch. -/
abbrev tb (L : grid0.Coords) (t1 : Fin k0_t1_loop.trips) : ℕ := tn L t1 / 48
/-- A task's channel pair. -/
abbrev tp (L : grid0.Coords) (t1 : Fin k0_t1_loop.trips) : ℕ := tn L t1 % 48

theorem off1_eq : ∀ (L : grid0.Coords) (t1 : Fin k0_t1_loop.trips), k0_off1 L t1 = ![tb L t1, tp L t1, 0, 0] := by decide +kernel
theorem off2_eq : ∀ (L : grid0.Coords) (t1 : Fin k0_t1_loop.trips), k0_off2 L t1 = ![tb L t1, 0, 0] := by decide +kernel
theorem off12_eq : ∀ (L : grid0.Coords) (t1 : Fin k0_t1_loop.trips), k0_off12 L t1 = ![tb L t1, 100352 * tp L t1] := by decide +kernel

/-- The number of a pair's second chunk. -/
theorem odd_toNat : ∀ t : Fin 14, (odd t).toNat = 2 * t.val + 1 := by decide
/-- The number of the next pair's first chunk, wrapping around. -/
theorem next_toNat : ∀ t : Fin 14, (Scalar.remsi (Scalar.addi (Scalar.muli 2#32 (Scf.iv 0#32 1#32 t.val)) 2#32) 28#32).toNat = (2 * t.val + 2) % 28 := by decide

theorem off4_eq (L : grid0.Coords) (t1 : Fin k0_t1_loop.trips) (t3 : Fin k0_t3_loop.trips) :
    k0_off4 L t1 t3 = ![tb L t1, tp L t1, 2 * t3.val + 1, 0] := by
  have h : k0_off4 L t1 t3 = ![k0_off1 L t1 0, k0_off1 L t1 1, (odd t3).toNat, 0] := rfl
  rw [h, off1_eq, show (odd t3).toNat = 2 * t3.val + 1 from odd_toNat t3]; rfl
theorem off5_eq (L : grid0.Coords) (t1 : Fin k0_t1_loop.trips) (t3 : Fin k0_t3_loop.trips) :
    k0_off5 L t1 t3 = ![tb L t1, 2 * t3.val + 1, 0] := by
  have h : k0_off5 L t1 t3 = ![k0_off2 L t1 0, (odd t3).toNat, 0] := rfl
  rw [h, off2_eq, show (odd t3).toNat = 2 * t3.val + 1 from odd_toNat t3]; rfl
theorem off8_eq (L : grid0.Coords) (t1 : Fin k0_t1_loop.trips) (t3 : Fin k0_t3_loop.trips) :
    k0_off8 L t1 t3 = ![tb L t1, tp L t1, (2 * t3.val + 2) % 28, 0] := by
  have h : k0_off8 L t1 t3 = ![k0_off1 L t1 0, k0_off1 L t1 1,
    (Scalar.remsi (Scalar.addi (Scalar.muli 2#32 (Scf.iv 0#32 1#32 t3.val)) 2#32) 28#32).toNat, 0] := rfl
  rw [h, off1_eq, show (Scalar.remsi (Scalar.addi (Scalar.muli 2#32 (Scf.iv 0#32 1#32 t3.val)) 2#32) 28#32).toNat = (2 * t3.val + 2) % 28 from next_toNat t3]; rfl
theorem off9_eq (L : grid0.Coords) (t1 : Fin k0_t1_loop.trips) (t3 : Fin k0_t3_loop.trips) :
    k0_off9 L t1 t3 = ![tb L t1, (2 * t3.val + 2) % 28, 0] := by
  have h : k0_off9 L t1 t3 = ![k0_off2 L t1 0,
    (Scalar.remsi (Scalar.addi (Scalar.muli 2#32 (Scf.iv 0#32 1#32 t3.val)) 2#32) 28#32).toNat, 0] := rfl
  rw [h, off2_eq, show (Scalar.remsi (Scalar.addi (Scalar.muli 2#32 (Scf.iv 0#32 1#32 t3.val)) 2#32) 28#32).toNat = (2 * t3.val + 2) % 28 from next_toNat t3]; rfl

/-- What a slice of the packed images reads: one chunk of one channel pair. -/
theorem read_im (f : Vec F NSrc .f32) {b p c : ℕ} {off : Fin 4 → ℕ} (ho : off = ![b, p, c, 0])
    (h : ∀ a, off a + S1x1x1x3584.size a ≤ S4x48x28x3584.size a) (hr) (hq : S1x1x1x3584.Squeezes S3584) :
    ((mI.slice (Rect.unit (s := S4x48x28x3584) off S1x1x1x3584.size h) hr).squeeze S3584 hq).view.read (Elt F) f = srcOf f b p c := by
  subst ho
  have h0 : b + 1 ≤ 4 := h 0
  have h1 : p + 1 ≤ 48 := h 1
  have h2 : c + 1 ≤ 28 := h 2
  funext j
  have hj : (j 0).val < 3584 := (j 0).isLt
  show f ((Rect.unit (s := S4x48x28x3584) ![b, p, c, 0] S1x1x1x3584.size h).emb (Shape.reshapeEquiv hq.numel_eq j)) = f _
  rw [Shape.reshapeEquiv_eq_of_vals hq.numel_eq j (fun a => ⟨![0, 0, 0, (j 0).val] a, by fin_cases a <;> simp; exact hj⟩ : S1x1x1x3584.Idx) (j 0).val (j 0).val
    (by rw [rowMajor_val4 _ 3584 3584 3584 rfl rfl rfl]; simp) (by rw [rowMajor_val1]) rfl]
  congr 1
  funext a
  apply Fin.ext
  rw [Rect.emb_apply]
  match a with
  | 0 => show b + 1 * 0 = b % 4; rw [Nat.mod_eq_of_lt (by omega)]; omega
  | 1 => show p + 1 * 0 = p % 48; rw [Nat.mod_eq_of_lt (by omega)]; omega
  | 2 => show c + 1 * 0 = c % 28; rw [Nat.mod_eq_of_lt (by omega)]; omega
  | 3 => show 0 + 1 * (j 0).val = (j 0).val % 3584; rw [Nat.mod_eq_of_lt hj]; omega

/-- What a slice of the packed flow reads: one chunk of one batch. -/
theorem read_fl (f : Vec F NFl .f32) {b c : ℕ} {off : Fin 3 → ℕ} (ho : off = ![b, c, 0])
    (h : ∀ a, off a + S1x1x3584.size a ≤ S4x28x3584.size a) (hr) (hq : S1x1x3584.Squeezes S3584) :
    ((mF.slice (Rect.unit (s := S4x28x3584) off S1x1x3584.size h) hr).squeeze S3584 hq).view.read (Elt F) f = flOf f b c := by
  subst ho
  have h0 : b + 1 ≤ 4 := h 0
  have h1 : c + 1 ≤ 28 := h 1
  funext j
  have hj : (j 0).val < 3584 := (j 0).isLt
  show f ((Rect.unit (s := S4x28x3584) ![b, c, 0] S1x1x3584.size h).emb (Shape.reshapeEquiv hq.numel_eq j)) = f _
  rw [Shape.reshapeEquiv_eq_of_vals hq.numel_eq j (fun a => ⟨![0, 0, (j 0).val] a, by fin_cases a <;> simp; exact hj⟩ : S1x1x3584.Idx) (j 0).val (j 0).val
    (by rw [rowMajor_val3 _ 3584 3584 rfl rfl]; simp) (by rw [rowMajor_val1]) rfl]
  congr 1
  funext a
  apply Fin.ext
  rw [Rect.emb_apply]
  match a with
  | 0 => show b + 1 * 0 = b % 4; rw [Nat.mod_eq_of_lt (by omega)]; omega
  | 1 => show c + 1 * 0 = c % 28; rw [Nat.mod_eq_of_lt (by omega)]; omega
  | 2 => show 0 + 1 * (j 0).val = (j 0).val % 3584; rw [Nat.mod_eq_of_lt hj]; omega

/-- What is held beside a flight comes back with its delivery. -/
theorem flight_frame (c : Thread nD τ) (sm : SemLoc sig) (ι : HIx 1) (N : ℕ) (D P : sProp 𝕄) :
    iprop(P ∗ Transfers.Flight (EC (F := F)) c sm ι N D) ⊢ Transfers.Flight (EC (F := F)) c sm ι N iprop(P ∗ D) := by
  unfold Transfers.Flight
  iintro ⟨HP, ⟨%R, HR, %hcap, %hpeek⟩, Hcred⟩
  isplitl [HP HR]
  · iexists iprop(P ∗ R)
    isplitl [HP HR]
    · isplitl [HP] <;> iassumption
    isplit
    · ipureintro
      intro K
      refine BIBase.Entails.trans ?_ (hcap K)
      iintro ⟨⟨HP, HR⟩, HK⟩
      isplitl [HR]; · iexact HR
      iintro ⟨Hv, HD⟩
      iapply HK
      isplitl [Hv]; · iexact Hv
      isplitl [HP] <;> iassumption
    · ipureintro
      intro K
      refine BIBase.Entails.trans ?_ (hpeek K)
      iintro ⟨⟨HP, HR⟩, HK⟩
      isplitl [HR]; · iexact HR
      iintro HR
      iapply HK
      isplitl [HP] <;> iassumption
  · iexact Hcred

/-- A local copy started: the source share, held over its whole buffer, and the destination's
elements go into the flight, which delivers the destination rewritten and the share back. -/
theorem wp_copy (d : Dev nD) (L : grid0.Coords) {α : Type} {Q : α → sProp 𝕄} {sp sp' : Space} {s : Shape}
    {src : Memref sig (VT d L).2.kind sp s .f32} {dst : Memref sig (VT d L).2.kind sp' s .f32} {sem : DmaSem sig}
    {hsrc : src.view.WordExact} {hdst : dst.view.WordExact} {hsem : DmaTarget.Typed (nD := nD) sp (.dma sem) (.here dst)}
    {k : PUnit → Prog (TpuEff nD τ sig (Elt F) Λ₀ (VT d L).2) α} {q : PosShare TreeShare} {fs : Buf (Elt F) (src.view.loc (VT d L))}
    {Sd : Finset (Idx (dst.view.loc (VT d L)))} {fd : Buf (Elt F) (dst.view.loc (VT d L))} {w : Vec F s .f32}
    (N : ℕ) (hN : dst.view.amount (.dma sem) = N) (hN0 : 0 < N) (hSd : dst.view.set ⊆ Sd) (hw : src.view.read (Elt F) fs = w) :
    iprop((src.view.loc (VT d L) ↦{q} fs) ∗ (dst.view.loc (VT d L) ↦[Sd]{fullShare} fd) ∗ semVal (VT d L, .dma sem) 0)
      ⊢ iprop((Transfers.Flight (EC (F := F)) (VT d L) (.dma sem) none N
                  iprop((src.view.loc (VT d L) ↦{q} fs) ∗ (dst.view.loc (VT d L) ↦[Sd]{fullShare} (dst.view.write (Elt F) fd w Finset.univ)))
              -∗ wp frame (wpE (defs₀ (F := F)) 𝒱₀ (VT d L) none) Set.univ (k ⟨⟩) Q)
          -∗ wp frame (wpE (defs₀ (F := F)) 𝒱₀ (VT d L) none) Set.univ (.op (.enqueueDma src (.here dst) (.dma sem) hsrc hdst hsem) k) Q) := by
  have hs := pointsTo_split_subset (Name := ℕ) (U := UU) (Lvl := ℕ) (Ix := HIx 1) (q := q) (f := fs) (Finset.subset_univ src.view.set)
  iintro ⟨Hs, Hd, Hv⟩ Hk
  ihave Hs2 := hs.1 $$ Hs
  icases Hs2 with ⟨Hs1, Hs2⟩
  iapply (Transfers.wp_dmaLocal (EC (F := F)) 𝒱₀ (VT d L) none none N hN hN0 hSd) $$ [Hs1 Hd Hv]
  · isplitl [Hs1]; · iexact Hs1
    isplitl [Hd] <;> iassumption
  iintro Hf
  iapply Hk
  ihave Hf := (flight_frame _ _ _ _ _ _) $$ [Hs2 Hf]
  · isplitl [Hs2]; · iexact Hs2
    iexact Hf
  iapply (Transfers.Flight_mono (EC (F := F)) _ _) $$ Hf
  iintro ⟨Hs2, Hd, Hs1⟩
  isplitl [Hs1 Hs2]
  · iapply hs.2
    isplitl [Hs1] <;> iassumption
  · subst hw
    iexact Hd

end Splat.GI
-- ==== Proof.GI.Pair.lean ====
/- The pair loop of a task: two chunks a trip, the first pair of buffers filled while the second is
read and the other way round. -/
module

public import proofs.«01_k».proof.Proof.GI.Copies

@[expose] public section

noncomputable section

namespace Splat.GI

open Cert.GuardedIdeal Cert.GuardedIdeal.Gen
open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)
open Idealize.ShloMosaic.Tactic

variable {F : FTy → Type} [FloatOps F]

local notation "𝕄" => MT nD τ sig (HIx 1) (Elt F) ℕ UU ℕ

/-- The elements of a chunk buffer's copy, as its semaphore counts them. -/
abbrev NB : ℕ := mSa.view.amount (.dma cc0_scratch5.sem)
theorem NB_pos : 0 < NB := by decide

theorem write_Sa (g : Vec F NBuf .f32) (w : Vec F NBuf .f32) : mSa.view.write (Elt F) g w Finset.univ = w := View.write_whole_univ ..
theorem write_Sb (g : Vec F NBuf .f32) (w : Vec F NBuf .f32) : mSb.view.write (Elt F) g w Finset.univ = w := View.write_whole_univ ..
theorem write_Fa (g : Vec F NBuf .f32) (w : Vec F NBuf .f32) : mFa.view.write (Elt F) g w Finset.univ = w := View.write_whole_univ ..
theorem write_Fb (g : Vec F NBuf .f32) (w : Vec F NBuf .f32) : mFb.view.write (Elt F) g w Finset.univ = w := View.write_whole_univ ..

/-- A share of the packed images. -/
abbrev imP (d : Dev nD) (L : grid0.Coords) (q : PosShare TreeShare) (f : Vec F NSrc .f32) : sProp 𝕄 := mI.view.loc (VT d L) ↦{q} f
/-- A share of the packed flow. -/
abbrev flP (d : Dev nD) (L : grid0.Coords) (q : PosShare TreeShare) (f : Vec F NFl .f32) : sProp 𝕄 := mF.view.loc (VT d L) ↦{q} f

/-- A copy on its way that brings a buffer the contents `w` and gives `P` back. -/
abbrev coming (d : Dev nD) (L : grid0.Coords) (sem : DmaSem sig) (P D : sProp 𝕄) : sProp 𝕄 :=
  Transfers.Flight (EC (F := F)) (VT d L) (.dma sem) none NB iprop(P ∗ D)

/-- What the thread owes, its recorded waits grown only by waits on its own copies. -/
def owing (d : Dev nD) (L : grid0.Coords) (O : CellTallies nD τ sig (HIx 1)) (W : Waits sig (HIx 1)) : sProp 𝕄 :=
  iprop(∃ W', ⌜∀ p ∈ W', p ∈ W ∨ p.2 = none⌝ ∗ owes (VT d L) O W')

/-- A wait for a copy on its way. -/
theorem wp_await (d : Dev nD) (L : grid0.Coords) {α : Type} {Q : α → sProp 𝕄} {sp sp' : Space} {s s' : Shape} {e' : EltTy}
    {srcw : Memref sig (VT d L).2.kind sp' s' e'} {dstw : Memref sig (VT d L).2.kind sp s .f32} {sem : DmaSem sig}
    {hsrc : srcw.view.WordExact} {hdst : dstw.view.WordExact}
    {k : PUnit → Prog (TpuEff nD τ sig (Elt F) Λ₀ (VT d L).2) α} {N : ℕ} (hN : dstw.view.dmaCredit = N) {D : sProp 𝕄}
    {O : CellTallies nD τ sig (HIx 1)} {W : Waits sig (HIx 1)} (hO : ∀ g, O g none = 0) :
    iprop(levAts (K (F := F)).L (K (F := F)).lev ∗ Transfers.Flight (EC (F := F)) (VT d L) (.dma sem) none N D ∗ owing d L O W)
      ⊢ iprop((iprop(D ∗ semVal (VT d L, .dma sem) 0 ∗ owing d L O W) -∗ wp frame (wpE (defs₀ (F := F)) 𝒱₀ (VT d L) none) Set.univ (k ⟨⟩) Q)
          -∗ wp frame (wpE (defs₀ (F := F)) 𝒱₀ (VT d L) none) Set.univ (.op (.waitDma2 sem srcw dstw hsrc hdst) k) Q) := by
  unfold owing
  iintro ⟨Hlv, Hf, %W', %hW, HO⟩ Hk
  iapply (Transfers.wp_waitLocalO (EC (F := F)) 𝒱₀ (VT d L) none none hN (O := O) (W := W')) $$ [Hlv Hf HO]
  · isplitl [Hf]; · iexact Hf
    isplitl [HO]; · iexact HO
    iapply ((K (F := F)).mayWaits_none (thr := VT d L) hO).trans (Transfers.MayWaits.elim _)
    iexact Hlv
  iintro ⟨HD, Hv, HO⟩
  iapply Hk
  isplitl [HD]; · iexact HD
  isplitl [Hv]; · iexact Hv
  iexists (insert (SemLoc.dma sem, (none : HIx 1)) W')
  isplitr
  · ipureintro
    intro p hp
    rcases Finset.mem_insert.1 hp with he | hp
    · exact Or.inr (congrArg Prod.snd he)
    · exact hW p hp
  · iexact HO

/-- One trip of the pair loop. -/
abbrev b3 (L : grid0.Coords) (t1 : Fin k0_t1_loop.trips) :=
  k0_t3_body (F := F) L mI (Memref.isWhole_whole _) mF (Memref.isWhole_whole _) mO (Memref.isWhole_whole _)
    mA (Memref.isWhole_whole _) mSa (Memref.isWhole_whole _) mSb (Memref.isWhole_whole _) mFa (Memref.isWhole_whole _)
    mFb (Memref.isWhole_whole _) cc0_scratch5 cc0_scratch6 cc0_scratch7 cc0_scratch8 cc0_scoped0 t1

/-- Before trip `k` of the pair loop: `2 k` chunks added, chunk `2 k` on its way into the first pair
of buffers, the second pair free. -/
def pairInv (d : Dev nD) (L : grid0.Coords) (t1 : Fin k0_t1_loop.trips) (q r : PosShare TreeShare) (f2 : Vec F NSrc .f32) (f5 : Vec F NFl .f32)
    (O : CellTallies nD τ sig (HIx 1)) (W : Waits sig (HIx 1)) (k : ℕ) : sProp 𝕄 :=
  iprop(levAts (K (F := F)).L (K (F := F)).lev
    ∗ own d L cc0_scratch0 (task clipIx (srcOf f2 (tb L t1) (tp L t1)) (flOf f5 (tb L t1)) (2 * k))
    ∗ coming d L cc0_scratch5.sem (imP d L q.left f2) (own d L cc0_scratch1 (srcOf f2 (tb L t1) (tp L t1) (2 * k % 28)))
    ∗ coming d L cc0_scratch6.sem (flP d L r.left f5) (own d L cc0_scratch3 (flOf f5 (tb L t1) (2 * k % 28)))
    ∗ imP d L q.right f2 ∗ flP d L r.right f5
    ∗ (∃ s, own d L cc0_scratch2 s) ∗ (∃ s, own d L cc0_scratch4 s)
    ∗ semVal (VT d L, .dma cc0_scratch7.sem) 0 ∗ semVal (VT d L, .dma cc0_scratch8.sem) 0
    ∗ owing d L O W)

set_option maxHeartbeats 4000000 in
set_option maxRecDepth 65536 in
/-- A trip of the pair loop adds two chunks. -/
theorem pair (d : Dev nD) (L : grid0.Coords) (t1 : Fin k0_t1_loop.trips) (q r : PosShare TreeShare) (f2 : Vec F NSrc .f32) (f5 : Vec F NFl .f32)
    (hfit : FitsAll clipIx (flOf f5 (tb L t1)))
    (O : CellTallies nD τ sig (HIx 1)) (W : Waits sig (HIx 1)) (hO : ∀ g, O g none = 0) (t3 : Fin k0_t3_loop.trips) :
    pairInv d L t1 q r f2 f5 O W t3.val
      ⊢ wp frame (wpE (defs₀ (F := F)) 𝒱₀ (VT d L) none) Set.univ (b3 L t1 t3 ()) fun _ => pairInv d L t1 q r f2 f5 O W (t3.val + 1) := by
  have h3 : t3.val < 14 := t3.isLt
  have hm : 2 * t3.val % 28 = 2 * t3.val := Nat.mod_eq_of_lt (by omega)
  unfold b3 k0_t3_body
  simp only [k0_part7_eq_skeleton]
  unfold k0_part7_skel
  simp only [Prog.lift, Prog.bind_op, Prog.bind_ret, Prog.pure_eq_ret, Prog.bind_assoc]
  unfold pairInv
  rw [hm]
  iintro ⟨#Hlv, Hg, Hsa, Hfa, Hi, Hl, ⟨%sb, Hsb⟩, ⟨%fb, Hfb⟩, Hvb, Hwb, HO⟩
  iapply (wp_await d L (dstw := mSa) (N := NB) rfl hO) $$ [Hsa HO]
  · isplitr; · iexact Hlv
    isplitl [Hsa]; · iexact Hsa
    iexact HO
  iintro ⟨⟨Hia, Hsa⟩, Hva, HO⟩
  iapply (wp_await d L (dstw := mFa) (N := NB) rfl hO) $$ [Hfa HO]
  · isplitr; · iexact Hlv
    isplitl [Hfa]; · iexact Hfa
    iexact HO
  iintro ⟨⟨Hla, Hfa⟩, Hwa, HO⟩
  iapply (wp_copy d L (dst := mSb) (Sd := Finset.univ) (fs := f2) NB rfl NB_pos (Finset.subset_univ _) (read_im f2 (off4_eq L t1 t3) _ _ _)) $$ [Hi Hsb Hvb]
  · isplitl [Hi]; · iexact Hi
    isplitl [Hsb]; · iexact Hsb
    iexact Hvb
  iintro Hsb
  rw [write_Sb]
  iapply (wp_copy d L (dst := mFb) (Sd := Finset.univ) (fs := f5) NB rfl NB_pos (Finset.subset_univ _) (read_fl f5 (off5_eq L t1 t3) _ _ _)) $$ [Hl Hfb Hwb]
  · isplitl [Hl]; · iexact Hl
    isplitl [Hfb]; · iexact Hfb
    iexact Hwb
  iintro Hfb
  rw [write_Fb]
  dsimp only
  sl_for (fun k _ => (iprop(own d L cc0_scratch0 (chunk clipIx (srcOf f2 (tb L t1) (tp L t1) (2 * t3.val)) (flOf f5 (tb L t1) (2 * t3.val)) (2 * t3.val)
      (task clipIx (srcOf f2 (tb L t1) (tp L t1)) (flOf f5 (tb L t1)) (2 * t3.val)) k)
      ∗ own d L cc0_scratch1 (srcOf f2 (tb L t1) (tp L t1) (2 * t3.val)) ∗ own d L cc0_scratch3 (flOf f5 (tb L t1) (2 * t3.val))) : sProp 𝕄)) $$ [Hg Hsa Hfa]
  case region =>
    intro k _
    exact row4 d L t1 t3 k _ _ _ (hfit _ (by omega) k.val k.isLt)
  · isplitl [Hg]; · iexact Hg
    isplitl [Hsa]; · iexact Hsa
    iexact Hfa
  iintro %_ HI
  icases HI with ⟨Hg, Hsa, Hfa⟩
  iapply (wp_copy d L (dst := mSa) (Sd := Finset.univ) (fs := f2) NB rfl NB_pos (Finset.subset_univ _) (read_im f2 (off8_eq L t1 t3) _ _ _)) $$ [Hia Hsa Hva]
  · isplitl [Hia]; · iexact Hia
    isplitl [Hsa]; · iexact Hsa
    iexact Hva
  iintro Hsa
  rw [write_Sa]
  iapply (wp_copy d L (dst := mFa) (Sd := Finset.univ) (fs := f5) NB rfl NB_pos (Finset.subset_univ _) (read_fl f5 (off9_eq L t1 t3) _ _ _)) $$ [Hla Hfa Hwa]
  · isplitl [Hla]; · iexact Hla
    isplitl [Hfa]; · iexact Hfa
    iexact Hwa
  iintro Hfa
  rw [write_Fa]
  iapply (wp_await d L (dstw := mSb) (N := NB) rfl hO) $$ [Hsb HO]
  · isplitr; · iexact Hlv
    isplitl [Hsb]; · iexact Hsb
    iexact HO
  iintro ⟨⟨Hi, Hsb⟩, Hvb, HO⟩
  iapply (wp_await d L (dstw := mFb) (N := NB) rfl hO) $$ [Hfb HO]
  · isplitr; · iexact Hlv
    isplitl [Hfb]; · iexact Hfb
    iexact HO
  iintro ⟨⟨Hl, Hfb⟩, Hwb, HO⟩
  dsimp only
  sl_for (fun k _ => (iprop(own d L cc0_scratch0 (chunk clipIx (srcOf f2 (tb L t1) (tp L t1) (2 * t3.val + 1)) (flOf f5 (tb L t1) (2 * t3.val + 1)) (2 * t3.val + 1)
      (task clipIx (srcOf f2 (tb L t1) (tp L t1)) (flOf f5 (tb L t1)) (2 * t3.val + 1)) k)
      ∗ own d L cc0_scratch2 (srcOf f2 (tb L t1) (tp L t1) (2 * t3.val + 1)) ∗ own d L cc0_scratch4 (flOf f5 (tb L t1) (2 * t3.val + 1))) : sProp 𝕄)) $$ [Hg Hsb Hfb]
  case region =>
    intro k _
    exact row6 d L t3 k _ _ _ (hfit _ (by omega) k.val k.isLt)
  · isplitl [Hg]; · iexact Hg
    isplitl [Hsb]; · iexact Hsb
    iexact Hfb
  iintro %_ HI
  icases HI with ⟨Hg, Hsb, Hfb⟩
  sl_step
  isplitr; · iexact Hlv
  isplitl [Hg]; · iexact Hg
  isplitl [Hsa]; · iexact Hsa
  isplitl [Hfa]; · iexact Hfa
  isplitl [Hi]; · iexact Hi
  isplitl [Hl]; · iexact Hl
  isplitl [Hsb]; · iexists _; iexact Hsb
  isplitl [Hfb]; · iexists _; iexact Hfb
  isplitl [Hvb]; · iexact Hvb
  isplitl [Hwb]; · iexact Hwb
  iexact HO

end Splat.GI
-- ==== Proof.GI.Task.lean ====
/- One task of a tile: the accumulator zeroed, twenty-eight chunks added, the result copied to the
task's block of the output. -/
module

public import proofs.«01_k».proof.Proof.GI.Pair

@[expose] public section

noncomputable section

namespace Splat.GI

open Cert.GuardedIdeal Cert.GuardedIdeal.Gen
open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)
open Idealize.ShloMosaic.Tactic

variable {F : FTy → Type} [FloatOps F]

local notation "𝕄" => MT nD τ sig (HIx 1) (Elt F) ℕ UU ℕ

/-- One trip of the zeroing loop. -/
abbrev b2 (L : grid0.Coords) :=
  k0_t2_body (F := F) L mI (Memref.isWhole_whole _) mF (Memref.isWhole_whole _) mO (Memref.isWhole_whole _)
    mA (Memref.isWhole_whole _) mSa (Memref.isWhole_whole _) mSb (Memref.isWhole_whole _) mFa (Memref.isWhole_whole _)
    mFb (Memref.isWhole_whole _) cc0_scratch5 cc0_scratch6 cc0_scratch7 cc0_scratch8 cc0_scoped0

/-- The accumulator with its first `16 k` elements zeroed. -/
def zeroed (g : Vec F NAcc .f32) (k : ℕ) : Vec F NAcc .f32 := fun j =>
  if (j 0).val < 16 * k then Scalar.ofBits .f32 0x00000000#32 else g j

/-- A trip of the zeroing loop zeroes sixteen elements. -/
theorem zero_trip (d : Dev nD) (L : grid0.Coords) (g : Vec F NAcc .f32) (t : Fin k0_t2_loop.trips) :
    own d L cc0_scratch0 (zeroed g t.val)
      ⊢ wp frame (wpE (defs₀ (F := F)) 𝒱₀ (VT d L) none) Set.univ (b2 L t ()) fun _ => own d L cc0_scratch0 (zeroed g (t.val + 1)) := by
  have ht : t.val < 6272 := t.isLt
  have h3 : k0_off3 t 0 = 16 * t.val := congrFun (k0_off3_eq t) 0
  unfold b2 k0_t2_body
  simp only [Prog.lift, Prog.bind_op, Prog.bind_ret, Prog.pure_eq_ret]
  iintro Hg
  iapply (wp_load 𝒱₀ (VT d L) none Set.univ (m := mA) (S := Finset.univ) (Finset.subset_univ _)) $$ Hg; iintro Hg
  iapply (wp_store 𝒱₀ (VT d L) none Set.univ (m := mA) (r := Rect.unit (s := S100352) (k0_off3 t) S16.size (k0_off3_inb t)) (S := Finset.univ) (Finset.subset_univ _)) $$ Hg; iintro Hg
  rw [wp_ret]; imodintro
  have e : (mA.access (Rect.unit (s := S100352) (k0_off3 t) S16.size (k0_off3_inb t))).write (Elt F) (zeroed g t.val) (k0_pay2 (F := F)) Finset.univ
      = zeroed g (t.val + 1) := by
    funext j
    have hj : (j 0).val < 100352 := (j 0).isLt
    by_cases h : 16 * t.val ≤ (j 0).val ∧ (j 0).val < 16 * t.val + 16
    · have hx : ∃ x : S16.Idx, (mA.access (Rect.unit (s := S100352) (k0_off3 t) S16.size (k0_off3_inb t))).emb x = j := by
        refine ⟨fun a => ⟨(j 0).val - 16 * t.val, by have : a = 0 := Fin.eq_zero a; subst this; show _ < 16; omega⟩, ?_⟩
        funext a
        have ha : a = 0 := Fin.eq_zero a
        subst ha
        apply Fin.ext
        show k0_off3 t 0 + 1 * ((j 0).val - 16 * t.val) = (j 0).val
        omega
      obtain ⟨x, rfl⟩ := hx
      rw [View.write_emb_of_mem _ _ (Finset.mem_univ x)]
      unfold zeroed
      rw [if_pos (by omega)]
      rfl
    · rw [View.write_of_not_mem]
      · unfold zeroed
        by_cases h1 : (j 0).val < 16 * t.val
        · rw [if_pos h1, if_pos (by omega)]
        · rw [if_neg h1, if_neg (by omega)]
      · intro hm
        obtain ⟨x, _, rfl⟩ := Finset.mem_map.1 hm
        apply h
        have hx : (x 0).val < 16 := (x 0).isLt
        have hv : (((mA.access (Rect.unit (s := S100352) (k0_off3 t) S16.size (k0_off3_inb t))).emb x : NAcc.Idx) 0).val = 16 * t.val + (x 0).val := by
          show k0_off3 t 0 + 1 * (x 0).val = _
          omega
        have hv' := hv
        omega
  rw [← e]
  iexact Hg

/-- All of it zeroed. -/
theorem zeroed_all (g : Vec F NAcc .f32) : zeroed g 6272 = fun _ => Scalar.ofBits .f32 0x00000000#32 := by
  funext j
  have hj : (j 0).val < 100352 := (j 0).isLt
  unfold zeroed
  rw [if_pos (by omega)]

/-- A task's block of the output. -/
def oS (L : grid0.Coords) (t1 : Fin k0_t1_loop.trips) : Finset NOut.Idx :=
  (Rect.unit (s := S4x4816896) (k0_off12 L t1) S1x100352.size (k0_off12_inb L t1)).set

/-- A task's block of the output, held outright. -/
abbrev oP (d : Dev nD) (L : grid0.Coords) (t1 : Fin k0_t1_loop.trips) (h : Vec F NOut .f32) : sProp 𝕄 :=
  mO.view.loc (VT d L) ↦[oS L t1]{fullShare} h

/-- A task's block of the output, as the kernel slices it. -/
abbrev mOt (L : grid0.Coords) (t1 : Fin k0_t1_loop.trips) : Memref sig .scVector .hbm S100352 .f32 :=
  (mO.slice (Rect.unit (s := S4x4816896) (k0_off12 L t1) S1x100352.size (k0_off12_inb L t1)) (fun _ => rfl)).squeeze S100352 squeezes_S1x100352_S100352

theorem set_mOt (L : grid0.Coords) (t1 : Fin k0_t1_loop.trips) : (mOt L t1).view.set = oS L t1 := by
  unfold mOt oS
  show ((mO.slice (Rect.unit (s := S4x4816896) (k0_off12 L t1) S1x100352.size (k0_off12_inb L t1)) (fun _ => rfl)).view.reshape S100352 _).set = _
  rw [View.set_reshape]
  exact View.set_slice_whole _ _

/-- The block with the task's accumulator written over it agrees there with the kernel's whole output. -/
theorem write_out (L : grid0.Coords) (t1 : Fin k0_t1_loop.trips) (f2 : Vec F NSrc .f32) (f5 : Vec F NFl .f32) (h : Vec F NOut .f32) :
    ∀ j ∈ oS L t1, (mOt L t1).view.write (Elt F) h (task clipIx (srcOf f2 (tb L t1) (tp L t1)) (flOf f5 (tb L t1)) 28) Finset.univ j = out clipIx f2 f5 j := by
  intro j hj
  rw [← set_mOt] at hj
  obtain ⟨x, _, rfl⟩ := Finset.mem_map.1 hj
  rw [View.write_emb_of_mem _ _ (Finset.mem_univ x)]
  have hx : (x 0).val < 100352 := (x 0).isLt
  have hi := k0_off12_inb L t1
  rw [off12_eq] at hi
  have h0 : tb L t1 + 1 ≤ 4 := hi 0
  have hp : tp L t1 < 48 := Nat.mod_lt _ (by decide)
  have hy : Shape.reshapeEquiv (Shape.Squeezes.numel_eq squeezes_S1x100352_S100352) x
      = (fun a => ⟨![0, (x 0).val] a, by fin_cases a <;> simp; exact hx⟩ : S1x100352.Idx) :=
    Shape.reshapeEquiv_eq_of_vals _ x _ (x 0).val (x 0).val (by rw [rowMajor_val2 _ 100352 rfl]; simp) (by rw [rowMajor_val1]) rfl
  have he : ((mOt L t1).view.emb x : NOut.Idx) = (Rect.unit (s := S4x4816896) (k0_off12 L t1) S1x100352.size (k0_off12_inb L t1)).emb
      (fun a => ⟨![0, (x 0).val] a, by fin_cases a <;> simp; exact hx⟩ : S1x100352.Idx) := by
    rw [← hy]; rfl
  have e0 : (((mOt L t1).view.emb x : NOut.Idx) 0).val = tb L t1 := by
    rw [he, Rect.emb_apply]
    show k0_off12 L t1 0 + 1 * 0 = _
    rw [off12_eq]; rfl
  have e1 : (((mOt L t1).view.emb x : NOut.Idx) 1).val = 100352 * tp L t1 + (x 0).val := by
    rw [he, Rect.emb_apply]
    show k0_off12 L t1 1 + 1 * (x 0).val = _
    rw [off12_eq, Nat.one_mul]; rfl
  unfold out
  rw [e0, e1, show (100352 * tp L t1 + (x 0).val) / 100352 = tp L t1 by omega]
  show task _ _ _ _ x = _
  congr 1
  funext a
  have ha : a = 0 := Fin.eq_zero a
  subst ha
  apply Fin.ext
  show _ = (100352 * tp L t1 + (x 0).val) % 100352
  omega

/-- The elements of a task's result, as its copy's semaphore counts them. -/
abbrev NO : ℕ := mA.view.amount (.dma cc0_scoped0.sem)
theorem NO_pos : 0 < NO := by decide

/-- One task. -/
abbrev b1 (L : grid0.Coords) (v1 : BitVec 32) :=
  k0_t1_body (F := F) L mI (Memref.isWhole_whole _) mF (Memref.isWhole_whole _) mO (Memref.isWhole_whole _)
    mA (Memref.isWhole_whole _) mSa (Memref.isWhole_whole _) mSb (Memref.isWhole_whole _) mFa (Memref.isWhole_whole _)
    mFb (Memref.isWhole_whole _) cc0_scratch5 cc0_scratch6 cc0_scratch7 cc0_scratch8 cc0_scoped0 v1

/-- What a tile holds between two tasks, but for the output: its shares of the inputs, its buffers
and its semaphores at rest. -/
def idle (d : Dev nD) (L : grid0.Coords) (q r : PosShare TreeShare) (f2 : Vec F NSrc .f32) (f5 : Vec F NFl .f32)
    (O : CellTallies nD τ sig (HIx 1)) (W : Waits sig (HIx 1)) : sProp 𝕄 :=
  iprop(imP d L q f2 ∗ flP d L r f5
    ∗ (∃ s, own d L cc0_scratch0 s) ∗ (∃ s, own d L cc0_scratch1 s) ∗ (∃ s, own d L cc0_scratch2 s)
    ∗ (∃ s, own d L cc0_scratch3 s) ∗ (∃ s, own d L cc0_scratch4 s)
    ∗ semVal (VT d L, .dma cc0_scratch5.sem) 0 ∗ semVal (VT d L, .dma cc0_scratch6.sem) 0
    ∗ semVal (VT d L, .dma cc0_scratch7.sem) 0 ∗ semVal (VT d L, .dma cc0_scratch8.sem) 0
    ∗ semVal (VT d L, .dma cc0_scoped0.sem) 0 ∗ owing d L O W)

set_option maxHeartbeats 4000000 in
set_option maxRecDepth 65536 in
/-- A task writes its block of the output. -/
theorem one_task (d : Dev nD) (L : grid0.Coords) (v1 : BitVec 32) (t1 : Fin k0_t1_loop.trips) (q r : PosShare TreeShare) (f2 : Vec F NSrc .f32)
    (f5 : Vec F NFl .f32) (hfit : FitsAll clipIx (flOf f5 (tb L t1))) (h : Vec F NOut .f32)
    (O : CellTallies nD τ sig (HIx 1)) (W : Waits sig (HIx 1)) (hO : ∀ g, O g none = 0) :
    iprop(levAts (K (F := F)).L (K (F := F)).lev ∗ oP d L t1 h ∗ idle d L q r f2 f5 O W)
      ⊢ wp frame (wpE (defs₀ (F := F)) 𝒱₀ (VT d L) none) Set.univ (b1 L v1 t1 ())
          fun _ => iprop(oP d L t1 (out clipIx f2 f5) ∗ idle d L q r f2 f5 O W) := by
  have hq := pointsTo_share (Name := ℕ) (U := UU) (Lvl := ℕ) (Ix := HIx 1) (ℓ := mI.view.loc (VT d L)) (I := Finset.univ) (f := f2)
    (PosShare.mem_left_op_right q)
  have hr := pointsTo_share (Name := ℕ) (U := UU) (Lvl := ℕ) (Ix := HIx 1) (ℓ := mF.view.loc (VT d L)) (I := Finset.univ) (f := f5)
    (PosShare.mem_left_op_right r)
  unfold b1 k0_t1_body
  simp only [k0_part8_eq_skeleton]
  unfold k0_part8_skel
  simp only [Prog.lift, Prog.bind_op, Prog.bind_ret, Prog.pure_eq_ret, Prog.bind_assoc]
  unfold idle
  iintro ⟨#Hlv, Ho, Hi, Hl, ⟨%g, Hg⟩, ⟨%sa, Hsa⟩, Hsb, ⟨%fa, Hfa⟩, Hfb, Hva, Hwa, Hvb, Hwb, Hvo, HO⟩
  ihave Hi2 := hq.1 $$ Hi
  icases Hi2 with ⟨Hia, Hi⟩
  ihave Hl2 := hr.1 $$ Hl
  icases Hl2 with ⟨Hla, Hl⟩
  iapply (wp_copy d L (dst := mSa) (Sd := Finset.univ) (fs := f2) NB rfl NB_pos (Finset.subset_univ _) (read_im f2 (off1_eq L t1) _ _ _)) $$ [Hia Hsa Hva]
  · isplitl [Hia]; · iexact Hia
    isplitl [Hsa]; · iexact Hsa
    iexact Hva
  iintro Hsa
  rw [write_Sa]
  iapply (wp_copy d L (dst := mFa) (Sd := Finset.univ) (fs := f5) NB rfl NB_pos (Finset.subset_univ _) (read_fl f5 (off2_eq L t1) _ _ _)) $$ [Hla Hfa Hwa]
  · isplitl [Hla]; · iexact Hla
    isplitl [Hfa]; · iexact Hfa
    iexact Hwa
  iintro Hfa
  rw [write_Fa]
  dsimp only
  sl_for (fun k _ => (own d L cc0_scratch0 (zeroed g k) : sProp 𝕄)) $$ [Hg]
  case region =>
    intro k _
    exact zero_trip d L g k
  · rw [show zeroed g 0 = g from funext fun j => if_neg (by omega)]
    iexact Hg
  iintro %_ Hg
  sl_for (fun k _ => (pairInv d L t1 q r f2 f5 O W k : sProp 𝕄)) $$ [Hg Hsa Hfa Hi Hl Hsb Hfb Hvb Hwb HO]
  case region =>
    intro k _
    exact pair d L t1 q r f2 f5 hfit O W hO k
  · unfold pairInv
    isplitr; · iexact Hlv
    isplitl [Hg]
    · rw [show zeroed g k0_t2_loop.trips = task clipIx (srcOf f2 (tb L t1) (tp L t1)) (flOf f5 (tb L t1)) (2 * 0) from zeroed_all g]
      iexact Hg
    isplitl [Hsa]; · iexact Hsa
    isplitl [Hfa]; · iexact Hfa
    isplitl [Hi]; · iexact Hi
    isplitl [Hl]; · iexact Hl
    isplitl [Hsb]; · iexact Hsb
    isplitl [Hfb]; · iexact Hfb
    isplitl [Hvb]; · iexact Hvb
    isplitl [Hwb]; · iexact Hwb
    iexact HO
  iintro %_ HI
  unfold pairInv
  icases HI with ⟨-, Hg, Hsa, Hfa, Hi, Hl, Hsb, Hfb, Hvb, Hwb, HO⟩
  iapply (wp_await d L (dstw := mSa) (N := NB) rfl hO) $$ [Hsa HO]
  · isplitr; · iexact Hlv
    isplitl [Hsa]; · iexact Hsa
    iexact HO
  iintro ⟨⟨Hia, Hsa⟩, Hva, HO⟩
  iapply (wp_await d L (dstw := mFa) (N := NB) rfl hO) $$ [Hfa HO]
  · isplitr; · iexact Hlv
    isplitl [Hfa]; · iexact Hfa
    iexact HO
  iintro ⟨⟨Hla, Hfa⟩, Hwa, HO⟩
  iapply (wp_copy d L (src := mA) (dst := mOt L t1) (Sd := oS L t1) (fd := h) (w := task clipIx (srcOf f2 (tb L t1) (tp L t1)) (flOf f5 (tb L t1)) 28)
    NO rfl NO_pos (set_mOt L t1).subset rfl) $$ [Hg Ho Hvo]
  · isplitl [Hg]; · iexact Hg
    isplitl [Ho]; · iexact Ho
    iexact Hvo
  iintro Ho
  iapply (wp_await d L (dstw := mOt L t1) (N := NO) rfl hO) $$ [Ho HO]
  · isplitr; · iexact Hlv
    isplitl [Ho]; · iexact Ho
    iexact HO
  iintro ⟨⟨Hg, Ho⟩, Hvo, HO⟩
  sl_step
  isplitl [Ho]
  · iapply (Entails.of_eq (pointsTo_congr (write_out L t1 f2 f5 h)))
    iexact Ho
  isplitl [Hia Hi]
  · iapply hq.2
    isplitl [Hia]; · iexact Hia
    iexact Hi
  isplitl [Hla Hl]
  · iapply hr.2
    isplitl [Hla]; · iexact Hla
    iexact Hl
  isplitl [Hg]; · iexists _; iexact Hg
  isplitl [Hsa]; · iexists _; iexact Hsa
  isplitl [Hsb]; · iexact Hsb
  isplitl [Hfa]; · iexists _; iexact Hfa
  isplitl [Hfb]; · iexact Hfb
  isplitl [Hva]; · iexact Hva
  isplitl [Hwa]; · iexact Hwa
  isplitl [Hvb]; · iexact Hvb
  isplitl [Hwb]; · iexact Hwb
  isplitl [Hvo]; · iexact Hvo
  iexact HO

end Splat.GI
-- ==== Proof.GI.Tile.lean ====
/- A tile's whole run: six tasks, from the buffers and semaphores the launch hands it. -/
module

public import proofs.«01_k».proof.Proof.GI.Task

@[expose] public section

noncomputable section

namespace Splat.GI

open Cert.GuardedIdeal Cert.GuardedIdeal.Gen
open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx Pay tileRest ownBufs ownSems0 ownCells ownRefs mem_ownCells mem_ownRefs)
open Idealize.ShloMosaic.Tactic

variable {F : FTy → Type} [FloatOps F]

local notation "𝕄" => MT nD τ sig (HIx 1) (Elt F) ℕ UU ℕ

/-- The blocks of the output a tile writes. -/
abbrev oPs (d : Dev nD) (L : grid0.Coords) (h : Vec F NOut .f32) : sProp 𝕄 :=
  bigSep Finset.univ fun t : Fin k0_t1_loop.trips => oP d L t h

/-- The kernel on a tile. -/
abbrev bK (L : grid0.Coords) :=
  cc0__fwarp_guarded (F := F) L mI (Memref.isWhole_whole _) mF (Memref.isWhole_whole _) mO (Memref.isWhole_whole _)
    mA (Memref.isWhole_whole _) mSa (Memref.isWhole_whole _) mSb (Memref.isWhole_whole _) mFa (Memref.isWhole_whole _)
    mFb (Memref.isWhole_whole _) cc0_scratch5 cc0_scratch6 cc0_scratch7 cc0_scratch8 cc0_scoped0

/-- After `k` tasks the first `k` blocks are written. -/
abbrev partly (h w : Vec F NOut .f32) (k : ℕ) (t : Fin k0_t1_loop.trips) : Vec F NOut .f32 := if t.val < k then w else h

/-- After the last task every block is written. -/
theorem all_partly (d : Dev nD) (L : grid0.Coords) (h w : Vec F NOut .f32) :
    (bigSep Finset.univ fun t : Fin k0_t1_loop.trips => (oP d L t (partly h w k0_t1_loop.trips t) : sProp 𝕄)) = oPs d L w :=
  BI.bigSep_congr fun t _ => congrArg (fun x => (oP d L t x : sProp 𝕄)) (if_pos t.isLt)

/-- A tile's six tasks write its six blocks. -/
theorem tile_run (d : Dev nD) (L : grid0.Coords) (q r : PosShare TreeShare) (f2 : Vec F NSrc .f32)
    (f5 : Vec F NFl .f32) (hfit : ∀ b, FitsAll clipIx (flOf f5 b)) (h : Vec F NOut .f32)
    (O : CellTallies nD τ sig (HIx 1)) (W : Waits sig (HIx 1)) (hO : ∀ g, O g none = 0) :
    iprop(levAts (K (F := F)).L (K (F := F)).lev ∗ oPs d L h ∗ idle d L q r f2 f5 O W)
      ⊢ wp frame (wpE (defs₀ (F := F)) 𝒱₀ (VT d L) none) Set.univ (bK L)
          fun _ => iprop(oPs d L (out clipIx f2 f5) ∗ idle d L q r f2 f5 O W) := by
  unfold bK
  rw [cc0__fwarp_guarded_eq_skeleton]
  unfold cc0__fwarp_guarded_skel
  dsimp only
  iintro ⟨#Hlv, Ho, Hr⟩
  sl_for (fun k _ => (iprop(levAts (K (F := F)).L (K (F := F)).lev
      ∗ (bigSep Finset.univ fun t : Fin k0_t1_loop.trips => oP d L t (partly h (out clipIx f2 f5) k t)) ∗ idle d L q r f2 f5 O W) : sProp 𝕄)) $$ [Ho Hr]
  case region =>
    intro k _
    change Fin k0_t1_loop.trips at k
    rw [SparseCore.bigSep_erase' (Finset.mem_univ k), SparseCore.bigSep_erase' (Finset.mem_univ k)]
    rw [show partly h (out clipIx f2 f5) k.val k = h from if_neg (lt_irrefl _),
      show partly h (out clipIx f2 f5) (k.val + 1) k = out clipIx f2 f5 from if_pos (Nat.lt_succ_self _)]
    rw [BI.bigSep_congr (s := (Finset.univ : Finset (Fin k0_t1_loop.trips)).erase k) (Ψ := fun t => (oP d L t (partly h (out clipIx f2 f5) (k.val + 1) t) : sProp 𝕄)) (fun t ht => by
      have hne : t.val ≠ k.val := fun e => (Finset.mem_erase.1 ht).1 (Fin.ext e)
      unfold partly
      by_cases h1 : t.val < k.val
      · rw [if_pos h1, if_pos (by omega)]
      · rw [if_neg h1, if_neg (by omega)])]
    iintro ⟨#Hlv, ⟨Ho, Hos⟩, Hr⟩
    iapply (wp_wand_r Idealize.ShloMosaic.frame (wpE (defs₀ (F := F)) 𝒱₀ (VT d L) none) Set.univ)
    isplitl [Ho Hr]
    · iapply (one_task d L _ k q r f2 f5 (hfit _) h O W hO)
      isplitr; · iexact Hlv
      isplitl [Ho]; · iexact Ho
      iexact Hr
    iintro %_ ⟨Ho, Hr⟩
    isplitr; · iexact Hlv
    isplitl [Ho Hos]
    · isplitl [Ho]; · iexact Ho
      iexact Hos
    iexact Hr
  · isplitr; · iexact Hlv
    isplitl [Ho]; · iexact Ho
    iexact Hr
  iintro %_ ⟨-, Ho, Hr⟩
  sl_step
  isplitl [Ho]
  · iapply (Entails.of_eq (all_partly d L h (out clipIx f2 f5)))
    iexact Ho
  iexact Hr

/-- The five counters of a tile's copies. -/
abbrev csem (k : Nat) (hk : k < 5 := by decide) : DmaSem sig := ⟨k, hk⟩
abbrev dcell (d : Dev nD) (c : Fin τ.nSC) (i : Fin τ.nSub) (k : Fin 5) : GSem nD τ sig := (V d c i, .dma (csem k.val k.isLt))

omit [FloatOps F] in
theorem dcell_mem (d : Dev nD) (c : Fin τ.nSC) (i : Fin τ.nSub) (k : Fin 5) : dcell d c i k ∈ ownCells (V d c i) :=
  mem_ownCells.mpr ⟨rfl, (show ∀ s : DmaSem sig, (SemLoc.dma s : SemLoc sig).isScoped .scVector = true by decide) _⟩

omit [FloatOps F] in
/-- A tile's own counters at zero: those of its copies, and the rest. -/
theorem ownSems0_V (d : Dev nD) (L : grid0.Coords) :
    (ownSems0 (VT d L) : sProp 𝕄)
      = iprop((semVal (VT d L, SemLoc.dma (csem 0)) 0 ∗ semVal (VT d L, SemLoc.dma (csem 1)) 0 ∗ semVal (VT d L, SemLoc.dma (csem 2)) 0
          ∗ semVal (VT d L, SemLoc.dma (csem 3)) 0 ∗ semVal (VT d L, SemLoc.dma (csem 4)) 0)
          ∗ bigSep ((ownCells (VT d L)) \ Finset.univ.image (dcell d (cV L) (jV L))) fun g => semVal g 0) := by
  unfold SparseCore.Cfg.ownSems0
  rw [SparseCore.bigSep_sdiff_split' (t := Finset.univ.image (dcell d (cV L) (jV L)))
      (Finset.image_subset_iff.mpr fun k _ => dcell_mem d (cV L) (jV L) k),
    SparseCore.bigSep_image_of_injOn (fun a _ b _ h => by
      have := congrArg (fun g : GSem nD τ sig => g.2) h
      simp only [SemLoc.dma.injEq, Fin.mk.injEq] at this; exact Fin.ext this)]
  rw [show (Finset.univ : Finset (Fin 5)) = {0, 1, 2, 3, 4} by decide,
    SparseCore.bigSep_insert' (by decide), SparseCore.bigSep_insert' (by decide), SparseCore.bigSep_insert' (by decide),
    SparseCore.bigSep_insert' (by decide), bigSep_singleton]
  rfl

/-- The references of a tile's five buffers. -/
abbrev bref (L : grid0.Coords) (b : Ref sig .scVector) : DevRef τ sig := (Proc.scVector (cV L) (jV L)).devRef b

omit [FloatOps F] in
theorem bref_ne (L : grid0.Coords) {b b' : Ref sig .scVector} (h : b ≠ b') : bref L b ≠ bref L b' :=
  fun e => h (Proc.devRef_injective _ e)

/-- What is left of a tile's own buffers beside the five the kernel names. -/
abbrev otherRefs (L : grid0.Coords) : Finset (DevRef τ sig) :=
  (((((ownRefs (τ := τ) (.scVector (cV L) (jV L))).erase (bref L cc0_scratch0)).erase (bref L cc0_scratch1)).erase (bref L cc0_scratch2)).erase
    (bref L cc0_scratch3)).erase (bref L cc0_scratch4)

omit [FloatOps F] in
/-- A tile's own buffers: the five the kernel names, and the rest. -/
theorem ownBufs_V (d : Dev nD) (L : grid0.Coords) :
    (ownBufs (VT d L) : sProp 𝕄)
      = iprop((∃ f, own d L cc0_scratch0 f) ∗ (∃ f, own d L cc0_scratch1 f) ∗ (∃ f, own d L cc0_scratch2 f)
          ∗ (∃ f, own d L cc0_scratch3 f) ∗ (∃ f, own d L cc0_scratch4 f)
          ∗ bigSep (otherRefs L) fun b => iprop(∃ f, ((d, b) : Loc nD τ sig) ↦{fullShare} f)) := by
  unfold SparseCore.Cfg.ownBufs
  rw [SparseCore.bigSep_erase' (SparseCore.Cfg.mem_ownRefs_of_owner (p := Proc.scVector (cV L) (jV L)) (b := bref L cc0_scratch0) rfl),
    SparseCore.bigSep_erase' (Finset.mem_erase.mpr ⟨bref_ne L (by decide),
      SparseCore.Cfg.mem_ownRefs_of_owner (p := Proc.scVector (cV L) (jV L)) (b := bref L cc0_scratch1) rfl⟩),
    SparseCore.bigSep_erase' (Finset.mem_erase.mpr ⟨bref_ne L (by decide), Finset.mem_erase.mpr ⟨bref_ne L (by decide),
      SparseCore.Cfg.mem_ownRefs_of_owner (p := Proc.scVector (cV L) (jV L)) (b := bref L cc0_scratch2) rfl⟩⟩),
    SparseCore.bigSep_erase' (Finset.mem_erase.mpr ⟨bref_ne L (by decide), Finset.mem_erase.mpr ⟨bref_ne L (by decide),
      Finset.mem_erase.mpr ⟨bref_ne L (by decide),
      SparseCore.Cfg.mem_ownRefs_of_owner (p := Proc.scVector (cV L) (jV L)) (b := bref L cc0_scratch3) rfl⟩⟩⟩),
    SparseCore.bigSep_erase' (Finset.mem_erase.mpr ⟨bref_ne L (by decide), Finset.mem_erase.mpr ⟨bref_ne L (by decide),
      Finset.mem_erase.mpr ⟨bref_ne L (by decide), Finset.mem_erase.mpr ⟨bref_ne L (by decide),
      SparseCore.Cfg.mem_ownRefs_of_owner (p := Proc.scVector (cV L) (jV L)) (b := bref L cc0_scratch4) rfl⟩⟩⟩⟩)]

/-- What a tile is handed for its run, and hands back: its shares of the inputs and its blocks of the output. -/
abbrev held3 (d : Dev nD) (L : grid0.Coords) (q r : PosShare TreeShare) (f2 : Vec F NSrc .f32) (f5 : Vec F NFl .f32) (h : Vec F NOut .f32) : sProp 𝕄 :=
  iprop(imP d L q f2 ∗ flP d L r f5 ∗ oPs d L h)

/-- A tile's run, from what the launch hands it to what it hands back. -/
theorem tile_body (hF : (K (F := F)).Facts) (d : Dev nD) (L : grid0.Coords) (q r : PosShare TreeShare) (f2 : Vec F NSrc .f32)
    (f5 : Vec F NFl .f32) (hfit : ∀ b, FitsAll clipIx (flOf f5 b)) (h : Vec F NOut .f32)
    (O : CellTallies nD τ sig (HIx 1)) (W : Waits sig (HIx 1)) (hO : ∀ g, O g none = 0) :
    iprop(levAts (K (F := F)).L (K (F := F)).lev ∗ emp ∗ held3 d L q r f2 f5 h
        ∗ scopedBufs (VT d L) ∗ scopedSems0 (VT d L) ∗ owes (VT d L) O W)
      ⊢ wp frame (wpE (defs₀ (F := F)) 𝒱₀ (VT d L) none) Set.univ (bK L)
          fun _ => iprop(held3 d L q r f2 f5 (out clipIx f2 f5) ∗ scopedBufs (VT d L) ∗ scopedSems0 (VT d L)
            ∗ ∃ W', ⌜∀ p ∈ W', p ∈ W ∨ p.2 = none ∨ p.2 = some (0 : Fin 1)⌝ ∗ owes (VT d L) O W') := by
  rw [(K (F := F)).scopedBufs_V hF d (cV L) (jV L), SparseCore.Cfg.scopedSems0_V (Val := Elt F) d (cV L) (jV L), ownSems0_V, ownBufs_V]
  iintro ⟨#Hlv, -, ⟨Hi, Hl, Ho⟩, ⟨Hb0, Hb1, Hb2, Hb3, Hb4, Hbufs⟩, ⟨⟨Hc0, Hc1, Hc2, Hc3, Hc4⟩, Hsems⟩, HO⟩
  iapply (wp_wand_r Idealize.ShloMosaic.frame (wpE (defs₀ (F := F)) 𝒱₀ (VT d L) none) Set.univ)
  isplitl [Hi Hl Ho Hb0 Hb1 Hb2 Hb3 Hb4 Hc0 Hc1 Hc2 Hc3 Hc4 HO]
  · iapply (tile_run d L q r f2 f5 hfit h O W hO)
    isplitr; · iexact Hlv
    isplitl [Ho]; · iexact Ho
    unfold idle owing
    isplitl [Hi]; · iexact Hi
    isplitl [Hl]; · iexact Hl
    isplitl [Hb0]; · iexact Hb0
    isplitl [Hb1]; · iexact Hb1
    isplitl [Hb2]; · iexact Hb2
    isplitl [Hb3]; · iexact Hb3
    isplitl [Hb4]; · iexact Hb4
    isplitl [Hc0]; · iexact Hc0
    isplitl [Hc1]; · iexact Hc1
    isplitl [Hc2]; · iexact Hc2
    isplitl [Hc3]; · iexact Hc3
    isplitl [Hc4]; · iexact Hc4
    iexists W
    isplitr
    · ipureintro; exact fun p hp => Or.inl hp
    · iexact HO
  unfold idle owing
  iintro %_ ⟨Ho, Hi, Hl, Hb0, Hb1, Hb2, Hb3, Hb4, Hc0, Hc1, Hc2, Hc3, Hc4, %W', %hW, HO⟩
  isplitl [Hi Hl Ho]
  · isplitl [Hi]; · iexact Hi
    isplitl [Hl]; · iexact Hl
    iexact Ho
  isplitl [Hb0 Hb1 Hb2 Hb3 Hb4 Hbufs]
  · isplitl [Hb0]; · iexact Hb0
    isplitl [Hb1]; · iexact Hb1
    isplitl [Hb2]; · iexact Hb2
    isplitl [Hb3]; · iexact Hb3
    isplitl [Hb4]; · iexact Hb4
    iexact Hbufs
  isplitl [Hc0 Hc1 Hc2 Hc3 Hc4 Hsems]
  · isplitl [Hc0 Hc1 Hc2 Hc3 Hc4]
    · isplitl [Hc0]; · iexact Hc0
      isplitl [Hc1]; · iexact Hc1
      isplitl [Hc2]; · iexact Hc2
      isplitl [Hc3]; · iexact Hc3
      iexact Hc4
    iexact Hsems
  iexists W'; isplitr
  · ipureintro; exact fun p hp => (hW p hp).imp_right Or.inl
  · iexact HO

end Splat.GI
-- ==== Proof.GI.Launch.lean ====
/- The launch: what each SparseCore and each tile is handed, how the arrays split among them and join again,
and the program's whole run. -/
module

public import proofs.«01_k».proof.Proof.GI.Tile

@[expose] public section

noncomputable section

namespace Splat.GI

open Cert.GuardedIdeal Cert.GuardedIdeal.Gen
open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx Pay tileRest ownBufs ownSems0 ownCells ownRefs mem_ownCells mem_ownRefs)
open Idealize.ShloMosaic.StableHlo (held held_split held_sdiff_result wp_hlo_within)
open Idealize.ShloMosaic.Transfers (dealOf pointsTo_deal)
open Idealize.ShloMosaic.Tactic

variable {F : FTy → Type} [FloatOps F]

local notation "𝕄" => MT nD τ sig (HIx 1) (Elt F) ℕ UU ℕ

omit [FloatOps F] in
theorem nSub_zero : (K (F := F)).nSub 0 = 16 := rfl
omit [FloatOps F] in
theorem nCore_zero : (K (F := F)).nCore 0 = 2 := rfl
/-- The program's loops need no variant either. -/
abbrev 𝒱 : Variants := 𝒱₀.lift
abbrev v₀ : 𝒱.V := Sum.inl none
/-- The launch's cells among the run's ghost state. -/
abbrev EH : Emb UH (MT nD τ sig (HIx 1) (Elt F) ℕ UU ℕ) := embL

/-- What the launch asks of the program's semaphores. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide, fun _ => rfl⟩

/-- The grid point of SparseCore `c`'s tile `s`. -/
def coordsV (c : Fin 2) (s : Fin 16) : grid0.Coords :=
  fun | 0 => c | 1 => s | ⟨_ + 2, h⟩ => absurd h (Nat.not_lt.2 (Nat.le_add_left _ _))

/-- The packed images, the packed flow and the output, as the TensorCore names them. -/
abbrev iLoc (d : Dev nD) : Loc nD τ sig := (SparseCore.T d).loc main_v2
abbrev lLoc (d : Dev nD) : Loc nD τ sig := (SparseCore.T d).loc main_v5
abbrev oLoc (d : Dev nD) : Loc nD τ sig := (SparseCore.T d).loc main_v6

/-- A SparseCore's share of what is only read, and a tile's. -/
abbrev cSh (c : Fin 2) : PosShare TreeShare := dealOf fullShare Finset.univ c
abbrev tSh (c : Fin 2) (i : Fin 16) : PosShare TreeShare := dealOf (cSh c) Finset.univ i

/-- What SparseCore `c` is handed: its shares of the inputs and its tiles' blocks of the output, at contents `h`. -/
abbrev forCore (d : Dev nD) (c : Fin 2) (f2 : Vec F NSrc .f32) (f5 : Vec F NFl .f32) (h : Vec F NOut .f32) : sProp 𝕄 :=
  iprop((iLoc d ↦{cSh c} f2) ∗ (lLoc d ↦{cSh c} f5) ∗ bigSep Finset.univ fun i : Fin 16 => oPs d (coordsV c i) h)
/-- What its tile `i` is handed. -/
abbrev forTile (d : Dev nD) (c : Fin 2) (i : Fin 16) (f2 : Vec F NSrc .f32) (f5 : Vec F NFl .f32) (h : Vec F NOut .f32) : sProp 𝕄 :=
  held3 d (coordsV c i) (tSh c i) (tSh c i) f2 f5 h

section Launch

variable (A2 : Dev nD → Vec F NSrc .f32) (A5 : Dev nD → Vec F NFl .f32) (A6 : Dev nD → Vec F NOut .f32)

/-- What the handshakes carry. -/
def P : (K (F := F)).Pay (nD := nD) (Val := Elt F) (Name := ℕ) (U := UU) where
  st := fun q d c => match q with | 0 => forCore d (Fin.cast nCore_zero c) (A2 d) (A5 d) (A6 d)
  dn := fun q d c => match q with | 0 => forCore d (Fin.cast nCore_zero c) (A2 d) (A5 d) (out clipIx (A2 d) (A5 d))
  go := fun q d c i => match q with | 0 => forTile d (Fin.cast nCore_zero c) (Fin.cast nSub_zero i) (A2 d) (A5 d) (A6 d)
  td := fun q d c i => match q with | 0 => forTile d (Fin.cast nCore_zero c) (Fin.cast nSub_zero i) (A2 d) (A5 d) (out clipIx (A2 d) (A5 d))
  x := fun _ _ => iprop(emp)

instance P_storable : (P A2 A5 A6).IsStorable where
  st q d c := match q with | 0 => (inferInstance : BI.Storable (upEmb : UEmb _ 𝕄) (forCore d _ (A2 d) (A5 d) (A6 d)))
  dn q d c := match q with | 0 => (inferInstance : BI.Storable (upEmb : UEmb _ 𝕄) (forCore d _ (A2 d) (A5 d) (out clipIx (A2 d) (A5 d))))
  go q d c i := match q with | 0 => (inferInstance : BI.Storable (upEmb : UEmb _ 𝕄) (forTile d _ _ (A2 d) (A5 d) (A6 d)))
  td q d c i := match q with | 0 => (inferInstance : BI.Storable (upEmb : UEmb _ 𝕄) (forTile d _ _ (A2 d) (A5 d) (out clipIx (A2 d) (A5 d))))

theorem defs₀_vector (c : Fin τ.nSC) (s : Fin τ.nSub) :
    defs₀ (F := F) (.scVector c s) 0 () = SparseCore.onTile hcore0 hsub0 (fun c s => bK (coordsV c s)) ⟨⟩ c s := rfl

/-- Every tile's run from what it is handed to what it hands back. -/
theorem tileObl (hfit : ∀ d b, FitsAll clipIx (flOf (A5 d) b)) : (K (F := F)).TileObl (D (F := F)) 𝒱 (P A2 A5 A6) v₀ 0 := by
  intro d c i O W hO _ _
  simp only [show (P A2 A5 A6).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body facts d (coordsV ⟨_, hci.1⟩ ⟨_, hci.2⟩) _ _ (A2 d) (A5 d) (hfit d) (A6 d) O W hO

omit [FloatOps F] in
theorem bigSep_tasks (Φ : Fin 16 → sProp 𝕄) :
    (bigSep Finset.univ fun i : Fin ((K (F := F)).nSub 0) => Φ (Fin.cast nSub_zero i)) = bigSep Finset.univ Φ :=
  BI.bigSep_congr fun _ _ => congrArg Φ (Fin.ext rfl)
omit [FloatOps F] in
theorem bigSep_cores (Φ : Fin 2 → sProp 𝕄) :
    (bigSep Finset.univ fun i : Fin ((K (F := F)).nCore 0) => Φ (Fin.cast nCore_zero i)) = bigSep Finset.univ Φ :=
  BI.bigSep_congr fun _ _ => congrArg Φ (Fin.ext rfl)

/-- A SparseCore's part is its tiles' parts. -/
theorem tiles_eq (d : Dev nD) (c : Fin 2) (f2 : Vec F NSrc .f32) (f5 : Vec F NFl .f32) (h : Vec F NOut .f32) :
    (bigSep Finset.univ fun i : Fin 16 => (forTile d c i f2 f5 h : sProp 𝕄)) = forCore d c f2 f5 h := by
  unfold forTile held3 forCore
  rw [BI.bigSep_sep', BI.bigSep_sep']
  rw [pointsTo_deal (ℓ := iLoc d) (S := Finset.univ) (f := f2) (Finset.univ : Finset (Fin 16)) Finset.univ_nonempty (cSh c),
    pointsTo_deal (ℓ := lLoc d) (S := Finset.univ) (f := f5) (Finset.univ : Finset (Fin 16)) Finset.univ_nonempty (cSh c)]

/-- A SparseCore's part splits among its tiles and joins again. -/
theorem vecSplit : (K (F := F)).VecSplit' (P A2 A5 A6) 0 := by
  intro d c
  show forCore d (Fin.cast nCore_zero c) (A2 d) (A5 d) (A6 d) ⊢ |={Set.univ}=> iprop(
      (bigSep Finset.univ fun i : Fin ((K (F := F)).nSub 0) => forTile d (Fin.cast nCore_zero c) (Fin.cast nSub_zero i) (A2 d) (A5 d) (A6 d))
      ∗ ((bigSep Finset.univ fun i : Fin ((K (F := F)).nSub 0) =>
            forTile d (Fin.cast nCore_zero c) (Fin.cast nSub_zero i) (A2 d) (A5 d) (out clipIx (A2 d) (A5 d)))
          -∗ forCore d (Fin.cast nCore_zero c) (A2 d) (A5 d) (out clipIx (A2 d) (A5 d))))
  rw [bigSep_tasks (F := F) (fun i => forTile d (Fin.cast nCore_zero c) i (A2 d) (A5 d) (A6 d)),
    bigSep_tasks (F := F) (fun i => forTile d (Fin.cast nCore_zero c) i (A2 d) (A5 d) (out clipIx (A2 d) (A5 d))), tiles_eq, tiles_eq]
  iintro H; imodintro
  isplitl [H]; · iexact H
  iintro H; iexact H

/-- The index of a block of the output: SparseCore, tile, task. -/
abbrev BIx : Type := Fin 2 × Fin 16 × Fin k0_t1_loop.trips
abbrev bS (p : BIx) : Finset NOut.Idx := oS (coordsV p.1 p.2.1) p.2.2

omit [FloatOps F] in
/-- Block membership: the image, and the pair of channels. -/
theorem mem_bS (p : BIx) (x : NOut.Idx) :
    x ∈ bS p ↔ (x 0).val = tn (coordsV p.1 p.2.1) p.2.2 / 48 ∧ (x 1).val / 100352 = tn (coordsV p.1 p.2.1) p.2.2 % 48 := by
  have e := off12_eq (coordsV p.1 p.2.1) p.2.2
  have e0 : k0_off12 (coordsV p.1 p.2.1) p.2.2 0 = tb (coordsV p.1 p.2.1) p.2.2 := by rw [e]; rfl
  have e1 : k0_off12 (coordsV p.1 p.2.1) p.2.2 1 = 100352 * tp (coordsV p.1 p.2.1) p.2.2 := by rw [e]; rfl
  unfold tb at e0
  unfold tp at e1
  unfold bS oS
  rw [Rect.mem_set_unit]
  constructor
  · intro h
    have h0 := h 0
    have h1 := h 1
    rw [e0] at h0
    rw [e1] at h1
    change _ ≤ (x 0).val ∧ (x 0).val < _ + 1 at h0
    change _ ≤ (x 1).val ∧ (x 1).val < _ + 100352 at h1
    omega
  · rintro ⟨h0, h1⟩ a
    match a with
    | 0 => rw [e0]; show _ ≤ (x 0).val ∧ (x 0).val < _ + 1; omega
    | 1 => rw [e1]; show _ ≤ (x 1).val ∧ (x 1).val < _ + 100352; omega

omit [FloatOps F] in
theorem tn_coords (p : BIx) : tn (coordsV p.1 p.2.1) p.2.2 = (p.2.1.val * 2 + p.1.val) * 6 + p.2.2.val := rfl

omit [FloatOps F] in
theorem bS_disjoint : ∀ p ∈ (Finset.univ : Finset BIx), ∀ p' ∈ (Finset.univ : Finset BIx), p ≠ p' → Disjoint (bS p) (bS p') := by
  intro p _ p' _ hne
  refine Finset.disjoint_left.mpr fun x hx hx' => hne ?_
  rw [mem_bS, tn_coords] at hx hx'
  obtain ⟨c, s, t⟩ := p
  obtain ⟨c', s', t'⟩ := p'
  have ht : t.val < 6 := t.isLt
  have ht' : t'.val < 6 := t'.isLt
  have hc := c.isLt
  have hc' := c'.isLt
  simp only at hx hx'
  refine Prod.ext (Fin.ext ?_) (Prod.ext (Fin.ext ?_) (Fin.ext ?_)) <;> simp only <;> omega

omit [FloatOps F] in
theorem bS_cover : (Finset.univ : Finset BIx).biUnion bS = Finset.univ := by
  refine Finset.eq_univ_of_forall fun x => Finset.mem_biUnion.mpr ?_
  have h0 : (x 0).val < 4 := (x 0).isLt
  have h1 : (x 1).val < 4816896 := (x 1).isLt
  refine ⟨(⟨(48 * (x 0).val + (x 1).val / 100352) / 6 % 2, by omega⟩, ⟨(48 * (x 0).val + (x 1).val / 100352) / 12, by omega⟩,
    ⟨(48 * (x 0).val + (x 1).val / 100352) % 6, show _ < 6 by omega⟩), Finset.mem_univ _, ?_⟩
  rw [mem_bS, tn_coords]
  simp only
  omega

omit [FloatOps F] in
/-- The output whole is the SparseCores' tiles' blocks of it. -/
theorem out_blocks (d : Dev nD) (h : Vec F NOut .f32) :
    (oLoc d ↦{fullShare} h : sProp 𝕄) = bigSep Finset.univ fun c : Fin 2 => bigSep Finset.univ fun i : Fin 16 => oPs d (coordsV c i) h := by
  have e : (oLoc d ↦{fullShare} h : sProp 𝕄) = bigSep Finset.univ fun p : BIx => oLoc d ↦[bS p]{fullShare} h := by
    rw [← pointsTo_biUnion Finset.univ (ℓ := oLoc d) bS bS_disjoint, bS_cover]
  rw [e, BI.bigSep_univ_prod]
  refine BI.bigSep_congr fun c _ => ?_
  rw [BI.bigSep_univ_prod]

/-- The three arrays whole are the SparseCores' parts. -/
theorem cores_eq (d : Dev nD) (f2 : Vec F NSrc .f32) (f5 : Vec F NFl .f32) (h : Vec F NOut .f32) :
    (bigSep Finset.univ fun c : Fin 2 => (forCore d c f2 f5 h : sProp 𝕄))
      = iprop((iLoc d ↦{fullShare} f2) ∗ (lLoc d ↦{fullShare} f5) ∗ oLoc d ↦{fullShare} h) := by
  unfold forCore
  rw [BI.bigSep_sep', BI.bigSep_sep', out_blocks]
  rw [pointsTo_deal (ℓ := iLoc d) (S := Finset.univ) (f := f2) (Finset.univ : Finset (Fin 2)) Finset.univ_nonempty fullShare,
    pointsTo_deal (ℓ := lLoc d) (S := Finset.univ) (f := f5) (Finset.univ : Finset (Fin 2)) Finset.univ_nonempty fullShare]

/-- What the call takes for the SparseCores. -/
theorem st0_eq (d : Dev nD) : (bigSep Finset.univ fun c : Fin ((K (F := F)).nCore 0) => (P A2 A5 A6).st 0 d c)
    = iprop((iLoc d ↦{fullShare} A2 d) ∗ (lLoc d ↦{fullShare} A5 d) ∗ oLoc d ↦{fullShare} A6 d) :=
  (bigSep_cores (F := F) fun c => forCore d c (A2 d) (A5 d) (A6 d)).trans (cores_eq d _ _ _)
/-- What the call hands back. -/
theorem dn0_eq (d : Dev nD) : (bigSep Finset.univ fun c : Fin ((K (F := F)).nCore 0) => (P A2 A5 A6).dn 0 d c)
    = iprop((iLoc d ↦{fullShare} A2 d) ∗ (lLoc d ↦{fullShare} A5 d) ∗ oLoc d ↦{fullShare} out clipIx (A2 d) (A5 d)) :=
  (bigSep_cores (F := F) fun c => forCore d c (A2 d) (A5 d) (out clipIx (A2 d) (A5 d))).trans (cores_eq d _ _ _)

/-- The launch's ghost state. -/
def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P A2 A5 A6).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P A2 A5 A6).x q thr)
      = bigSep Finset.univ fun _ => iprop(emp) from BI.bigSep_congr fun _ _ => bigSep_univ_of_subsingleton (0 : Fin 1), bigSep_emp']
  iempintro

end Launch

end Splat.GI
-- ==== Proof.GI.Run.lean ====
/- The program's whole run over any float values: the arrays the call is given, the host steps around it, and
what the memory holds at the end. -/
module

public import proofs.«01_k».proof.Proof.GI.Launch

@[expose] public section

noncomputable section

namespace Splat.GI

open Cert.GuardedIdeal Cert.GuardedIdeal.Gen
open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx Pay tileRest ownBufs ownSems0 ownCells ownRefs mem_ownCells mem_ownRefs)
open Idealize.ShloMosaic.StableHlo (held held_split held_sdiff_result wp_hlo_within)
open Idealize.ShloMosaic.Transfers (dealOf pointsTo_deal)
open Idealize.ShloMosaic.Tactic

variable {F : FTy → Type} [FloatOps F]

local notation "𝕄" => MT nD τ sig (HIx 1) (Elt F) ℕ UU ℕ

/-- The packed images: the channels in pairs, the rows in chunks. -/
def A2 (x : Vec F S4x96x224x224 .f32) : Vec F NSrc .f32 :=
  shapeCast S4x48x28x3584 (transpose S4x48x28x2x1792 [0, 1, 3, 2, 4]
    (shapeCast S4x48x2x28x1792 x shapeCasts_S4x96x224x224_S4x48x2x28x1792) transposes_S4x48x2x28x1792_S4x48x28x2x1792_0_1_3_2_4)
    shapeCasts_S4x48x28x2x1792_S4x48x28x3584

/-- The packed flow: the rows in chunks, a chunk's x parts before its y parts. -/
def A5 (y : Vec F S4x224x224x2 .f32) : Vec F NFl .f32 :=
  shapeCast S4x28x3584 (transpose S4x28x2x1792 [0, 1, 3, 2]
    (shapeCast S4x28x1792x2 y shapeCasts_S4x224x224x2_S4x28x1792x2) transposes_S4x28x1792x2_S4x28x2x1792_0_1_3_2)
    shapeCasts_S4x28x2x1792_S4x28x3584

/-- The program's result. -/
def Res (x : Vec F S4x96x224x224 .f32) (y : Vec F S4x224x224x2 .f32) : Vec F S4x96x224x224 .f32 :=
  shapeCast S4x96x224x224 (out clipIx (A2 x) (A5 y)) shapeCasts_S4x4816896_S4x96x224x224

/-- The host steps before the call, and the one after it. -/
abbrev op1 : HloOp τ sig (Elt F) := StableHlo.reshape main_arg0 main_v0 (rfl : (.f32 : EltTy) = .f32) shapeCasts_S4x96x224x224_S4x48x2x28x1792
abbrev op2 : HloOp τ sig (Elt F) := StableHlo.unary main_v0 main_v1
  ((transpose S4x48x28x2x1792 [0, 1, 3, 2, 4] · transposes_S4x48x2x28x1792_S4x48x28x2x1792_0_1_3_2_4) :
     (⟨S4x48x2x28x1792, .f32⟩ : BufTy).Contents (Elt F) → (⟨S4x48x28x2x1792, .f32⟩ : BufTy).Contents (Elt F))
abbrev op3 : HloOp τ sig (Elt F) := StableHlo.reshape main_v1 main_v2 (rfl : (.f32 : EltTy) = .f32) shapeCasts_S4x48x28x2x1792_S4x48x28x3584
abbrev op4 : HloOp τ sig (Elt F) := StableHlo.reshape main_arg1 main_v3 (rfl : (.f32 : EltTy) = .f32) shapeCasts_S4x224x224x2_S4x28x1792x2
abbrev op5 : HloOp τ sig (Elt F) := StableHlo.unary main_v3 main_v4
  ((transpose S4x28x2x1792 [0, 1, 3, 2] · transposes_S4x28x1792x2_S4x28x2x1792_0_1_3_2) :
     (⟨S4x28x1792x2, .f32⟩ : BufTy).Contents (Elt F) → (⟨S4x28x2x1792, .f32⟩ : BufTy).Contents (Elt F))
abbrev op6 : HloOp τ sig (Elt F) := StableHlo.reshape main_v4 main_v5 (rfl : (.f32 : EltTy) = .f32) shapeCasts_S4x28x2x1792_S4x28x3584
abbrev op7 : HloOp τ sig (Elt F) := StableHlo.reshape main_v6 main_v7 (rfl : (.f32 : EltTy) = .f32) shapeCasts_S4x4816896_S4x96x224x224

/-- The program's tensor values. -/
abbrev SA : Finset (DevRef τ sig) :=
  {Proc.devRef .tc (main_arg0 : Ref sig .tc), Proc.devRef .tc (main_arg1 : Ref sig .tc), Proc.devRef .tc (main_v0 : Ref sig .tc),
   Proc.devRef .tc (main_v1 : Ref sig .tc), Proc.devRef .tc (main_v2 : Ref sig .tc), Proc.devRef .tc (main_v3 : Ref sig .tc),
   Proc.devRef .tc (main_v4 : Ref sig .tc), Proc.devRef .tc (main_v5 : Ref sig .tc), Proc.devRef .tc (main_v6 : Ref sig .tc),
   Proc.devRef .tc (main_v7 : Ref sig .tc)}
/-- Those beside the call's three. -/
abbrev SR : Finset (DevRef τ sig) :=
  {Proc.devRef .tc (main_arg0 : Ref sig .tc), Proc.devRef .tc (main_arg1 : Ref sig .tc), Proc.devRef .tc (main_v0 : Ref sig .tc),
   Proc.devRef .tc (main_v1 : Ref sig .tc), Proc.devRef .tc (main_v3 : Ref sig .tc),
   Proc.devRef .tc (main_v4 : Ref sig .tc), Proc.devRef .tc (main_v7 : Ref sig .tc)}

omit [FloatOps F] in
/-- A step between two of the program's values touches no other memory. -/
theorem sub2 {x y : Ref sig .tc} (h : ({Proc.devRef .tc x, Proc.devRef .tc y} : Finset (DevRef τ sig)) ⊆ SA := by decide) :
    ({Proc.devRef .tc x, Proc.devRef .tc y} : Finset (DevRef τ sig)) ⊆ SA := h

variable (m : (ℓ : Loc nD τ sig) → Buf (Elt F) ℓ) (ρ : Dev nD → PrngReg)

/-- The memory at the launch, before the call, after it, and at the end. -/
def V0 (d : Dev nD) : Valuation τ sig (Elt F) := fun b => m (d, b)
abbrev V6 (d : Dev nD) : Valuation τ sig (Elt F) :=
  (op6 (F := F)).result ((op5 (F := F)).result ((op4 (F := F)).result ((op3 (F := F)).result ((op2 (F := F)).result ((op1 (F := F)).result (V0 m d))))))
abbrev X (d : Dev nD) : Vec F S4x96x224x224 .f32 := m ((SparseCore.T d).loc main_arg0)
abbrev Y (d : Dev nD) : Vec F S4x224x224x2 .f32 := m ((SparseCore.T d).loc main_arg1)
abbrev I6 (d : Dev nD) : Vec F NOut .f32 := m ((SparseCore.T d).loc main_v6)
def V7 (d : Dev nD) : Valuation τ sig (Elt F) :=
  Function.update (V6 m d) (Proc.devRef .tc (main_v6 : Ref sig .tc)) (out clipIx (A2 (X m d)) (A5 (Y m d)) : Vec F NOut .f32)
abbrev V8 (d : Dev nD) : Valuation τ sig (Elt F) := (op7 (F := F)).result (V7 m d)

theorem V6_v2 (d : Dev nD) : V6 m d (Proc.devRef .tc (main_v2 : Ref sig .tc)) = A2 (X m d) := by
  show StableHlo.after [op1, op2, op3, op4, op5, op6] (V0 m d) (Proc.devRef .tc (main_v2 : Ref sig .tc)) = _
  after_results
  rfl
theorem V6_v5 (d : Dev nD) : V6 m d (Proc.devRef .tc (main_v5 : Ref sig .tc)) = A5 (Y m d) := by
  show StableHlo.after [op1, op2, op3, op4, op5, op6] (V0 m d) (Proc.devRef .tc (main_v5 : Ref sig .tc)) = _
  after_results
  rfl
theorem V6_v6 (d : Dev nD) : V6 m d (Proc.devRef .tc (main_v6 : Ref sig .tc)) = I6 m d := by
  show StableHlo.after [op1, op2, op3, op4, op5, op6] (V0 m d) (Proc.devRef .tc (main_v6 : Ref sig .tc)) = _
  after_results
  rfl
theorem V6_arg0 (d : Dev nD) : V6 m d (Proc.devRef .tc (main_arg0 : Ref sig .tc)) = X m d := by
  show StableHlo.after [op1, op2, op3, op4, op5, op6] (V0 m d) (Proc.devRef .tc (main_arg0 : Ref sig .tc)) = _
  after_results
  rfl
theorem V6_arg1 (d : Dev nD) : V6 m d (Proc.devRef .tc (main_arg1 : Ref sig .tc)) = Y m d := by
  show StableHlo.after [op1, op2, op3, op4, op5, op6] (V0 m d) (Proc.devRef .tc (main_arg1 : Ref sig .tc)) = _
  after_results
  rfl

/-- Away from the call's result, the call changes nothing. -/
theorem V7_ne (d : Dev nD) (b : DevRef τ sig) (h : b ≠ Proc.devRef .tc (main_v6 : Ref sig .tc)) : V7 m d b = V6 m d b :=
  Function.update_of_ne h _ _
theorem V7_v6 (d : Dev nD) : V7 m d (Proc.devRef .tc (main_v6 : Ref sig .tc)) = out clipIx (A2 (X m d)) (A5 (Y m d)) := Function.update_self _ _ _

theorem V8_v7 (d : Dev nD) : V8 m d (Proc.devRef .tc (main_v7 : Ref sig .tc)) = Res (X m d) (Y m d) := by
  unfold V8 op7
  rw [StableHlo.reshape_result', V7_v6]
  rfl
theorem V8_arg0 (d : Dev nD) : V8 m d (Proc.devRef .tc (main_arg0 : Ref sig .tc)) = X m d := by
  unfold V8 op7
  rw [StableHlo.reshape_result_ne' _ _ _ _ _ (by decide), V7_ne m d _ (by decide), V6_arg0]
theorem V8_arg1 (d : Dev nD) : V8 m d (Proc.devRef .tc (main_arg1 : Ref sig .tc)) = Y m d := by
  unfold V8 op7
  rw [StableHlo.reshape_result_ne' _ _ _ _ _ (by decide), V7_ne m d _ (by decide), V6_arg1]

omit [FloatOps F] in
theorem unscoped_held (d : Dev nD) : (unscopedBufs d (fun b => m ((SparseCore.T d).loc b)) : sProp 𝕄) = held (T d) SA (V0 m d) := by
  unfold unscopedBufs held SA
  rw [show (Finset.univ.filter fun b : Ref sig .tc => ¬ b.isScoped)
      = {main_arg0, main_arg1, main_v0, main_v1, main_v2, main_v3, main_v4, main_v5, main_v6, main_v7} by decide]
  iterate 9 rw [SparseCore.bigSep_insert' (by decide)]
  iterate 9 rw [SparseCore.bigSep_insert' (by decide)]
  rw [bigSep_singleton, bigSep_singleton]
  rfl

omit [FloatOps F] in
/-- The call's three arrays, and the others. -/
theorem held_SA (d : Dev nD) (W : Valuation τ sig (Elt F)) :
    (held (T d) SA W : sProp 𝕄) = iprop((iLoc d ↦{fullShare} W (Proc.devRef .tc (main_v2 : Ref sig .tc)))
      ∗ (lLoc d ↦{fullShare} W (Proc.devRef .tc (main_v5 : Ref sig .tc))) ∗ (oLoc d ↦{fullShare} W (Proc.devRef .tc (main_v6 : Ref sig .tc)))
      ∗ held (T d) SR W) := by
  unfold held
  rw [show SA = insert (Proc.devRef .tc (main_v2 : Ref sig .tc)) (insert (Proc.devRef .tc (main_v5 : Ref sig .tc))
    (insert (Proc.devRef .tc (main_v6 : Ref sig .tc)) SR)) by decide]
  rw [SparseCore.bigSep_insert' (by decide), SparseCore.bigSep_insert' (by decide), SparseCore.bigSep_insert' (by decide)]

omit [FloatOps F] in
theorem held_SR (d : Dev nD) (W W' : Valuation τ sig (Elt F)) (h : ∀ b, b ≠ Proc.devRef .tc (main_v6 : Ref sig .tc) → W b = W' b) :
    (held (T d) SR W : sProp 𝕄) = held (T d) SR W' := by
  unfold held
  refine BI.bigSep_congr fun b hb => ?_
  rw [h b (fun e => by subst e; revert hb; decide)]

omit [FloatOps F] in
/-- The result and the arguments, and the others. -/
theorem held_end (d : Dev nD) (W : Valuation τ sig (Elt F)) :
    (held (T d) SA W : sProp 𝕄) = iprop(((SparseCore.T d).loc main_arg0 ↦{fullShare} W (Proc.devRef .tc (main_arg0 : Ref sig .tc)))
      ∗ ((SparseCore.T d).loc main_arg1 ↦{fullShare} W (Proc.devRef .tc (main_arg1 : Ref sig .tc)))
      ∗ ((SparseCore.T d).loc main_v7 ↦{fullShare} W (Proc.devRef .tc (main_v7 : Ref sig .tc)))
      ∗ held (T d) (((SA.erase (Proc.devRef .tc (main_arg0 : Ref sig .tc))).erase (Proc.devRef .tc (main_arg1 : Ref sig .tc))).erase
          (Proc.devRef .tc (main_v7 : Ref sig .tc))) W) := by
  unfold held
  rw [SparseCore.bigSep_erase' (show (Proc.devRef .tc (main_arg0 : Ref sig .tc)) ∈ SA by decide),
    SparseCore.bigSep_erase' (show (Proc.devRef .tc (main_arg1 : Ref sig .tc)) ∈ SA.erase (Proc.devRef .tc (main_arg0 : Ref sig .tc)) by decide),
    SparseCore.bigSep_erase' (show (Proc.devRef .tc (main_v7 : Ref sig .tc)) ∈ (SA.erase (Proc.devRef .tc (main_arg0 : Ref sig .tc))).erase
      (Proc.devRef .tc (main_arg1 : Ref sig .tc)) by decide)]

/-- What the handshakes of this program's call carry. -/
abbrev PP : (K (F := F)).Pay (nD := nD) (Val := Elt F) (Name := ℕ) (U := UU) := P (fun d => A2 (X m d)) (fun d => A5 (Y m d)) (fun d => I6 m d)

/-- What the program leaves: its arguments as they were, its result. -/
abbrev FIN (d : Dev nD) : sProp 𝕄 := iprop(((SparseCore.T d).loc main_arg0 ↦{fullShare} X m d)
  ∗ ((SparseCore.T d).loc main_arg1 ↦{fullShare} Y m d) ∗ ((SparseCore.T d).loc main_v7 ↦{fullShare} Res (X m d) (Y m d)))

/-- The TensorCore's program: the host steps, the call, the last reshape. -/
theorem hmain (κ : GSem nD τ sig → ℕ) (d : Dev nD) :
    iprop((K (F := F)).ctx EH (PP m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := op1) (S := SA) (sub2 (x := main_arg0) (y := main_v0)) (V := V0 m d)) $$ [Hb Hheld]
  · isplitl [Hb] <;> iassumption
  iintro ⟨Hb, Hheld⟩
  rw [wp_ret]; imodintro
  iapply (wp_hlo_within 𝒱 (SparseCore.T d) none Set.univ (op := op2) (S := SA) (sub2 (x := main_v0) (y := main_v1))) $$ [Hb Hheld]
  · isplitl [Hb] <;> iassumption
  iintro ⟨Hb, Hheld⟩
  rw [wp_ret]; imodintro
  iapply (wp_hlo_within 𝒱 (SparseCore.T d) none Set.univ (op := op3) (S := SA) (sub2 (x := main_v1) (y := main_v2))) $$ [Hb Hheld]
  · isplitl [Hb] <;> iassumption
  iintro ⟨Hb, Hheld⟩
  rw [wp_ret]; imodintro
  iapply (wp_hlo_within 𝒱 (SparseCore.T d) none Set.univ (op := op4) (S := SA) (sub2 (x := main_arg1) (y := main_v3))) $$ [Hb Hheld]
  · isplitl [Hb] <;> iassumption
  iintro ⟨Hb, Hheld⟩
  rw [wp_ret]; imodintro
  iapply (wp_hlo_within 𝒱 (SparseCore.T d) none Set.univ (op := op5) (S := SA) (sub2 (x := main_v3) (y := main_v4))) $$ [Hb Hheld]
  · isplitl [Hb] <;> iassumption
  iintro ⟨Hb, Hheld⟩
  rw [wp_ret]; imodintro
  iapply (wp_hlo_within 𝒱 (SparseCore.T d) none Set.univ (op := op6) (S := SA) (sub2 (x := main_v4) (y := main_v5))) $$ [Hb Hheld]
  · isplitl [Hb] <;> iassumption
  iintro ⟨Hb, Hheld⟩
  rw [wp_ret]; imodintro
  ihave Hh := (Entails.of_eq (held_SA (F := F) d (V6 m d))) $$ Hheld
  rw [V6_v2, V6_v5, V6_v6]
  icases Hh with ⟨Hi, Hl, Ho, Hr⟩
  iapply ((K (F := F)).wp_run (D (F := F)) 𝒱 (EH := EH) (P := PP m) κ d 0) $$ [Hst Hi Hl Ho Hb Hr Hts]
  isplitr; · iexact Hctx
  isplitl [Hst]; · iexact Hst
  isplitl [Hi Hl Ho]
  · rw [st0_eq]
    isplitl [Hi]; · iexact Hi
    isplitl [Hl]; · iexact Hl
    iexact Ho
  iintro ⟨Hst, Hdn⟩
  ihave Hdn := (Entails.of_eq (dn0_eq (fun d => A2 (X m d)) (fun d => A5 (Y m d)) (fun d => I6 m d) d)) $$ Hdn
  icases Hdn with ⟨Hi, Hl, Ho⟩
  iapply (wp_hlo_within 𝒱 (SparseCore.T d) none Set.univ (op := op7) (S := SA) (sub2 (x := main_v6) (y := main_v7)) (V := V7 m d)) $$ [Hb Hi Hl Ho Hr]
  · isplitl [Hb]; · iexact Hb
    rw [held_SA, V7_v6, V7_ne m d _ (by decide), V7_ne m d _ (by decide), V6_v2, V6_v5, held_SR d (V7 m d) (V6 m d) (V7_ne m d)]
    isplitl [Hi]; · iexact Hi
    isplitl [Hl]; · iexact Hl
    isplitl [Ho]; · iexact Ho
    iexact Hr
  iintro ⟨Hb, Hheld⟩
  ihave Hh := (Entails.of_eq (held_end (F := F) d (V8 m d))) $$ Hheld
  rw [V8_arg0, V8_arg1, V8_v7]
  icases Hh with ⟨Ha, Hc, Hv, -⟩
  rw [wp_ret]; imodintro; imodintro
  isplitl [Hst]; · iexact Hst
  isplitr [Hb Hts]
  · isplitl [Ha]; · iexact Ha
    isplitl [Hc]; · iexact Hc
    iexact Hv
  isplitl [Hb] <;> iassumption

/-- What device `d`'s memory holds at the end. -/
def fq (d : Dev nD) (s' : Phys nD τ sig (Elt F)) : Prop :=
  s'.mem.mem ((SparseCore.T d).loc main_arg0) = X m d ∧ s'.mem.mem ((SparseCore.T d).loc main_arg1) = Y m d
    ∧ s'.mem.mem ((SparseCore.T d).loc main_v7) = Res (X m d) (Y m d)

theorem hfin (d : Dev nD) (s' : Phys nD τ sig (Elt F)) : iprop(FIN m d ∗ SI s') ⊢ (⌜fq m d s'⌝ : sProp 𝕄) := by
  iintro ⟨⟨Ha, Hc, Hv⟩, HSI⟩
  ihave H := (persistent_entails_right (SI_pointsTo_agree (st := s') (ℓ := (SparseCore.T d).loc main_arg0) (I := Finset.univ) (q := fullShare) (f := X m d))) $$ [HSI Ha]
  · isplitl [HSI] <;> iassumption
  icases H with ⟨%ha, HSI, -⟩
  ihave H := (persistent_entails_right (SI_pointsTo_agree (st := s') (ℓ := (SparseCore.T d).loc main_arg1) (I := Finset.univ) (q := fullShare) (f := Y m d))) $$ [HSI Hc]
  · isplitl [HSI] <;> iassumption
  icases H with ⟨%hc, HSI, -⟩
  ihave H := (SI_pointsTo_agree (st := s') (ℓ := (SparseCore.T d).loc main_v7) (I := Finset.univ) (q := fullShare) (f := Res (X m d) (Y m d))) $$ [HSI Hv]
  · isplitl [HSI] <;> iassumption
  icases H with %hv
  ipureintro
  exact ⟨funext fun i => ha i (Finset.mem_univ i), funext fun i => hc i (Finset.mem_univ i), funext fun i => hv i (Finset.mem_univ i)⟩

/-- The end of a run: arguments as they were, the result, the counters at zero. -/
def QC : PUnit × MemSt nD τ sig (Elt F) → Prop := fun r =>
  (∀ d : Dev nD, r.2.mem ((SparseCore.T d).loc main_arg0) = X m d ∧ r.2.mem ((SparseCore.T d).loc main_arg1) = Y m d
    ∧ r.2.mem ((SparseCore.T d).loc main_v7) = Res (X m d) (Y m d)) ∧ r.2.sem = fun _ => 0

/-- Where the flow names pixels of the accumulator only, the program runs to its end and leaves `Res` of its arguments. -/
theorem run_main [∀ e, Nonempty (Elt F e)] (hfit : ∀ d b, FitsAll clipIx (flOf (A5 (Y m d)) b)) :
    θ_run (Cert.GuardedIdeal.defs (F := F)) (Cert.GuardedIdeal.threads (F := F)) ⟨m, fun _ => 0, ρ⟩ (QC m) :=
  SparseCore.Cfg.θ_run_sc_quiescent (K := K (F := F)) (D := D (F := F)) (𝒱 := 𝒱) (EH := EH) (P := PP m) (A := ∅) facts v₀
    (fun q hq => match q with | 0 => nomatch hq)
    (fun q _ => match q with | 0 => tileObl _ _ _ hfit)
    (fun q _ => match q with | 0 => SparseCore.Cfg.VecSplit.of_plain (vecSplit _ _ _))
    m ρ main (fun _ => iprop(emp)) (FIN m) (u₀ (F := F)) (sep_elim_left.trans (hu₀ _ _ _)) (hmain m ρ) (fq m) (hfin m) (QC m)
    (fun _ h hz => ⟨h, hz⟩)

end Splat.GI
-- ==== Proof.Guarded.lean ====
/- The guarded kernel's claims, for every input: its indices are clipped to the plane, so every indexed add
names places of the accumulator, and the lanes the mask lets through are left where they were. -/
module

public import proofs.«01_k».proof.Proof.GI.Run
public import proofs.«01_k».proof.Proof.Scatter
public import proofs.«01_k».proof.Proof.Frames
public import proofs.«01_k».proof.Proof.Gen.Guarded

@[expose] public section

noncomputable section

namespace Splat

open Idealize.ShloMosaic Idealize.SL.Sem

/-- A word brought between 0 and 50175, compared as signed. -/
abbrev clipWord (w : BitVec 32) : BitVec 32 := IntOp.minsi 50175#32 (IntOp.maxsi 0#32 w)

/-- A lane of the clipped vector is the lane clipped. -/
theorem clipIx_apply (V : IVec N16 32) (i : N16.Idx) : clipIx V i = clipWord (V i) := rfl

/-- A clipped word names a place of a plane. -/
theorem clipWord_lt (w : BitVec 32) : (clipWord w).toNat < 50176 := by
  have hw := w.isLt
  have hz := BitVec.toInt_eq_toNat_cond w
  simp only [clipWord, IntOp.minsi, IntOp.maxsi, BitVec.slt, decide_eq_true_eq]
  split_ifs with h₁ h₂ h₂ <;> simp at * <;> omega

/-- A word that names a place of a plane is left as it is. -/
theorem clipWord_keep (w : BitVec 32) (h : w.toNat < 50176) : clipWord w = w := by
  have hz : w.toInt = w.toNat := BitVec.toInt_eq_toNat_of_lt (by omega)
  have h₀ : IntOp.maxsi 0#32 w = w := if_neg (by simp [BitVec.slt, hz])
  rw [clipWord, h₀]
  exact (ite_eq_right_iff.mpr fun hs => by
    have hc : (50175#32).toInt = 50175 := by decide
    simp only [BitVec.slt, hz, hc, decide_eq_true_eq] at hs
    omega)

/-- Clipping leaves the lanes that name places of a plane. -/
theorem keeps_clip : Keeps clipIx := fun V i h => (clipIx_apply V i).trans (clipWord_keep _ h)

variable {F : FTy → Type} [FloatOps F]

/-- Each of the four positions is a vector the index map was applied to. -/
theorem nb_map (q : IVec N16 32 → IVec N16 32) (X Y : FVec F N16 .f32) (k : Fin 4) : ∃ V, nb q X Y k = q V := by
  fin_cases k
  exacts [⟨_, rfl⟩, ⟨_, rfl⟩, ⟨_, rfl⟩, ⟨_, rfl⟩]

/-- Clipped positions, and those positions in the second plane, name places of the accumulator. -/
theorem inAcc_clip (V : IVec N16 32) : InAcc (clipIx V) ∧ InAcc (plus (clipIx V) 50176#32) := by
  constructor <;> intro a x <;> obtain rfl : a = 0 := Subsingleton.elim _ _ <;> have h := clipWord_lt (V x)
  · show (clipWord (V x)).toNat < 100352
    omega
  · show (clipWord (V x) + 50176#32).toNat < 100352
    rw [BitVec.toNat_add]
    simp only [BitVec.toNat_ofNat]
    omega

/-- Whatever the flow, all eight clipped index vectors of sixteen pixels name places of the accumulator. -/
theorem fits_clip (X Y : FVec F N16 .f32) : Fits clipIx X Y := fun k => by
  obtain ⟨V, hV⟩ := nb_map clipIx X Y k
  rw [hV]
  exact inAcc_clip V

/-- Whatever the flow, every block of every chunk does so. -/
theorem fitsAll_clip (fl : ℕ → Vec F NBuf .f32) : FitsAll clipIx fl := fun _ _ _ _ _ _ => fits_clip _ _

/-- The guarded kernel's frame on the chip's floats, with no precondition. -/
theorem frame_guarded : Cert.quiescent_Guarded := fun m ρ _ =>
  (θ_run Cert.GuardedIdeal.defs _ _).mono
    (fun _ h => ⟨fun c => ⟨(h.1 c).1, (h.1 c).2.1⟩, h.2⟩)
    (GI.run_main (F := Bits) m ρ fun _ _ => fitsAll_clip _)

/-- The guarded kernel's frame on the extended reals, with no precondition. -/
theorem frame_guardedIdeal : Cert.quiescent_GuardedIdeal := fun m ρ _ =>
  (θ_run Cert.GuardedIdeal.defs _ _).mono
    (fun _ h => ⟨fun c => ⟨(h.1 c).1, (h.1 c).2.1⟩, h.2⟩)
    (GI.run_main (F := Ideal) m ρ fun _ _ => fitsAll_clip _)

/-- On the same images and flow the reference's result is the guarded kernel's. -/
theorem result_eq_guarded (V : Valuation Cert.ReferenceIdeal.τ Cert.ReferenceIdeal.sig (Elt Ideal))
    (x : Vec Ideal Cert.GuardedIdeal.S4x96x224x224 .f32) (y : Vec Ideal Cert.GuardedIdeal.S4x224x224x2 .f32)
    (hx : Ref.im V = x) (hy : Ref.flow V = y) : Ref.result V = GI.Res x y := by
  subst hx hy
  funext j
  rw [eq_ix4 j]
  exact (Ref.result_at V (j 0) (j 1) (j 2) (j 3)).trans
    (res_warped clipIx keeps_clip _ _ (fun _ => fitsAll_clip _) (j 0) (j 1) (j 2) (j 3)).symm

/-- From the same images and flow, whatever they are, the guarded kernel and the reference end with the same warped images. -/
theorem algebraic_guarded : Cert.algebraic_GuardedIdeal_ReferenceIdeal := fun m g m' g' _ hsame =>
  ⟨fun c => GI.Res (GI.X m c) (GI.Y m c),
    (θ_run Cert.GuardedIdeal.defs _ _).mono (fun _ h c => ⟨(h.1 c).2.2, (h.1 c).1, (h.1 c).2.1⟩)
      (GI.run_main (F := Ideal) m g fun _ _ => fitsAll_clip _),
    (θ_run Cert.ReferenceIdeal.defs _ _).mono
      (fun _ h c => ⟨(h c).1.trans (result_eq_guarded _ (GI.X m c) (GI.Y m c) (hsame c).1 (hsame c).2), (h c).2⟩)
      (Ref.run_result m' g')⟩

end Splat
-- ==== Proof.lean ====
/- The certificate: the claims of Defs.lean, each from its module. -/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.Guarded
public import proofs.«01_k».proof.Proof.Gen.GuardedIdeal
public import proofs.«01_k».proof.Proof.Gen.GuardedIdeal.Skeleton
public import proofs.«01_k».proof.Proof.Gen.ReferenceIdeal
public import proofs.«01_k».proof.Proof.Gen.ReferenceIdeal.Run
public import proofs.«01_k».proof.Proof.Gen.Pre_in_range
public import proofs.«01_k».proof.Proof.Frames
public import proofs.«01_k».proof.Proof.Value
public import proofs.«01_k».proof.Proof.Guarded
public import Idealize.ShloMosaic.Adequacy
public import Idealize.ShloMosaic.Init

@[expose] public section

noncomputable section

namespace Cert.Proof

open Idealize.ShloMosaic Idealize.SL.Sem Cert.Kernel

/-- Every claim of this certificate. -/
theorem claim : Cert.Claim := ⟨Cert.Kernel.Gen.facts, Cert.KernelIdeal.Gen.facts, Cert.ReferenceIdeal.Gen.facts,
  Cert.Guarded.Gen.facts, Cert.GuardedIdeal.Gen.facts, Cert.Pre_in_range.Gen.facts,
  Splat.frame_kernel, Splat.frame_kernelIdeal, Splat.frame_referenceIdeal, Splat.frame_referenceIdeal_in_range,
  Splat.frame_guarded, Splat.frame_guardedIdeal, trivial, Splat.algebraic, trivial, Splat.algebraic_guarded⟩

end Cert.Proof

end
